-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_experts_exist : Cert.Pre_experts_exist.Facts] (m : (ℓ : Loc Cert.Kernel3.nD Cert.Kernel3.τ Cert.Kernel3.sig) → Buf (Elt Bits) ℓ) : Prop :=
  ∀ c : Dev Cert.Kernel3.nD,
    (Cert.Pre_experts_exist.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6))) = (fun _ => 1#1)

def Pre_Kernel3Ideal [hPre_experts_exist : Cert.Pre_experts_exist.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_experts_exist.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_experts_exist [hPre_experts_exist : Cert.Pre_experts_exist.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_experts_exist.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 [hPre_experts_exist4 : Cert.Pre_experts_exist4.Facts] (m : (ℓ : Loc Cert.Kernel4.nD Cert.Kernel4.τ Cert.Kernel4.sig) → Buf (Elt Bits) ℓ) : Prop :=
  ∀ c : Dev Cert.Kernel4.nD,
    (Cert.Pre_experts_exist4.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5))) = (fun _ => 1#1)

def Pre_Kernel4Ideal [hPre_experts_exist4 : Cert.Pre_experts_exist4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_experts_exist4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_experts_exist4 [hPre_experts_exist4 : Cert.Pre_experts_exist4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_experts_exist4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] [hPre_experts_exist : Cert.Pre_experts_exist.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] [hPre_experts_exist : Cert.Pre_experts_exist.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_experts_exist [hReference3Ideal : Cert.Reference3Ideal.Facts] [hPre_experts_exist : Cert.Pre_experts_exist.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_experts_exist m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] [hPre_experts_exist4 : Cert.Pre_experts_exist4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] [hPre_experts_exist4 : Cert.Pre_experts_exist4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_experts_exist4 [hReference4Ideal : Cert.Reference4Ideal.Facts] [hPre_experts_exist4 : Cert.Pre_experts_exist4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_experts_exist4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)) (v2 : (c : Dev Cert.Kernel2Ideal.nD) → Buf (Elt Ideal) ((c.tc : Thread Cert.Kernel2Ideal.nD Cert.Kernel2Ideal.τ).loc Cert.Kernel2Ideal.main_v6_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_v6_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_v10) = v1 c
          ∧ r.2.mem ((c.tc : Thread Cert.Reference2Ideal.nD Cert.Reference2Ideal.τ).loc Cert.Reference2Ideal.main_v12) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] [hPre_experts_exist : Cert.Pre_experts_exist.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v46) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] [hPre_experts_exist4 : Cert.Pre_experts_exist4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v42) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_scores : Cert.Pre_finite_scores.Facts) (hPre_experts_exist : Cert.Pre_experts_exist.Facts) (hPre_experts_exist4 : Cert.Pre_experts_exist4.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_experts_exist := hPre_experts_exist)
    ∧ quiescent_Kernel3Ideal (hKernel3Ideal := hKernel3Ideal) (hPre_experts_exist := hPre_experts_exist)
    ∧ quiescent_Reference3Ideal (hReference3Ideal := hReference3Ideal)
    ∧ quiescent_Reference3Ideal_pre_experts_exist (hReference3Ideal := hReference3Ideal) (hPre_experts_exist := hPre_experts_exist)
    ∧ quiescent_Kernel4 (hKernel4 := hKernel4) (hPre_experts_exist4 := hPre_experts_exist4)
    ∧ quiescent_Kernel4Ideal (hKernel4Ideal := hKernel4Ideal) (hPre_experts_exist4 := hPre_experts_exist4)
    ∧ quiescent_Reference4Ideal (hReference4Ideal := hReference4Ideal)
    ∧ quiescent_Reference4Ideal_pre_experts_exist4 (hReference4Ideal := hReference4Ideal) (hPre_experts_exist4 := hPre_experts_exist4)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_experts_exist := hPre_experts_exist)
    ∧ preserves_Kernel4_Kernel4Ideal
    ∧ algebraic_Kernel4Ideal_Reference4Ideal (hKernel4Ideal := hKernel4Ideal) (hReference4Ideal := hReference4Ideal) (hPre_experts_exist4 := hPre_experts_exist4)
-- ==== Pre_experts_exist.lean ====
abbrev S1216 : Shape := ⟨1, ![1216]⟩
abbrev S1 : Shape := ⟨1, ![1]⟩
abbrev S311296x1024 : Shape := ⟨2, ![311296, 1024]⟩
abbrev S4x128x1024x256 : Shape := ⟨4, ![4, 128, 1024, 256]⟩
abbrev S4x128x256x1024 : Shape := ⟨4, ![4, 128, 256, 1024]⟩
abbrev S622592x1024 : Shape := ⟨2, ![622592, 1024]⟩
abbrev S_ : Shape := ⟨0, ![]⟩

class Facts : Prop where
  bcast_S_S1216 : S_.BroadcastsInDim S1216 (![] : Fin 0 → Fin S1216.rank)

variable [Facts]

def fn {F : FTy → Type} [FloatOps F] (main_arg0 : IVec S1216 32) (main_arg1 : IVec S1 32) (main_arg2 : FVec F S311296x1024 .bf16) (main_arg3 : FVec F S4x128x1024x256 .f32) (main_arg4 : FVec F S4x128x1024x256 .f32) (main_arg5 : FVec F S4x128x256x1024 .f32) (main_arg6 : FVec F S622592x1024 .bf16) : IVec S1216 1 :=
  let main_c : IVec S_ 32 := constantI S_ 32 0#32
  let main_v0 : IVec S1216 32 := broadcastInDim S1216 ![] bcast_S_S1216 main_c
  let main_v1 : IVec S1216 1 := cmpi .sge main_arg0 main_v0
  let main_c_0 : IVec S_ 32 := constantI S_ 32 128#32
  let main_v2 : IVec S1216 32 := broadcastInDim S1216 ![] bcast_S_S1216 main_c_0
  let main_v3 : IVec S1216 1 := cmpi .slt main_arg0 main_v2
  let main_v4 : IVec S1216 1 := andi main_v1 main_v3
  main_v4
-- ==== Pre_experts_exist4.lean ====
abbrev S1216 : Shape := ⟨1, ![1216]⟩
abbrev S1 : Shape := ⟨1, ![1]⟩
abbrev S311296x1024 : Shape := ⟨2, ![311296, 1024]⟩
abbrev S4x128x1024x256 : Shape := ⟨4, ![4, 128, 1024, 256]⟩
abbrev S4x128x256x1024 : Shape := ⟨4, ![4, 128, 256, 1024]⟩
abbrev S_ : Shape := ⟨0, ![]⟩

class Facts : Prop where
  bcast_S_S1216 : S_.BroadcastsInDim S1216 (![] : Fin 0 → Fin S1216.rank)

variable [Facts]

def fn {F : FTy → Type} [FloatOps F] (main_arg0 : IVec S1216 32) (main_arg1 : IVec S1 32) (main_arg2 : FVec F S311296x1024 .bf16) (main_arg3 : FVec F S4x128x1024x256 .f32) (main_arg4 : FVec F S4x128x1024x256 .f32) (main_arg5 : FVec F S4x128x256x1024 .f32) : IVec S1216 1 :=
  let main_c : IVec S_ 32 := constantI S_ 32 0#32
  let main_v0 : IVec S1216 32 := broadcastInDim S1216 ![] bcast_S_S1216 main_c
  let main_v1 : IVec S1216 1 := cmpi .sge main_arg0 main_v0
  let main_c_0 : IVec S_ 32 := constantI S_ 32 128#32
  let main_v2 : IVec S1216 32 := broadcastInDim S1216 ![] bcast_S_S1216 main_c_0
  let main_v3 : IVec S1216 1 := cmpi .slt main_arg0 main_v2
  let main_v4 : IVec S1216 1 := andi main_v1 main_v3
  main_v4
-- ==== Pre_finite_scores.lean ====
abbrev S16x4096x1536 : Shape := ⟨3, ![16, 4096, 1536]⟩
abbrev S16x256x1536 : Shape := ⟨3, ![16, 256, 1536]⟩
abbrev S4x8x15x31 : Shape := ⟨4, ![4, 8, 15, 31]⟩
abbrev S16x4096x1024 : Shape := ⟨3, ![16, 4096, 1024]⟩
abbrev S16x256x512 : Shape := ⟨3, ![16, 256, 512]⟩
abbrev S_ : Shape := ⟨0, ![]⟩
abbrev S1x8x15x31 : Shape := ⟨4, ![1, 8, 15, 31]⟩
abbrev S8x15x31 : Shape := ⟨3, ![8, 15, 31]⟩

class Facts : Prop where
  slices_S16x4096x1536_S16x4096x1024_0_0_0 : S16x4096x1536.Slices ![0, 0, 0] S16x4096x1024
  bitsLt_bf16_f32 : FTy.bits .bf16 < FTy.bits .f32
  slices_S16x256x1536_S16x256x512_0_0_512 : S16x256x1536.Slices ![0, 0, 512] S16x256x512
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  bcast_S_S16x256x512 : S_.BroadcastsInDim S16x256x512 (![] : Fin 0 → Fin S16x256x512.rank)
  reducesTo_S16x256x512_S_d0_1_2 : S16x256x512.ReducesTo [0, 1, 2] S_
  slices_S4x8x15x31_S1x8x15x31_0_0_0_0 : S4x8x15x31.Slices ![0, 0, 0, 0] S1x8x15x31
  shapeCasts_S1x8x15x31_S8x15x31 : S1x8x15x31.ShapeCasts S8x15x31
  bcast_S_S8x15x31 : S_.BroadcastsInDim S8x15x31 (![] : Fin 0 → Fin S8x15x31.rank)
  reducesTo_S8x15x31_S_d0_1_2 : S8x15x31.ReducesTo [0, 1, 2] S_

variable [Facts]

def fn_part1 {F : FTy → Type} [FloatOps F] (main_v12 : IVec S_ 1) (main_v17 : IVec S8x15x31 1) (main_c_3 : IVec S_ 1) : IVec S_ 1 :=
  let main_v18 : IVec S_ 1 := (fun x v => Host.reduce IntOp.andi x v reducesTo_S8x15x31_S_d0_1_2 h_S_) main_v17 main_c_3
  let main_v19 : IVec S_ 1 := andi main_v12 main_v18
  main_v19

def fn {F : FTy → Type} [FloatOps F] (main_arg0 : FVec F S16x4096x1536 .bf16) (main_arg1 : FVec F S16x256x1536 .bf16) (main_arg2 : FVec F S4x8x15x31 .f32) : IVec S_ 1 :=
  let main_v0 : FVec F S16x4096x1024 .bf16 := (extractStridedSlice S16x4096x1024 ![0, 0, 0] · slices_S16x4096x1536_S16x4096x1024_0_0_0) main_arg0
  let main_v1 : FVec F S16x4096x1024 .f32 := (extf .f32 · bitsLt_bf16_f32) main_v0
  let main_v2 : FVec F S16x256x512 .bf16 := (extractStridedSlice S16x256x512 ![0, 0, 512] · slices_S16x256x1536_S16x256x512_0_0_512) main_arg1
  let main_v3 : FVec F S16x256x512 .f32 := (extf .f32 · bitsLt_bf16_f32) main_v2
  let main_v4 : FVec F S16x4096x1024 .f32 := Host.absf main_v1
  let main_cst : FVec F S_ .f32 := constant S_ .f32 0x7F800000#32
  let main_v5 : FVec F S16x4096x1024 .f32 := broadcastInDim S16x4096x1024 ![] bcast_S_S16x4096x1024 main_cst
  let main_v6 : IVec S16x4096x1024 1 := cmpf .olt main_v4 main_v5
  let main_c : IVec S_ 1 := constantI S_ 1 1#1
  let main_v7 : IVec S_ 1 := (fun x v => Host.reduce IntOp.andi x v reducesTo_S16x4096x1024_S_d0_1_2 h_S_) main_v6 main_c
  let main_v8 : FVec F S16x256x512 .f32 := Host.absf main_v3
  let main_cst_0 : FVec F S_ .f32 := constant S_ .f32 0x7F800000#32
  let main_v9 : FVec F S16x256x512 .f32 := broadcastInDim S16x256x512 ![] bcast_S_S16x256x512 main_cst_0
  let main_v10 : IVec S16x256x512 1 := cmpf .olt main_v8 main_v9
  let main_c_1 : IVec S_ 1 := constantI S_ 1 1#1
  let main_v11 : IVec S_ 1 := (fun x v => Host.reduce IntOp.andi x v reducesTo_S16x256x512_S_d0_1_2 h_S_) main_v10 main_c_1
  let main_v12 : IVec S_ 1 := andi main_v7 main_v11
  let main_v13 : FVec F S1x8x15x31 .f32 := (extractStridedSlice S1x8x15x31 ![0, 0, 0, 0] · slices_S4x8x15x31_S1x8x15x31_0_0_0_0) main_arg2
  let main_v14 : FVec F S8x15x31 .f32 := shapeCast S8x15x31 main_v13 shapeCasts_S1x8x15x31_S8x15x31
  let main_v15 : FVec F S8x15x31 .f32 := Host.absf main_v14
  let main_cst_2 : FVec F S_ .f32 := constant S_ .f32 0x7F800000#32
  let main_v16 : FVec F S8x15x31 .f32 := broadcastInDim S8x15x31 ![] bcast_S_S8x15x31 main_cst_2
  let main_v17 : IVec S8x15x31 1 := cmpf .olt main_v15 main_v16
  let main_c_3 : IVec S_ 1 := constantI S_ 1 1#1
  fn_part1 (F := F) main_v12 main_v17 main_c_3
-- ==== Kernel.lean ====
abbrev S16x4096x1536 : Shape := ⟨3, ![16, 4096, 1536]⟩
abbrev S16x256x1536 : Shape := ⟨3, ![16, 256, 1536]⟩
abbrev S4x8x15x31 : Shape := ⟨4, ![4, 8, 15, 31]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S31 : Shape := ⟨1, ![31]⟩
abbrev S31x1x1 : Shape := ⟨3, ![31, 1, 1]⟩
abbrev S1x64x64 : Shape := ⟨3, ![1, 64, 64]⟩
abbrev S31x64x64 : Shape := ⟨3, ![31, 64, 64]⟩
abbrev S4x8x15x64x64 : Shape := ⟨5, ![4, 8, 15, 64, 64]⟩
abbrev S1x1x1x64x64 : Shape := ⟨5, ![1, 1, 1, 64, 64]⟩
abbrev S4x8x8x64x64 : Shape := ⟨5, ![4, 8, 8, 64, 64]⟩
abbrev S4x8x1x8x64x64 : Shape := ⟨6, ![4, 8, 1, 8, 64, 64]⟩
abbrev S4x8x8x8x64x64 : Shape := ⟨6, ![4, 8, 8, 8, 64, 64]⟩
abbrev S4x8x8x64x8x64 : Shape := ⟨6, ![4, 8, 8, 64, 8, 64]⟩
abbrev S4x2x4x8x64x512 : Shape := ⟨6, ![4, 2, 4, 8, 64, 512]⟩
abbrev S4x2x8x4x64x512 : Shape := ⟨6, ![4, 2, 8, 4, 64, 512]⟩
abbrev S4x2x8x256x512 : Shape := ⟨5, ![4, 2, 8, 256, 512]⟩
abbrev S16x4096x512 : Shape := ⟨3, ![16, 4096, 512]⟩
abbrev S1x512x256 : Shape := ⟨3, ![1, 512, 256]⟩
abbrev S1x4096x256 : Shape := ⟨3, ![1, 4096, 256]⟩
abbrev S1x256x256 : Shape := ⟨3, ![1, 256, 256]⟩
abbrev S1x1x8x256x512 : Shape := ⟨5, ![1, 1, 8, 256, 512]⟩
abbrev S256x256 : Shape := ⟨2, ![256, 256]⟩
abbrev S1x64x256 : Shape := ⟨3, ![1, 64, 256]⟩
abbrev S64x256 : Shape := ⟨2, ![64, 256]⟩
abbrev S512x256 : Shape := ⟨2, ![512, 256]⟩
abbrev S256x512 : Shape := ⟨2, ![256, 512]⟩
abbrev S1x1x1x256x512 : Shape := ⟨5, ![1, 1, 1, 256, 512]⟩
abbrev S256 : Shape := ⟨1, ![256]⟩
abbrev S256x1 : Shape := ⟨2, ![256, 1]⟩

abbrev nBuf : Space → Nat
  | .hbm => 80
  | .vmem => 14
  | .smem => 0
  | _ => 0

abbrev bufTy : (tb : Table) → Fin (tcTables nBuf tb) → BufTy
  | .hbm, ⟨0, _⟩ => ⟨S16x4096x1536, .bf16⟩
  | .hbm, ⟨1, _⟩ => ⟨S16x256x1536, .bf16⟩
  | .hbm, ⟨2, _⟩ => ⟨S4x8x15x31, .f32⟩
  | .hbm, ⟨3, _⟩ => ⟨S64, .i32⟩
  | .hbm, ⟨4, _⟩ => ⟨S_, .i32⟩
  | .hbm, ⟨5, _⟩ => ⟨S64, .i32⟩
  | .hbm, ⟨6, _⟩ => ⟨S64, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S64, .i32⟩
  | .hbm, ⟨16, _⟩ => ⟨S1x64, .i32⟩
  | .hbm, ⟨17, _⟩ => ⟨S64x1, .i32⟩
  | .hbm, ⟨18, _⟩ => ⟨S64x64, .i32⟩
  | .hbm, ⟨19, _⟩ => ⟨S64x64, .i32⟩
  | .hbm, ⟨20, _⟩ => ⟨S64x64, .i1⟩
  | .hbm, ⟨21, _⟩ => ⟨S1x64, .i32⟩
  | .hbm, ⟨22, _⟩ => ⟨S64x1, .i32⟩
  | .hbm, ⟨23, _⟩ => ⟨S_, .i32⟩
  | .hbm, ⟨24, _⟩ => ⟨S64x1, .i32⟩
  | .hbm, ⟨25, _⟩ => ⟨S64x1, .i32⟩
  | .hbm, ⟨26, _⟩ => ⟨S64x64, .i32⟩
  | .hbm, ⟨27, _⟩ => ⟨S64x64, .i32⟩
  | .hbm, ⟨28, _⟩ => ⟨S64x64, .i1⟩
  | .hbm, ⟨29, _⟩ => ⟨S64x64, .i1⟩
  | .hbm, ⟨30, _⟩ => ⟨S1x64, .i32⟩
  | .hbm, ⟨31, _⟩ => ⟨S64x1, .i32⟩
  | .hbm, ⟨32, _⟩ => ⟨S64x64, .i32⟩
  | .hbm, ⟨33, _⟩ => ⟨S64x64, .i32⟩
  | .hbm, ⟨34, _⟩ => ⟨S64x64, .i32⟩
  | .hbm, ⟨35, _⟩ => ⟨S_, .i32⟩
  | .hbm, ⟨36, _⟩ => ⟨S64x64, .i32⟩
  | .hbm, ⟨37, _⟩ => ⟨S64x64, .i32⟩
  | .hbm, ⟨38, _⟩ => ⟨S_, .i32⟩
  | .hbm, ⟨39, _⟩ => ⟨S64x64, .i32⟩
  | .hbm, ⟨40, _⟩ => ⟨S64x64, .i32⟩
  | .hbm, ⟨41, _⟩ => ⟨S31, .i32⟩
  | .hbm, ⟨42, _⟩ => ⟨S31x1x1, .i32⟩
  | .hbm, ⟨43, _⟩ => ⟨S1x64x64, .i32⟩
  | .hbm, ⟨44, _⟩ => ⟨S31x64x64, .i32⟩
  | .hbm, ⟨45, _⟩ => ⟨S31x64x64, .i32⟩
  | .hbm, ⟨46, _⟩ => ⟨S31x64x64, .i1⟩
  | .hbm, ⟨47, _⟩ => ⟨S1x64x64, .i1⟩
  | .hbm, ⟨48, _⟩ => ⟨S31x64x64, .i1⟩
  | .hbm, ⟨49, _⟩ => ⟨S31x64x64, .i1⟩
  | .hbm, ⟨50, _⟩ => ⟨S31x64x64, .f32⟩
  | .hbm, ⟨51, _⟩ => ⟨S4x8x15x64x64, .f32⟩
  | .hbm, ⟨52, _⟩ => ⟨S1x1x1x64x64, .i1⟩
  | .hbm, ⟨53, _⟩ => ⟨S_, .f32⟩
  | .hbm, ⟨54, _⟩ => ⟨S_, .f32⟩
  | .hbm, ⟨55, _⟩ => ⟨S4x8x15x64x64, .i1⟩
  | .hbm, ⟨56, _⟩ => ⟨S4x8x15x64x64, .f32⟩
  | .hbm, ⟨57, _⟩ => ⟨S4x8x15x64x64, .f32⟩
  | .hbm, ⟨58, _⟩ => ⟨S4x8x8x64x64, .f32⟩
  | .hbm, ⟨59, _⟩ => ⟨S4x8x8x64x64, .f32⟩
  | .hbm, ⟨60, _⟩ => ⟨S4x8x8x64x64, .f32⟩
  | .hbm, ⟨61, _⟩ => ⟨S4x8x8x64x64, .f32⟩
  | .hbm, ⟨62, _⟩ => ⟨S4x8x8x64x64, .f32⟩
  | .hbm, ⟨63, _⟩ => ⟨S4x8x8x64x64, .f32⟩
  | .hbm, ⟨64, _⟩ => ⟨S4x8x8x64x64, .f32⟩
  | .hbm, ⟨65, _⟩ => ⟨S4x8x8x64x64, .f32⟩
  | .hbm, ⟨66, _⟩ => ⟨S4x8x1x8x64x64, .f32⟩
  | .hbm, ⟨67, _⟩ => ⟨S4x8x1x8x64x64, .f32⟩
  | .hbm, ⟨68, _⟩ => ⟨S4x8x1x8x64x64, .f32⟩
  | .hbm, ⟨69, _⟩ => ⟨S4x8x1x8x64x64, .f32⟩
  | .hbm, ⟨70, _⟩ => ⟨S4x8x1x8x64x64, .f32⟩
  | .hbm, ⟨71, _⟩ => ⟨S4x8x1x8x64x64, .f32⟩
  | .hbm, ⟨72, _⟩ => ⟨S4x8x1x8x64x64, .f32⟩
  | .hbm, ⟨73, _⟩ => ⟨S4x8x1x8x64x64, .f32⟩
  | .hbm, ⟨74, _⟩ => ⟨S4x8x8x8x64x64, .f32⟩
  | .hbm, ⟨75, _⟩ => ⟨S4x8x8x64x8x64, .f32⟩
  | .hbm, ⟨76, _⟩ => ⟨S4x2x4x8x64x512, .f32⟩
  | .hbm, ⟨77, _⟩ => ⟨S4x2x8x4x64x512, .f32⟩
  | .hbm, ⟨78, _⟩ => ⟨S4x2x8x256x512, .f32⟩
  | .hbm, ⟨79, _⟩ => ⟨S16x4096x512, .bf16⟩
  | .local _ .vmem, ⟨0, _⟩ => ⟨S1x512x256, .bf16⟩
  | .local _ .vmem, ⟨1, _⟩ => ⟨S1x512x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x1x8x256x512, .f32⟩
  | .local _ .vmem, ⟨11, _⟩ => ⟨S1x1x8x256x512, .f32⟩
  | .local _ .vmem, ⟨12, _⟩ => ⟨S1x512x256, .bf16⟩
  | .local _ .vmem, ⟨13, _⟩ => ⟨S1x512x256, .bf16⟩
  | _, _ => ⟨S16x4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![16, 2, 8], ![false, false, false]⟩

def k0_mult1 : BitVec 32 :=
  let c0_i32 : BitVec 32 := 0#32
  let c64_i32 : BitVec 32 := 64#32
  let v12 : BitVec 32 := Scalar.muli c0_i32 c64_i32
  v12
def k0_off1 (c0_i32 : BitVec 32) : Fin 3 → Nat :=
  let c0_7 : Index := 0#32
  let c64_i32 : BitVec 32 := 64#32
  let v12 : BitVec 32 := Scalar.muli c0_i32 c64_i32
  let v13 : BitVec 32 := v12
  let v14 : Index := Scalar.indexCast v13
  let c0_8 : Index := 0#32
  ![0, v14.toNat, 0]
def k0_mult2 (i : grid0.Coords) : BitVec 32 :=
  let c56_i32 : BitVec 32 := 56#32
  let c0_i32_5 : BitVec 32 := 0#32
  let arg2 : BitVec 32 := BitVec.ofNat 32 (i 2).val
  let c8_i32 : BitVec 32 := 8#32
  let v4 : BitVec 32 := Scalar.muli arg2 c8_i32
  let c0_i32 : BitVec 32 := 0#32
  let v5 : BitVec 32 := Scalar.addi v4 c0_i32
  let c4_i32 : BitVec 32 := 4#32
  let v6 : BitVec 32 := Scalar.subi v5 c4_i32
  let v7 : BitVec 32 := Scalar.maxsi c0_i32_5 v6
  let v8 : BitVec 32 := Scalar.minsi c56_i32 v7
  let c64_i32_21 : BitVec 32 := 64#32
  let v59 : BitVec 32 := Scalar.muli v8 c64_i32_21
  v59
def k0_off2 (i : grid0.Coords) (c0_i32 : BitVec 32) : Fin 3 → Nat :=
  let c0_22 : Index := 0#32
  let c56_i32 : BitVec 32 := 56#32
  let c0_i32_5 : BitVec 32 := 0#32
  let arg2 : BitVec 32 := BitVec.ofNat 32 (i 2).val
  let c8_i32 : BitVec 32 := 8#32
  let v4 : BitVec 32 := Scalar.muli arg2 c8_i32
  let v5 : BitVec 32 := Scalar.addi v4 c0_i32
  let c4_i32 : BitVec 32 := 4#32
  let v6 : BitVec 32 := Scalar.subi v5 c4_i32
  let v7 : BitVec 32 := Scalar.maxsi c0_i32_5 v6
  let v8 : BitVec 32 := Scalar.minsi c56_i32 v7
  let c64_i32_21 : BitVec 32 := 64#32
  let v59 : BitVec 32 := Scalar.muli v8 c64_i32_21
  let v60 : BitVec 32 := v59
  let v61 : Index := Scalar.indexCast v60
  let c0_23 : Index := 0#32
  ![0, v61.toNat, 0]
def k0_off3 (i : grid0.Coords) (c0_i32 : BitVec 32) : Fin 5 → Nat :=
  let c0_28 : Index := 0#32
  let c0_29 : Index := 0#32
  let c56_i32 : BitVec 32 := 56#32
  let c0_i32_5 : BitVec 32 := 0#32
  let arg2 : BitVec 32 := BitVec.ofNat 32 (i 2).val
  let c8_i32 : BitVec 32 := 8#32
  let v4 : BitVec 32 := Scalar.muli arg2 c8_i32
  let v5 : BitVec 32 := Scalar.addi v4 c0_i32
  let c4_i32 : BitVec 32 := 4#32
  let v6 : BitVec 32 := Scalar.subi v5 c4_i32
  let v7 : BitVec 32 := Scalar.maxsi c0_i32_5 v6
  let v8 : BitVec 32 := Scalar.minsi c56_i32 v7
  let v9 : BitVec 32 := Scalar.subi v8 v5
  let c8_i32_6 : BitVec 32 := 8#32
  let v10 : BitVec 32 := Scalar.addi v9 c8_i32_6
  let c1_i32 : BitVec 32 := 1#32
  let v11 : BitVec 32 := Scalar.subi v10 c1_i32
  let v70 : Index := Scalar.indexCast v11
  let c0_30 : Index := 0#32
  let c0_31 : Index := 0#32
  ![0, 0, v70.toNat, 0, 0]
def k0_mult3 : BitVec 32 :=
  let c0_i32 : BitVec 32 := 0#32
  let c64_i32_52 : BitVec 32 := 64#32
  let v143 : BitVec 32 := Scalar.muli c0_i32 c64_i32_52
  v143
def k0_mult4 : BitVec 32 :=
  let c1_i32_55 : BitVec 32 := 1#32
  let c64_i32_62 : BitVec 32 := 64#32
  let v157 : BitVec 32 := Scalar.muli c1_i32_55 c64_i32_62
  v157
def k0_mult5 (i : grid0.Coords) : BitVec 32 :=
  let c56_i32_59 : BitVec 32 := 56#32
  let c0_i32_58 : BitVec 32 := 0#32
  let arg2 : BitVec 32 := BitVec.ofNat 32 (i 2).val
  let c8_i32_56 : BitVec 32 := 8#32
  let v149 : BitVec 32 := Scalar.muli arg2 c8_i32_56
  let c1_i32_55 : BitVec 32 := 1#32
  let v150 : BitVec 32 := Scalar.addi v149 c1_i32_55
  let c4_i32_57 : BitVec 32 := 4#32
  let v151 : BitVec 32 := Scalar.subi v150 c4_i32_57
  let v152 : BitVec 32 := Scalar.maxsi c0_i32_58 v151
  let v153 : BitVec 32 := Scalar.minsi c56_i32_59 v152
  let c64_i32_80 : BitVec 32 := 64#32
  let v204 : BitVec 32 := Scalar.muli v153 c64_i32_80
  v204
def k0_mult6 : BitVec 32 :=
  let c1_i32_55 : BitVec 32 := 1#32
  let c64_i32_111 : BitVec 32 := 64#32
  let v288 : BitVec 32 := Scalar.muli c1_i32_55 c64_i32_111
  v288
def k0_mult7 : BitVec 32 :=
  let c2_i32_114 : BitVec 32 := 2#32
  let c64_i32_121 : BitVec 32 := 64#32
  let v302 : BitVec 32 := Scalar.muli c2_i32_114 c64_i32_121
  v302
def k0_mult8 (i : grid0.Coords) : BitVec 32 :=
  let c56_i32_118 : BitVec 32 := 56#32
  let c0_i32_117 : BitVec 32 := 0#32
  let arg2 : BitVec 32 := BitVec.ofNat 32 (i 2).val
  let c8_i32_115 : BitVec 32 := 8#32
  let v294 : BitVec 32 := Scalar.muli arg2 c8_i32_115
  let c2_i32_114 : BitVec 32 := 2#32
  let v295 : BitVec 32 := Scalar.addi v294 c2_i32_114
  let c4_i32_116 : BitVec 32 := 4#32
  let v296 : BitVec 32 := Scalar.subi v295 c4_i32_116
  let v297 : BitVec 32 := Scalar.maxsi c0_i32_117 v296
  let v298 : BitVec 32 := Scalar.minsi c56_i32_118 v297
  let c64_i32_139 : BitVec 32 := 64#32
  let v349 : BitVec 32 := Scalar.muli v298 c64_i32_139
  v349
def k0_mult9 : BitVec 32 :=
  let c2_i32_114 : BitVec 32 := 2#32
  let c64_i32_170 : BitVec 32 := 64#32
  let v433 : BitVec 32 := Scalar.muli c2_i32_114 c64_i32_170
  v433
def k0_mult10 : BitVec 32 :=
  let c3_i32_173 : BitVec 32 := 3#32
  let c64_i32_180 : BitVec 32 := 64#32
  let v447 : BitVec 32 := Scalar.muli c3_i32_173 c64_i32_180
  v447
def k0_mult11 (i : grid0.Coords) : BitVec 32 :=
  let c56_i32_177 : BitVec 32 := 56#32
  let c0_i32_176 : BitVec 32 := 0#32
  let arg2 : BitVec 32 := BitVec.ofNat 32 (i 2).val
  let c8_i32_174 : BitVec 32 := 8#32
  let v439 : BitVec 32 := Scalar.muli arg2 c8_i32_174
  let c3_i32_173 : BitVec 32 := 3#32
  let v440 : BitVec 32 := Scalar.addi v439 c3_i32_173
  let c4_i32_175 : BitVec 32 := 4#32
  let v441 : BitVec 32 := Scalar.subi v440 c4_i32_175
  let v442 : BitVec 32 := Scalar.maxsi c0_i32_176 v441
  let v443 : BitVec 32 := Scalar.minsi c56_i32_177 v442
  let c64_i32_198 : BitVec 32 := 64#32
  let v494 : BitVec 32 := Scalar.muli v443 c64_i32_198
  v494
def k0_mult12 : BitVec 32 :=
  let c3_i32_173 : BitVec 32 := 3#32
  let c64_i32_229 : BitVec 32 := 64#32
  let v578 : BitVec 32 := Scalar.muli c3_i32_173 c64_i32_229
  v578
def k0_mult13 : BitVec 32 :=
  let c4_i32_232 : BitVec 32 := 4#32
  let c64_i32_239 : BitVec 32 := 64#32
  let v592 : BitVec 32 := Scalar.muli c4_i32_232 c64_i32_239
  v592
def k0_mult14 (i : grid0.Coords) : BitVec 32 :=
  let c56_i32_236 : BitVec 32 := 56#32
  let c0_i32_235 : BitVec 32 := 0#32
  let arg2 : BitVec 32 := BitVec.ofNat 32 (i 2).val
  let c8_i32_233 : BitVec 32 := 8#32
  let v584 : BitVec 32 := Scalar.muli arg2 c8_i32_233
  let c4_i32_232 : BitVec 32 := 4#32
  let v585 : BitVec 32 := Scalar.addi v584 c4_i32_232
  let c4_i32_234 : BitVec 32 := 4#32
  let v586 : BitVec 32 := Scalar.subi v585 c4_i32_234
  let v587 : BitVec 32 := Scalar.maxsi c0_i32_235 v586
  let v588 : BitVec 32 := Scalar.minsi c56_i32_236 v587
  let c64_i32_257 : BitVec 32 := 64#32
  let v639 : BitVec 32 := Scalar.muli v588 c64_i32_257
  v639
def k0_mult15 : BitVec 32 :=
  let c4_i32_232 : BitVec 32 := 4#32
  let c64_i32_288 : BitVec 32 := 64#32
  let v723 : BitVec 32 := Scalar.muli c4_i32_232 c64_i32_288
  v723
def k0_mult16 : BitVec 32 :=
  let c5_i32 : BitVec 32 := 5#32
  let c64_i32_297 : BitVec 32 := 64#32
  let v737 : BitVec 32 := Scalar.muli c5_i32 c64_i32_297
  v737
def k0_mult17 (i : grid0.Coords) : BitVec 32 :=
  let c56_i32_294 : BitVec 32 := 56#32
  let c0_i32_293 : BitVec 32 := 0#32
  let arg2 : BitVec 32 := BitVec.ofNat 32 (i 2).val
  let c8_i32_291 : BitVec 32 := 8#32
  let v729 : BitVec 32 := Scalar.muli arg2 c8_i32_291
  let c5_i32 : BitVec 32 := 5#32
  let v730 : BitVec 32 := Scalar.addi v729 c5_i32
  let c4_i32_292 : BitVec 32 := 4#32
  let v731 : BitVec 32 := Scalar.subi v730 c4_i32_292
  let v732 : BitVec 32 := Scalar.maxsi c0_i32_293 v731
  let v733 : BitVec 32 := Scalar.minsi c56_i32_294 v732
  let c64_i32_315 : BitVec 32 := 64#32
  let v784 : BitVec 32 := Scalar.muli v733 c64_i32_315
  v784
def k0_mult18 : BitVec 32 :=
  let c5_i32 : BitVec 32 := 5#32
  let c64_i32_346 : BitVec 32 := 64#32
  let v868 : BitVec 32 := Scalar.muli c5_i32 c64_i32_346
  v868
def k0_mult19 : BitVec 32 :=
  let c6_i32 : BitVec 32 := 6#32
  let c64_i32_355 : BitVec 32 := 64#32
  let v882 : BitVec 32 := Scalar.muli c6_i32 c64_i32_355
  v882
def k0_mult20 (i : grid0.Coords) : BitVec 32 :=
  let c56_i32_352 : BitVec 32 := 56#32
  let c0_i32_351 : BitVec 32 := 0#32
  let arg2 : BitVec 32 := BitVec.ofNat 32 (i 2).val
  let c8_i32_349 : BitVec 32 := 8#32
  let v874 : BitVec 32 := Scalar.muli arg2 c8_i32_349
  let c6_i32 : BitVec 32 := 6#32
  let v875 : BitVec 32 := Scalar.addi v874 c6_i32
  let c4_i32_350 : BitVec 32 := 4#32
  let v876 : BitVec 32 := Scalar.subi v875 c4_i32_350
  let v877 : BitVec 32 := Scalar.maxsi c0_i32_351 v876
  let v878 : BitVec 32 := Scalar.minsi c56_i32_352 v877
  let c64_i32_373 : BitVec 32 := 64#32
  let v929 : BitVec 32 := Scalar.muli v878 c64_i32_373
  v929
def k0_mult21 : BitVec 32 :=
  let c6_i32 : BitVec 32 := 6#32
  let c64_i32_404 : BitVec 32 := 64#32
  let v1013 : BitVec 32 := Scalar.muli c6_i32 c64_i32_404
  v1013
def k0_mult22 : BitVec 32 :=
  let c7_i32 : BitVec 32 := 7#32
  let c64_i32_413 : BitVec 32 := 64#32
  let v1027 : BitVec 32 := Scalar.muli c7_i32 c64_i32_413
  v1027
def k0_mult23 (i : grid0.Coords) : BitVec 32 :=
  let c56_i32_410 : BitVec 32 := 56#32
  let c0_i32_409 : BitVec 32 := 0#32
  let arg2 : BitVec 32 := BitVec.ofNat 32 (i 2).val
  let c8_i32_407 : BitVec 32 := 8#32
  let v1019 : BitVec 32 := Scalar.muli arg2 c8_i32_407
  let c7_i32 : BitVec 32 := 7#32
  let v1020 : BitVec 32 := Scalar.addi v1019 c7_i32
  let c4_i32_408 : BitVec 32 := 4#32
  let v1021 : BitVec 32 := Scalar.subi v1020 c4_i32_408
  let v1022 : BitVec 32 := Scalar.maxsi c0_i32_409 v1021
  let v1023 : BitVec 32 := Scalar.minsi c56_i32_410 v1022
  let c64_i32_431 : BitVec 32 := 64#32
  let v1074 : BitVec 32 := Scalar.muli v1023 c64_i32_431
  v1074
def k0_mult24 : BitVec 32 :=
  let c7_i32 : BitVec 32 := 7#32
  let c64_i32_462 : BitVec 32 := 64#32
  let v1158 : BitVec 32 := Scalar.muli c7_i32 c64_i32_462
  v1158
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg1.toNat, c0_i32_0.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x8x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S16x4096x1536 : Shape := ⟨3, ![16, 4096, 1536]⟩
abbrev S16x256x1536 : Shape := ⟨3, ![16, 256, 1536]⟩
abbrev S4x8x15x31 : Shape := ⟨4, ![4, 8, 15, 31]⟩
abbrev S1x8x15x31 : Shape := ⟨4, ![1, 8, 15, 31]⟩
abbrev S8x15x31 : Shape := ⟨3, ![8, 15, 31]⟩
abbrev S16x4096x512 : Shape := ⟨3, ![16, 4096, 512]⟩
abbrev S16x256x512 : Shape := ⟨3, ![16, 256, 512]⟩
abbrev S16x4096x8x64 : Shape := ⟨4, ![16, 4096, 8, 64]⟩
abbrev S16x256x8x64 : Shape := ⟨4, ![16, 256, 8, 64]⟩
abbrev S64 : Shape := ⟨1, ![64]⟩
abbrev S_ : Shape := ⟨0, ![]⟩
abbrev S64x1 : Shape := ⟨2, ![64, 1]⟩
abbrev S8 : Shape := ⟨1, ![8]⟩
abbrev S1x8 : Shape := ⟨2, ![1, 8]⟩
abbrev S64x8 : Shape := ⟨2, ![64, 8]⟩
abbrev S16 : Shape := ⟨1, ![16]⟩
abbrev S1x16 : Shape := ⟨2, ![1, 16]⟩
abbrev S64x16 : Shape := ⟨2, ![64, 16]⟩
abbrev S64x1x8x1 : Shape := ⟨4, ![64, 1, 8, 1]⟩
abbrev S1x64x1x16 : Shape := ⟨4, ![1, 64, 1, 16]⟩
abbrev S64x64x8x16 : Shape := ⟨4, ![64, 64, 8, 16]⟩
abbrev S64x64x128 : Shape := ⟨3, ![64, 64, 128]⟩
abbrev S64x64x8x16x1 : Shape := ⟨5, ![64, 64, 8, 16, 1]⟩
abbrev S64x64x8x16x2 : Shape := ⟨5, ![64, 64, 8, 16, 2]⟩
abbrev S8x64x64x8x16 : Shape := ⟨5, ![8, 64, 64, 8, 16]⟩
abbrev S8x64x64x128 : Shape := ⟨4, ![8, 64, 64, 128]⟩
abbrev S64x8x64x128 : Shape := ⟨4, ![64, 8, 64, 128]⟩
abbrev S16x64x64x8x64 : Shape := ⟨5, ![16, 64, 64, 8, 64]⟩
abbrev S64x64x128x1 : Shape := ⟨4, ![64, 64, 128, 1]⟩
abbrev S16x64x64x128x8x64 : Shape := ⟨6, ![16, 64, 64, 128, 8, 64]⟩
abbrev S16x64x8x64x128 : Shape := ⟨5, ![16, 64, 8, 64, 128]⟩
abbrev S1x64x8x64x128 : Shape := ⟨5, ![1, 64, 8, 64, 128]⟩
abbrev S16x8x256x64x64 : Shape := ⟨5, ![16, 8, 256, 64, 64]⟩
abbrev S16x64x8x64x256 : Shape := ⟨5, ![16, 64, 8, 64, 256]⟩
abbrev S16x64x8x64x384 : Shape := ⟨5, ![16, 64, 8, 64, 384]⟩
abbrev S16x64x8x64 : Shape := ⟨4, ![16, 64, 8, 64]⟩
abbrev S16x64x8x64x1 : Shape := ⟨5, ![16, 64, 8, 64, 1]⟩
abbrev S16x8x64x64x64 : Shape := ⟨5, ![16, 8, 64, 64, 64]⟩

abbrev nBuf : Space → Nat
  | .hbm => 162
  | .vmem => 0
  | .smem => 0
  | _ => 0

abbrev hbmTy0_0 (i : Nat) : BufTy := match i % 128 with
  | 0 => ⟨S16x4096x1536, .bf16⟩
  | 1 => ⟨S16x256x1536, .bf16⟩
  | 2 => ⟨S4x8x15x31, .f32⟩
  | 3 => ⟨S1x8x15x31, .f32⟩
  | 4 => ⟨S8x15x31, .f32⟩
  | 5 => ⟨S16x4096x512, .bf16⟩
  | 6 => ⟨S16x4096x512, .bf16⟩
  | 7 => ⟨S16x4096x512, .bf16⟩
  | 8 => ⟨S16x256x512, .bf16⟩
  | 9 => ⟨S16x256x512, .bf16⟩
  | 10 => ⟨S16x256x512, .bf16⟩
  | 11 => ⟨S16x4096x512, .f32⟩
  | 12 => ⟨S16x4096x8x64, .f32⟩
  | 13 => ⟨S16x4096x512, .f32⟩
  | 14 => ⟨S16x4096x8x64, .f32⟩
  | 15 => ⟨S16x4096x512, .f32⟩
  | 16 => ⟨S16x4096x8x64, .f32⟩
  | 17 => ⟨S16x256x512, .f32⟩
  | 18 => ⟨S16x256x8x64, .f32⟩
  | 19 => ⟨S16x256x512, .f32⟩
  | 20 => ⟨S16x256x8x64, .f32⟩
  | 21 => ⟨S64, .i32⟩
  | 22 => ⟨S64, .i32⟩
  | 23 => ⟨S_, .i32⟩
  | 24 => ⟨S64, .i32⟩
  | 25 => ⟨S64, .i32⟩
  | 26 => ⟨S_, .i32⟩
  | 27 => ⟨S_, .i32⟩
  | 28 => ⟨S_, .i32⟩
  | 29 => ⟨S64, .i32⟩
  | 30 => ⟨S64, .i32⟩
  | 31 => ⟨S_, .i32⟩
  | 32 => ⟨S64, .i32⟩
  | 33 => ⟨S64, .i32⟩
  | 34 => ⟨S64x1, .i32⟩
  | 35 => ⟨S8, .i32⟩
  | 36 => ⟨S1x8, .i32⟩
  | 37 => ⟨S64x8, .i32⟩
  | 38 => ⟨S64x8, .i32⟩
  | 39 => ⟨S64x8, .i32⟩
  | 40 => ⟨S_, .i32⟩
  | 41 => ⟨S64, .i32⟩
  | 42 => ⟨S64, .i32⟩
  | 43 => ⟨S_, .i32⟩
  | 44 => ⟨S_, .i32⟩
  | 45 => ⟨S_, .i32⟩
  | 46 => ⟨S64, .i32⟩
  | 47 => ⟨S64, .i32⟩
  | 48 => ⟨S_, .i32⟩
  | 49 => ⟨S64, .i32⟩
  | 50 => ⟨S64, .i32⟩
  | 51 => ⟨S64x1, .i32⟩
  | 52 => ⟨S16, .i32⟩
  | 53 => ⟨S1x16, .i32⟩
  | 54 => ⟨S64x16, .i32⟩
  | 55 => ⟨S64x16, .i32⟩
  | 56 => ⟨S64x16, .i32⟩
  | 57 => ⟨S64x1x8x1, .i32⟩
  | 58 => ⟨S_, .i32⟩
  | 59 => ⟨S64x1x8x1, .i32⟩
  | 60 => ⟨S64x1x8x1, .i32⟩
  | 61 => ⟨S1x64x1x16, .i32⟩
  | 62 => ⟨S64x64x8x16, .i32⟩
  | 63 => ⟨S64x64x8x16, .i32⟩
  | 64 => ⟨S64x64x8x16, .i32⟩
  | 65 => ⟨S64x64x128, .i32⟩
  | 66 => ⟨S64x1, .i32⟩
  | 67 => ⟨S64x8, .i32⟩
  | 68 => ⟨S64x8, .i32⟩
  | 69 => ⟨S_, .i32⟩
  | 70 => ⟨S64x8, .i32⟩
  | 71 => ⟨S64x8, .i32⟩
  | 72 => ⟨S_, .i32⟩
  | 73 => ⟨S64x8, .i32⟩
  | 74 => ⟨S64x8, .i32⟩
  | 75 => ⟨S64x1, .i32⟩
  | 76 => ⟨S64x16, .i32⟩
  | 77 => ⟨S64x16, .i32⟩
  | 78 => ⟨S_, .i32⟩
  | 79 => ⟨S64x16, .i32⟩
  | 80 => ⟨S64x16, .i32⟩
  | 81 => ⟨S_, .i32⟩
  | 82 => ⟨S64x16, .i32⟩
  | 83 => ⟨S64x16, .i32⟩
  | 84 => ⟨S64x1x8x1, .i32⟩
  | 85 => ⟨S1x64x1x16, .i32⟩
  | 86 => ⟨S_, .i32⟩
  | 87 => ⟨S64x1x8x1, .i32⟩
  | 88 => ⟨S64x1x8x1, .i1⟩
  | 89 => ⟨S_, .i32⟩
  | 90 => ⟨S64x1x8x1, .i32⟩
  | 91 => ⟨S64x1x8x1, .i32⟩
  | 92 => ⟨S64x1x8x1, .i32⟩
  | 93 => ⟨S_, .i32⟩
  | 94 => ⟨S1x64x1x16, .i32⟩
  | 95 => ⟨S1x64x1x16, .i1⟩
  | 96 => ⟨S_, .i32⟩
  | 97 => ⟨S1x64x1x16, .i32⟩
  | 98 => ⟨S1x64x1x16, .i32⟩
  | 99 => ⟨S1x64x1x16, .i32⟩
  | 100 => ⟨S64x64x8x16, .i32⟩
  | 101 => ⟨S64x64x8x16, .i32⟩
  | 102 => ⟨S64x64x8x16x1, .i32⟩
  | 103 => ⟨S64x64x8x16x1, .i32⟩
  | 104 => ⟨S64x64x8x16x2, .i32⟩
  | 105 => ⟨S8x64x64x8x16, .f32⟩
  | 106 => ⟨S8x64x64x128, .f32⟩
  | 107 => ⟨S64x8x64x128, .f32⟩
  | 108 => ⟨S16x64x64x8x64, .f32⟩
  | 109 => ⟨S_, .i32⟩
  | 110 => ⟨S64x64x128, .i32⟩
  | 111 => ⟨S64x64x128, .i1⟩
  | 112 => ⟨S_, .i32⟩
  | 113 => ⟨S64x64x128, .i32⟩
  | 114 => ⟨S64x64x128, .i32⟩
  | 115 => ⟨S64x64x128, .i32⟩
  | 116 => ⟨S64x64x128x1, .i32⟩
  | 117 => ⟨S16x64x64x128x8x64, .f32⟩
  | 118 => ⟨S_, .i32⟩
  | 119 => ⟨S64x64x128, .i32⟩
  | 120 => ⟨S64x64x128, .i1⟩
  | 121 => ⟨S_, .i32⟩
  | 122 => ⟨S64x64x128, .i32⟩
  | 123 => ⟨S64x64x128, .i32⟩
  | 124 => ⟨S64x64x128, .i32⟩
  | 125 => ⟨S64x64x128x1, .i32⟩
  | 126 => ⟨S16x64x64x128x8x64, .f32⟩
  | 127 => ⟨S16x64x8x64x128, .f32⟩
  | _ => ⟨S16x4096x1536, .bf16⟩

abbrev hbmTy0_1 (i : Nat) : BufTy := match i % 128 with
  | 0 => ⟨S_, .f32⟩
  | 1 => ⟨S16x64x8x64x128, .f32⟩
  | 2 => ⟨S16x64x8x64x128, .f32⟩
  | 3 => ⟨S1x64x8x64x128, .f32⟩
  | 4 => ⟨S16x64x8x64x128, .f32⟩
  | 5 => ⟨S16x64x8x64x128, .f32⟩
  | 6 => ⟨S16x8x256x64x64, .f32⟩
  | 7 => ⟨S16x64x8x64x256, .f32⟩
  | 8 => ⟨S_, .f32⟩
  | 9 => ⟨S16x64x8x64x256, .f32⟩
  | 10 => ⟨S16x64x8x64x256, .f32⟩
  | 11 => ⟨S16x64x8x64x384, .f32⟩
  | 12 => ⟨S_, .f32⟩
  | 13 => ⟨S16x64x8x64, .f32⟩
  | 14 => ⟨S_, .f32⟩
  | 15 => ⟨S16x64x8x64, .f32⟩
  | 16 => ⟨S16x64x8x64, .f32⟩
  | 17 => ⟨S16x64x8x64x1, .f32⟩
  | 18 => ⟨S16x64x8x64x384, .f32⟩
  | 19 => ⟨S16x64x8x64x384, .f32⟩
  | 20 => ⟨S16x64x8x64x384, .f32⟩
  | 21 => ⟨S_, .f32⟩
  | 22 => ⟨S16x64x8x64, .f32⟩
  | 23 => ⟨S16x64x8x64x1, .f32⟩
  | 24 => ⟨S16x64x8x64x384, .f32⟩
  | 25 => ⟨S16x64x8x64x384, .f32⟩
  | 26 => ⟨S16x64x8x64x128, .f32⟩
  | 27 => ⟨S16x64x64x8x64, .f32⟩
  | 28 => ⟨S16x64x8x64x256, .f32⟩
  | 29 => ⟨S16x8x64x64x64, .f32⟩
  | 30 => ⟨S16x64x64x8x64, .f32⟩
  | 31 => ⟨S16x64x64x8x64, .f32⟩
  | 32 => ⟨S16x4096x512, .f32⟩
  | 33 => ⟨S16x4096x512, .bf16⟩
  | _ => ⟨S16x4096x1536, .bf16⟩

abbrev hbmTy (i : Nat) : BufTy := match i / 128 with
  | 0 => hbmTy0_0 i
  | 1 => hbmTy0_1 i
  | _ => ⟨S16x4096x1536, .bf16⟩

abbrev bufTy : (tb : Table) → Fin (tcTables nBuf tb) → BufTy
  | .hbm, ⟨i, _⟩ => hbmTy i
  | _, _ => ⟨S16x4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_c : Ref sig .tc := ⟨.hbm, 23, rfl⟩
abbrev main_v20 : Ref sig .tc := ⟨.hbm, 24, rfl⟩
abbrev main_v21 : Ref sig .tc := ⟨.hbm, 25, rfl⟩
abbrev main_c_0 : Ref sig .tc := ⟨.hbm, 26, rfl⟩
abbrev main_c_1 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_2 : Ref sig .tc := ⟨.hbm, 40, rfl⟩
abbrev main_v29 : Ref sig .tc := ⟨.hbm, 41, rfl⟩
abbrev main_v30 : Ref sig .tc := ⟨.hbm, 42, rfl⟩
abbrev main_c_3 : Ref sig .tc := ⟨.hbm, 43, rfl⟩
abbrev main_c_4 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_5 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_6 : Ref sig .tc := ⟨.hbm, 69, rfl⟩
abbrev main_v49 : Ref sig .tc := ⟨.hbm, 70, rfl⟩
abbrev main_v50 : Ref sig .tc := ⟨.hbm, 71, rfl⟩
abbrev main_c_7 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_8 : Ref sig .tc := ⟨.hbm, 78, rfl⟩
abbrev main_v56 : Ref sig .tc := ⟨.hbm, 79, rfl⟩
abbrev main_v57 : Ref sig .tc := ⟨.hbm, 80, rfl⟩
abbrev main_c_9 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_10 : Ref sig .tc := ⟨.hbm, 86, rfl⟩
abbrev main_v62 : Ref sig .tc := ⟨.hbm, 87, rfl⟩
abbrev main_v63 : Ref sig .tc := ⟨.hbm, 88, rfl⟩
abbrev main_c_11 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_12 : Ref sig .tc := ⟨.hbm, 93, rfl⟩
abbrev main_v67 : Ref sig .tc := ⟨.hbm, 94, rfl⟩
abbrev main_v68 : Ref sig .tc := ⟨.hbm, 95, rfl⟩
abbrev main_c_13 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_c_14 : Ref sig .tc := ⟨.hbm, 109, rfl⟩
abbrev main_v81 : Ref sig .tc := ⟨.hbm, 110, rfl⟩
abbrev main_v82 : Ref sig .tc := ⟨.hbm, 111, rfl⟩
abbrev main_c_15 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_c_16 : Ref sig .tc := ⟨.hbm, 118, rfl⟩
abbrev main_v88 : Ref sig .tc := ⟨.hbm, 119, rfl⟩
abbrev main_v89 : Ref sig .tc := ⟨.hbm, 120, rfl⟩
abbrev main_c_17 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_18 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_cst_19 : Ref sig .tc := ⟨.hbm, 140, rfl⟩
abbrev main_v106 : Ref sig .tc := ⟨.hbm, 141, rfl⟩
abbrev main_cst_20 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_cst_21 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩

abbrev nD : Nat := 1
abbrev τ : Topo := Topo.v7x

variable {F : FTy → Type} [FloatOps F]
-- ==== Kernel2.lean ====
abbrev S16x4096x1024 : Shape := ⟨3, ![16, 4096, 1024]⟩
abbrev S16x1x1024 : Shape := ⟨3, ![16, 1, 1024]⟩
abbrev S1024x3104 : Shape := ⟨2, ![1024, 3104]⟩
abbrev S1024x2336 : Shape := ⟨2, ![1024, 2336]⟩
abbrev S_ : Shape := ⟨0, ![]⟩
abbrev S1024x2432 : Shape := ⟨2, ![1024, 2432]⟩
abbrev S1024x768 : Shape := ⟨2, ![1024, 768]⟩
abbrev S768x1024 : Shape := ⟨2, ![768, 1024]⟩
abbrev S16x4096x1536 : Shape := ⟨3, ![16, 4096, 1536]⟩
abbrev S16x4096x896 : Shape := ⟨3, ![16, 4096, 896]⟩
abbrev S16x32x768x128 : Shape := ⟨4, ![16, 32, 768, 128]⟩
abbrev S1x512x1024 : Shape := ⟨3, ![1, 512, 1024]⟩
abbrev S1x1x1024 : Shape := ⟨3, ![1, 1, 1024]⟩
abbrev S1x512x1536 : Shape := ⟨3, ![1, 512, 1536]⟩
abbrev S1x512x896 : Shape := ⟨3, ![1, 512, 896]⟩
abbrev S1x4x768x128 : Shape := ⟨4, ![1, 4, 768, 128]⟩
abbrev S512x1024 : Shape := ⟨2, ![512, 1024]⟩
abbrev S1x1024 : Shape := ⟨2, ![1, 1024]⟩
abbrev S1024x512 : Shape := ⟨2, ![1024, 512]⟩
abbrev S512x512 : Shape := ⟨2, ![512, 512]⟩
abbrev S1x512x512 : Shape := ⟨3, ![1, 512, 512]⟩
abbrev S1024x384 : Shape := ⟨2, ![1024, 384]⟩
abbrev S512x384 : Shape := ⟨2, ![512, 384]⟩
abbrev S1x512x384 : Shape := ⟨3, ![1, 512, 384]⟩
abbrev S768x512 : Shape := ⟨2, ![768, 512]⟩
abbrev S768x128 : Shape := ⟨2, ![768, 128]⟩
abbrev S1x1x768x128 : Shape := ⟨4, ![1, 1, 768, 128]⟩

abbrev nBuf : Space → Nat
  | .hbm => 15
  | .vmem => 14
  | .smem => 0
  | _ => 0

abbrev bufTy : (tb : Table) → Fin (tcTables nBuf tb) → BufTy
  | .hbm, ⟨0, _⟩ => ⟨S16x4096x1024, .f32⟩
  | .hbm, ⟨1, _⟩ => ⟨S16x1x1024, .f32⟩
  | .hbm, ⟨2, _⟩ => ⟨S16x1x1024, .f32⟩
  | .hbm, ⟨3, _⟩ => ⟨S1024x3104, .f32⟩
  | .hbm, ⟨4, _⟩ => ⟨S1024x2336, .f32⟩
  | .hbm, ⟨5, _⟩ => ⟨S_, .i32⟩
  | .hbm, ⟨6, _⟩ => ⟨S_, .f32⟩
  | .hbm, ⟨7, _⟩ => ⟨S1024x2432, .f32⟩
  | .hbm, ⟨8, _⟩ => ⟨S1024x2432, .bf16⟩
  | .hbm, ⟨9, _⟩ => ⟨S1024x768, .f32⟩
  | .hbm, ⟨10, _⟩ => ⟨S768x1024, .f32⟩
  | .hbm, ⟨11, _⟩ => ⟨S768x1024, .bf16⟩
  | .hbm, ⟨12, _⟩ => ⟨S16x4096x1536, .bf16⟩
  | .hbm, ⟨13, _⟩ => ⟨S16x4096x896, .f32⟩
  | .hbm, ⟨14, _⟩ => ⟨S16x32x768x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x2432, .bf16⟩
  | .local _ .vmem, ⟨7, _⟩ => ⟨S768x1024, .bf16⟩
  | .local _ .vmem, ⟨8, _⟩ => ⟨S1x512x1536, .bf16⟩
  | .local _ .vmem, ⟨9, _⟩ => ⟨S1x512x1536, .bf16⟩
  | .local _ .vmem, ⟨10, _⟩ => ⟨S1x512x896, .f32⟩
  | .local _ .vmem, ⟨11, _⟩ => ⟨S1x512x896, .f32⟩
  | .local _ .vmem, ⟨12, _⟩ => ⟨S1x4x768x128, .f32⟩
  | .local _ .vmem, ⟨13, _⟩ => ⟨S1x4x768x128, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x2432 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S768x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x768x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S16x4096x1024 : Shape := ⟨3, ![16, 4096, 1024]⟩
abbrev S16x1x1024 : Shape := ⟨3, ![16, 1, 1024]⟩
abbrev S1024x3104 : Shape := ⟨2, ![1024, 3104]⟩
abbrev S_ : Shape := ⟨0, ![]⟩
abbrev S16x4096x3104 : Shape := ⟨3, ![16, 4096, 3104]⟩
abbrev S16x4096x1536 : Shape := ⟨3, ![16, 4096, 1536]⟩
abbrev S16x4096x800 : Shape := ⟨3, ![16, 4096, 800]⟩
abbrev S16x4096x768 : Shape := ⟨3, ![16, 4096, 768]⟩
abbrev S16x4096x896 : Shape := ⟨3, ![16, 4096, 896]⟩
abbrev S16x32x128x768 : Shape := ⟨4, ![16, 32, 128, 768]⟩
abbrev S16x32x768x128 : Shape := ⟨4, ![16, 32, 768, 128]⟩

abbrev nBuf : Space → Nat
  | .hbm => 21
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x1x1024, .f32⟩
  | .hbm, ⟨2, _⟩ => ⟨S16x1x1024, .f32⟩
  | .hbm, ⟨3, _⟩ => ⟨S1024x3104, .f32⟩
  | .hbm, ⟨4, _⟩ => ⟨S_, .f32⟩
  | .hbm, ⟨5, _⟩ => ⟨S16x1x1024, .f32⟩
  | .hbm, ⟨6, _⟩ => ⟨S16x1x1024, .f32⟩
  | .hbm, ⟨7, _⟩ => ⟨S16x4096x1024, .f32⟩
  | .hbm, ⟨8, _⟩ => ⟨S16x4096x1024, .f32⟩
  | .hbm, ⟨9, _⟩ => ⟨S16x4096x1024, .f32⟩
  | .hbm, ⟨10, _⟩ => ⟨S16x4096x1024, .f32⟩
  | .hbm, ⟨11, _⟩ => ⟨S16x4096x3104, .f32⟩
  | .hbm, ⟨12, _⟩ => ⟨S16x4096x1536, .f32⟩
  | .hbm, ⟨13, _⟩ => ⟨S16x4096x800, .f32⟩
  | .hbm, ⟨14, _⟩ => ⟨S16x4096x768, .f32⟩
  | .hbm, ⟨15, _⟩ => ⟨S_, .i32⟩
  | .hbm, ⟨16, _⟩ => ⟨S_, .f32⟩
  | .hbm, ⟨17, _⟩ => ⟨S16x4096x896, .f32⟩
  | .hbm, ⟨18, _⟩ => ⟨S16x32x128x768, .f32⟩
  | .hbm, ⟨19, _⟩ => ⟨S16x32x768x128, .f32⟩
  | .hbm, ⟨20, _⟩ => ⟨S16x4096x1536, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== Kernel3.lean ====
abbrev S1216 : Shape := ⟨1, ![1216]⟩
abbrev S1 : Shape := ⟨1, ![1]⟩
abbrev S311296x1024 : Shape := ⟨2, ![311296, 1024]⟩
abbrev S4x128x1024x256 : Shape := ⟨4, ![4, 128, 1024, 256]⟩
abbrev S4x128x256x1024 : Shape := ⟨4, ![4, 128, 256, 1024]⟩
abbrev S622592x1024 : Shape := ⟨2, ![622592, 1024]⟩
abbrev S512x1024 : Shape := ⟨2, ![512, 1024]⟩
abbrev S1x1x1024x256 : Shape := ⟨4, ![1, 1, 1024, 256]⟩
abbrev S1x1x256x1024 : Shape := ⟨4, ![1, 1, 256, 1024]⟩
abbrev S1024x256 : Shape := ⟨2, ![1024, 256]⟩
abbrev S256x1024 : Shape := ⟨2, ![256, 1024]⟩
abbrev S512x256 : Shape := ⟨2, ![512, 256]⟩

abbrev nBuf : Space → Nat
  | .hbm => 6
  | .vmem => 13
  | .smem => 2
  | _ => 0

abbrev bufTy : (tb : Table) → Fin (tcTables nBuf tb) → BufTy
  | .hbm, ⟨0, _⟩ => ⟨S311296x1024, .bf16⟩
  | .hbm, ⟨1, _⟩ => ⟨S4x128x1024x256, .f32⟩
  | .hbm, ⟨2, _⟩ => ⟨S4x128x1024x256, .f32⟩
  | .hbm, ⟨3, _⟩ => ⟨S4x128x256x1024, .f32⟩
  | .hbm, ⟨4, _⟩ => ⟨S622592x1024, .bf16⟩
  | .hbm, ⟨5, _⟩ => ⟨S622592x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x256, .f32⟩
  | .local _ .vmem, ⟨3, _⟩ => ⟨S1x1x1024x256, .f32⟩
  | .local _ .vmem, ⟨4, _⟩ => ⟨S1x1x1024x256, .f32⟩
  | .local _ .vmem, ⟨5, _⟩ => ⟨S1x1x1024x256, .f32⟩
  | .local _ .vmem, ⟨6, _⟩ => ⟨S1x1x256x1024, .f32⟩
  | .local _ .vmem, ⟨7, _⟩ => ⟨S1x1x256x1024, .f32⟩
  | .local _ .vmem, ⟨8, _⟩ => ⟨S512x1024, .bf16⟩
  | .local _ .vmem, ⟨9, _⟩ => ⟨S512x1024, .bf16⟩
  | .local _ .vmem, ⟨10, _⟩ => ⟨S1024x256, .bf16⟩
  | .local _ .vmem, ⟨11, _⟩ => ⟨S1024x256, .bf16⟩
  | .local _ .vmem, ⟨12, _⟩ => ⟨S256x1024, .bf16⟩
  | .local _ .smem, ⟨0, _⟩ => ⟨S1216, .i32⟩
  | .local _ .smem, ⟨1, _⟩ => ⟨S1, .i32⟩
  | _, _ => ⟨S311296x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![608], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let c608_i32 : BitVec 32 := 608#32
  let v0 : BitVec 32 := Scalar.addi arg0 c608_i32
  let v1 : Index := Scalar.indexCast v0
  ![v1.toNat]
def k0_off2 (i : grid0.Coords) : Fin 1 → Nat :=
  let arg0 : BitVec 32 := BitVec.ofNat 32 (i 0).val
  let c608_i32 : BitVec 32 := 608#32
  let v0 : BitVec 32 := Scalar.addi arg0 c608_i32
  let c1_i32 : BitVec 32 := 1#32
  let v4 : BitVec 32 := Scalar.subi v0 c1_i32
  let c0_i32_0 : BitVec 32 := 0#32
  let v5 : BitVec 32 := Scalar.maxsi v4 c0_i32_0
  let v6 : Index := Scalar.indexCast v5
  ![v6.toNat]
def k0_cond2 (i : grid0.Coords) (v12 : BitVec 32) : BitVec 1 :=
  let arg0 : BitVec 32 := BitVec.ofNat 32 (i 0).val
  let c608_i32 : BitVec 32 := 608#32
  let v0 : BitVec 32 := Scalar.addi arg0 c608_i32
  let v13 : BitVec 1 := Scalar.cmpi .slt v0 v12
  let v14 : BitVec 32 := Scalar.extui v13
  let c0_i32_2 : BitVec 32 := 0#32
  let v15 : BitVec 1 := Scalar.cmpi .ne v14 c0_i32_2
  v15

def k0_cond3 (i : grid0.Coords) (v16 : BitVec 32) : BitVec 1 :=
  let arg0 : BitVec 32 := BitVec.ofNat 32 (i 0).val
  let c608_i32 : BitVec 32 := 608#32
  let v0 : BitVec 32 := Scalar.addi arg0 c608_i32
  let v17 : BitVec 1 := Scalar.cmpi .sge v0 v16
  let v18 : BitVec 32 := Scalar.extui v17
  let c0_i32_4 : BitVec 32 := 0#32
  let v19 : BitVec 1 := Scalar.cmpi .ne v18 c0_i32_4
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S1216.size a) (numel1_S1 : S1.numel = 1) (pf : pre0.Contents (Elt F)) (i : grid0.Coords) : Fin 4 → Nat :=
  let arg0 : BitVec 32 := BitVec.ofNat 32 (i 0).val
  let c608_i32 : BitVec 32 := 608#32
  let v0 : BitVec 32 := Scalar.addi arg0 c608_i32
  let v1 : Index := Scalar.indexCast v0
  let v2 : BitVec 32 := pf.at 0 (Rect.unit (s := S1216) ![v1.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v2.toNat, c0_i32_0.toNat, c0_i32_1.toNat]

def cc0_transform_2 (k0_off1_inb : ∀ i : grid0.Coords, ∀ a, (k0_off1 i) a + S1.size a ≤ S1216.size a) (numel1_S1 : S1.numel = 1) (pf : pre0.Contents (Elt F)) (i : grid0.Coords) : Fin 4 → Nat :=
  let arg0 : BitVec 32 := BitVec.ofNat 32 (i 0).val
  let c608_i32 : BitVec 32 := 608#32
  let v0 : BitVec 32 := Scalar.addi arg0 c608_i32
  let v1 : Index := Scalar.indexCast v0
  let v2 : BitVec 32 := pf.at 0 (Rect.unit (s := S1216) ![v1.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v2.toNat, c0_i32_0.toNat, c0_i32_1.toNat]

def cc0_transform_3 (k0_off1_inb : ∀ i : grid0.Coords, ∀ a, (k0_off1 i) a + S1.size a ≤ S1216.size a) (numel1_S1 : S1.numel = 1) (pf : pre0.Contents (Elt F)) (i : grid0.Coords) : Fin 4 → Nat :=
  let arg0 : BitVec 32 := BitVec.ofNat 32 (i 0).val
  let c608_i32 : BitVec 32 := 608#32
  let v0 : BitVec 32 := Scalar.addi arg0 c608_i32
  let v1 : Index := Scalar.indexCast v0
  let v2 : BitVec 32 := pf.at 0 (Rect.unit (s := S1216) ![v1.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v2.toNat, c0_i32_0.toNat, c0_i32_1.toNat]

def cc0_transform_5 (i : grid0.Coords) : Fin 2 → Nat :=
  let arg0 : BitVec 32 := BitVec.ofNat 32 (i 0).val
  let c608_i32 : BitVec 32 := 608#32
  let v0 : BitVec 32 := Scalar.addi arg0 c608_i32
  let c0_i32 : BitVec 32 := 0#32
  let c0_i32_0 : BitVec 32 := 0#32
  ![v0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S1216 : Shape := ⟨1, ![1216]⟩
abbrev S1 : Shape := ⟨1, ![1]⟩
abbrev S311296x1024 : Shape := ⟨2, ![311296, 1024]⟩
abbrev S4x128x1024x256 : Shape := ⟨4, ![4, 128, 1024, 256]⟩
abbrev S4x128x256x1024 : Shape := ⟨4, ![4, 128, 256, 1024]⟩
abbrev S622592x1024 : Shape := ⟨2, ![622592, 1024]⟩
abbrev S608 : Shape := ⟨1, ![608]⟩
abbrev S608x512x1024 : Shape := ⟨3, ![608, 512, 1024]⟩
abbrev S1x128x1024x256 : Shape := ⟨4, ![1, 128, 1024, 256]⟩
abbrev S128x1024x256 : Shape := ⟨3, ![128, 1024, 256]⟩
abbrev S_ : Shape := ⟨0, ![]⟩
abbrev S608x1 : Shape := ⟨2, ![608, 1]⟩
abbrev S608x1024x256 : Shape := ⟨3, ![608, 1024, 256]⟩
abbrev S1x128x256x1024 : Shape := ⟨4, ![1, 128, 256, 1024]⟩
abbrev S128x256x1024 : Shape := ⟨3, ![128, 256, 1024]⟩
abbrev S608x256x1024 : Shape := ⟨3, ![608, 256, 1024]⟩
abbrev S608x512x256 : Shape := ⟨3, ![608, 512, 256]⟩
abbrev S608x1x1 : Shape := ⟨3, ![608, 1, 1]⟩

abbrev nBuf : Space → Nat
  | .hbm => 73
  | .vmem => 0
  | .smem => 0
  | _ => 0

abbrev bufTy : (tb : Table) → Fin (tcTables nBuf tb) → BufTy
  | .hbm, ⟨0, _⟩ => ⟨S1216, .i32⟩
  | .hbm, ⟨1, _⟩ => ⟨S1, .i32⟩
  | .hbm, ⟨2, _⟩ => ⟨S311296x1024, .bf16⟩
  | .hbm, ⟨3, _⟩ => ⟨S4x128x1024x256, .f32⟩
  | .hbm, ⟨4, _⟩ => ⟨S4x128x1024x256, .f32⟩
  | .hbm, ⟨5, _⟩ => ⟨S4x128x256x1024, .f32⟩
  | .hbm, ⟨6, _⟩ => ⟨S622592x1024, .bf16⟩
  | .hbm, ⟨7, _⟩ => ⟨S608, .i32⟩
  | .hbm, ⟨8, _⟩ => ⟨S311296x1024, .f32⟩
  | .hbm, ⟨9, _⟩ => ⟨S608x512x1024, .f32⟩
  | .hbm, ⟨10, _⟩ => ⟨S1x128x1024x256, .f32⟩
  | .hbm, ⟨11, _⟩ => ⟨S128x1024x256, .f32⟩
  | .hbm, ⟨12, _⟩ => ⟨S_, .i32⟩
  | .hbm, ⟨13, _⟩ => ⟨S608, .i32⟩
  | .hbm, ⟨14, _⟩ => ⟨S608, .i1⟩
  | .hbm, ⟨15, _⟩ => ⟨S_, .i32⟩
  | .hbm, ⟨16, _⟩ => ⟨S608, .i32⟩
  | .hbm, ⟨17, _⟩ => ⟨S608, .i32⟩
  | .hbm, ⟨18, _⟩ => ⟨S608, .i32⟩
  | .hbm, ⟨19, _⟩ => ⟨S608x1, .i32⟩
  | .hbm, ⟨20, _⟩ => ⟨S608x1024x256, .f32⟩
  | .hbm, ⟨21, _⟩ => ⟨S1x128x1024x256, .f32⟩
  | .hbm, ⟨22, _⟩ => ⟨S128x1024x256, .f32⟩
  | .hbm, ⟨23, _⟩ => ⟨S_, .i32⟩
  | .hbm, ⟨24, _⟩ => ⟨S608, .i32⟩
  | .hbm, ⟨25, _⟩ => ⟨S608, .i1⟩
  | .hbm, ⟨26, _⟩ => ⟨S_, .i32⟩
  | .hbm, ⟨27, _⟩ => ⟨S608, .i32⟩
  | .hbm, ⟨28, _⟩ => ⟨S608, .i32⟩
  | .hbm, ⟨29, _⟩ => ⟨S608, .i32⟩
  | .hbm, ⟨30, _⟩ => ⟨S608x1, .i32⟩
  | .hbm, ⟨31, _⟩ => ⟨S608x1024x256, .f32⟩
  | .hbm, ⟨32, _⟩ => ⟨S1x128x256x1024, .f32⟩
  | .hbm, ⟨33, _⟩ => ⟨S128x256x1024, .f32⟩
  | .hbm, ⟨34, _⟩ => ⟨S_, .i32⟩
  | .hbm, ⟨35, _⟩ => ⟨S608, .i32⟩
  | .hbm, ⟨36, _⟩ => ⟨S608, .i1⟩
  | .hbm, ⟨37, _⟩ => ⟨S_, .i32⟩
  | .hbm, ⟨38, _⟩ => ⟨S608, .i32⟩
  | .hbm, ⟨39, _⟩ => ⟨S608, .i32⟩
  | .hbm, ⟨40, _⟩ => ⟨S608, .i32⟩
  | .hbm, ⟨41, _⟩ => ⟨S608x1, .i32⟩
  | .hbm, ⟨42, _⟩ => ⟨S608x256x1024, .f32⟩
  | .hbm, ⟨43, _⟩ => ⟨S608x512x256, .f32⟩
  | .hbm, ⟨44, _⟩ => ⟨S608x512x256, .f32⟩
  | .hbm, ⟨45, _⟩ => ⟨S608x512x256, .f32⟩
  | .hbm, ⟨46, _⟩ => ⟨S_, .f32⟩
  | .hbm, ⟨47, _⟩ => ⟨S608x512x256, .f32⟩
  | .hbm, ⟨48, _⟩ => ⟨S608x512x256, .f32⟩
  | .hbm, ⟨49, _⟩ => ⟨S_, .f32⟩
  | .hbm, ⟨50, _⟩ => ⟨S608x512x256, .f32⟩
  | .hbm, ⟨51, _⟩ => ⟨S608x512x256, .f32⟩
  | .hbm, ⟨52, _⟩ => ⟨S608x512x256, .f32⟩
  | .hbm, ⟨53, _⟩ => ⟨S608x512x256, .f32⟩
  | .hbm, ⟨54, _⟩ => ⟨S608x512x256, .f32⟩
  | .hbm, ⟨55, _⟩ => ⟨S608x512x1024, .f32⟩
  | .hbm, ⟨56, _⟩ => ⟨S608, .i32⟩
  | .hbm, ⟨57, _⟩ => ⟨S_, .i32⟩
  | .hbm, ⟨58, _⟩ => ⟨S608, .i32⟩
  | .hbm, ⟨59, _⟩ => ⟨S608, .i32⟩
  | .hbm, ⟨60, _⟩ => ⟨S_, .i32⟩
  | .hbm, ⟨61, _⟩ => ⟨S608, .i32⟩
  | .hbm, ⟨62, _⟩ => ⟨S608, .i1⟩
  | .hbm, ⟨63, _⟩ => ⟨S608x1x1, .i1⟩
  | .hbm, ⟨64, _⟩ => ⟨S_, .f32⟩
  | .hbm, ⟨65, _⟩ => ⟨S_, .f32⟩
  | .hbm, ⟨66, _⟩ => ⟨S608x512x1024, .i1⟩
  | .hbm, ⟨67, _⟩ => ⟨S608x512x1024, .f32⟩
  | .hbm, ⟨68, _⟩ => ⟨S608x512x1024, .f32⟩
  | .hbm, ⟨69, _⟩ => ⟨S311296x1024, .f32⟩
  | .hbm, ⟨70, _⟩ => ⟨S311296x1024, .bf16⟩
  | .hbm, ⟨71, _⟩ => ⟨S311296x1024, .bf16⟩
  | .hbm, ⟨72, _⟩ => ⟨S622592x1024, .bf16⟩
  | _, _ => ⟨S1216, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩

abbrev nD : Nat := 1
abbrev τ : Topo := Topo.v7x

variable {F : FTy → Type} [FloatOps F]
-- ==== Kernel4.lean ====
abbrev S1216 : Shape := ⟨1, ![1216]⟩
abbrev S1 : Shape := ⟨1, ![1]⟩
abbrev S311296x1024 : Shape := ⟨2, ![311296, 1024]⟩
abbrev S4x128x1024x256 : Shape := ⟨4, ![4, 128, 1024, 256]⟩
abbrev S4x128x256x1024 : Shape := ⟨4, ![4, 128, 256, 1024]⟩
abbrev S622592x1024 : Shape := ⟨2, ![622592, 1024]⟩
abbrev S512x1024 : Shape := ⟨2, ![512, 1024]⟩
abbrev S1x1x1024x256 : Shape := ⟨4, ![1, 1, 1024, 256]⟩
abbrev S1x1x256x1024 : Shape := ⟨4, ![1, 1, 256, 1024]⟩
abbrev S1024x256 : Shape := ⟨2, ![1024, 256]⟩
abbrev S256x1024 : Shape := ⟨2, ![256, 1024]⟩
abbrev S512x256 : Shape := ⟨2, ![512, 256]⟩

abbrev nBuf : Space → Nat
  | .hbm => 6
  | .vmem => 13
  | .smem => 2
  | _ => 0

abbrev bufTy : (tb : Table) → Fin (tcTables nBuf tb) → BufTy
  | .hbm, ⟨0, _⟩ => ⟨S311296x1024, .bf16⟩
  | .hbm, ⟨1, _⟩ => ⟨S4x128x1024x256, .f32⟩
  | .hbm, ⟨2, _⟩ => ⟨S4x128x1024x256, .f32⟩
  | .hbm, ⟨3, _⟩ => ⟨S4x128x256x1024, .f32⟩
  | .hbm, ⟨4, _⟩ => ⟨S622592x1024, .bf16⟩
  | .hbm, ⟨5, _⟩ => ⟨S311296x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x256, .f32⟩
  | .local _ .vmem, ⟨3, _⟩ => ⟨S1x1x1024x256, .f32⟩
  | .local _ .vmem, ⟨4, _⟩ => ⟨S1x1x1024x256, .f32⟩
  | .local _ .vmem, ⟨5, _⟩ => ⟨S1x1x1024x256, .f32⟩
  | .local _ .vmem, ⟨6, _⟩ => ⟨S1x1x256x1024, .f32⟩
  | .local _ .vmem, ⟨7, _⟩ => ⟨S1x1x256x1024, .f32⟩
  | .local _ .vmem, ⟨8, _⟩ => ⟨S512x1024, .bf16⟩
  | .local _ .vmem, ⟨9, _⟩ => ⟨S512x1024, .bf16⟩
  | .local _ .vmem, ⟨10, _⟩ => ⟨S1024x256, .bf16⟩
  | .local _ .vmem, ⟨11, _⟩ => ⟨S1024x256, .bf16⟩
  | .local _ .vmem, ⟨12, _⟩ => ⟨S256x1024, .bf16⟩
  | .local _ .smem, ⟨0, _⟩ => ⟨S1216, .i32⟩
  | .local _ .smem, ⟨1, _⟩ => ⟨S1, .i32⟩
  | _, _ => ⟨S311296x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![608], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let c0_i32 : BitVec 32 := 0#32
  let v0 : BitVec 32 := Scalar.addi arg0 c0_i32
  let v1 : Index := Scalar.indexCast v0
  ![v1.toNat]
def k0_off2 (i : grid0.Coords) : Fin 1 → Nat :=
  let arg0 : BitVec 32 := BitVec.ofNat 32 (i 0).val
  let c0_i32 : BitVec 32 := 0#32
  let v0 : BitVec 32 := Scalar.addi arg0 c0_i32
  let c1_i32 : BitVec 32 := 1#32
  let v4 : BitVec 32 := Scalar.subi v0 c1_i32
  let c0_i32_1 : BitVec 32 := 0#32
  let v5 : BitVec 32 := Scalar.maxsi v4 c0_i32_1
  let v6 : Index := Scalar.indexCast v5
  ![v6.toNat]
def k0_cond2 (i : grid0.Coords) (v12 : BitVec 32) : BitVec 1 :=
  let arg0 : BitVec 32 := BitVec.ofNat 32 (i 0).val
  let c0_i32 : BitVec 32 := 0#32
  let v0 : BitVec 32 := Scalar.addi arg0 c0_i32
  let v13 : BitVec 1 := Scalar.cmpi .slt v0 v12
  let v14 : BitVec 32 := Scalar.extui v13
  let c0_i32_3 : BitVec 32 := 0#32
  let v15 : BitVec 1 := Scalar.cmpi .ne v14 c0_i32_3
  v15

def k0_cond3 (i : grid0.Coords) (v16 : BitVec 32) : BitVec 1 :=
  let arg0 : BitVec 32 := BitVec.ofNat 32 (i 0).val
  let c0_i32 : BitVec 32 := 0#32
  let v0 : BitVec 32 := Scalar.addi arg0 c0_i32
  let v17 : BitVec 1 := Scalar.cmpi .sge v0 v16
  let v18 : BitVec 32 := Scalar.extui v17
  let c0_i32_5 : BitVec 32 := 0#32
  let v19 : BitVec 1 := Scalar.cmpi .ne v18 c0_i32_5
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S1216.size a) (numel1_S1 : S1.numel = 1) (pf : pre0.Contents (Elt F)) (i : grid0.Coords) : Fin 4 → Nat :=
  let arg0 : BitVec 32 := BitVec.ofNat 32 (i 0).val
  let c0_i32 : BitVec 32 := 0#32
  let v0 : BitVec 32 := Scalar.addi arg0 c0_i32
  let v1 : Index := Scalar.indexCast v0
  let v2 : BitVec 32 := pf.at 0 (Rect.unit (s := S1216) ![v1.toNat] S1.size (k0_off1_inb i)) numel1_S1
  let c0_i32_0 : BitVec 32 := 0#32
  let c0_i32_1 : BitVec 32 := 0#32
  let c0_i32_2 : BitVec 32 := 0#32
  let c0_i32_3 : BitVec 32 := 0#32
  ![c0_i32_0.toNat, v2.toNat, c0_i32_1.toNat, c0_i32_2.toNat]

def cc0_transform_2 (k0_off1_inb : ∀ i : grid0.Coords, ∀ a, (k0_off1 i) a + S1.size a ≤ S1216.size a) (numel1_S1 : S1.numel = 1) (pf : pre0.Contents (Elt F)) (i : grid0.Coords) : Fin 4 → Nat :=
  let arg0 : BitVec 32 := BitVec.ofNat 32 (i 0).val
  let c0_i32 : BitVec 32 := 0#32
  let v0 : BitVec 32 := Scalar.addi arg0 c0_i32
  let v1 : Index := Scalar.indexCast v0
  let v2 : BitVec 32 := pf.at 0 (Rect.unit (s := S1216) ![v1.toNat] S1.size (k0_off1_inb i)) numel1_S1
  let c0_i32_0 : BitVec 32 := 0#32
  let c0_i32_1 : BitVec 32 := 0#32
  let c0_i32_2 : BitVec 32 := 0#32
  let c0_i32_3 : BitVec 32 := 0#32
  ![c0_i32_0.toNat, v2.toNat, c0_i32_1.toNat, c0_i32_2.toNat]

def cc0_transform_3 (k0_off1_inb : ∀ i : grid0.Coords, ∀ a, (k0_off1 i) a + S1.size a ≤ S1216.size a) (numel1_S1 : S1.numel = 1) (pf : pre0.Contents (Elt F)) (i : grid0.Coords) : Fin 4 → Nat :=
  let arg0 : BitVec 32 := BitVec.ofNat 32 (i 0).val
  let c0_i32 : BitVec 32 := 0#32
  let v0 : BitVec 32 := Scalar.addi arg0 c0_i32
  let v1 : Index := Scalar.indexCast v0
  let v2 : BitVec 32 := pf.at 0 (Rect.unit (s := S1216) ![v1.toNat] S1.size (k0_off1_inb i)) numel1_S1
  let c0_i32_0 : BitVec 32 := 0#32
  let c0_i32_1 : BitVec 32 := 0#32
  let c0_i32_2 : BitVec 32 := 0#32
  let c0_i32_3 : BitVec 32 := 0#32
  ![c0_i32_0.toNat, v2.toNat, c0_i32_1.toNat, c0_i32_2.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S1216 : Shape := ⟨1, ![1216]⟩
abbrev S1 : Shape := ⟨1, ![1]⟩
abbrev S311296x1024 : Shape := ⟨2, ![311296, 1024]⟩
abbrev S4x128x1024x256 : Shape := ⟨4, ![4, 128, 1024, 256]⟩
abbrev S4x128x256x1024 : Shape := ⟨4, ![4, 128, 256, 1024]⟩
abbrev S608 : Shape := ⟨1, ![608]⟩
abbrev S608x512x1024 : Shape := ⟨3, ![608, 512, 1024]⟩
abbrev S1x128x1024x256 : Shape := ⟨4, ![1, 128, 1024, 256]⟩
abbrev S128x1024x256 : Shape := ⟨3, ![128, 1024, 256]⟩
abbrev S_ : Shape := ⟨0, ![]⟩
abbrev S608x1 : Shape := ⟨2, ![608, 1]⟩
abbrev S608x1024x256 : Shape := ⟨3, ![608, 1024, 256]⟩
abbrev S1x128x256x1024 : Shape := ⟨4, ![1, 128, 256, 1024]⟩
abbrev S128x256x1024 : Shape := ⟨3, ![128, 256, 1024]⟩
abbrev S608x256x1024 : Shape := ⟨3, ![608, 256, 1024]⟩
abbrev S608x512x256 : Shape := ⟨3, ![608, 512, 256]⟩
abbrev S608x1x1 : Shape := ⟨3, ![608, 1, 1]⟩

abbrev nBuf : Space → Nat
  | .hbm => 67
  | .vmem => 0
  | .smem => 0
  | _ => 0

abbrev bufTy : (tb : Table) → Fin (tcTables nBuf tb) → BufTy
  | .hbm, ⟨0, _⟩ => ⟨S1216, .i32⟩
  | .hbm, ⟨1, _⟩ => ⟨S1, .i32⟩
  | .hbm, ⟨2, _⟩ => ⟨S311296x1024, .bf16⟩
  | .hbm, ⟨3, _⟩ => ⟨S4x128x1024x256, .f32⟩
  | .hbm, ⟨4, _⟩ => ⟨S4x128x1024x256, .f32⟩
  | .hbm, ⟨5, _⟩ => ⟨S4x128x256x1024, .f32⟩
  | .hbm, ⟨6, _⟩ => ⟨S608, .i32⟩
  | .hbm, ⟨7, _⟩ => ⟨S311296x1024, .f32⟩
  | .hbm, ⟨8, _⟩ => ⟨S608x512x1024, .f32⟩
  | .hbm, ⟨9, _⟩ => ⟨S1x128x1024x256, .f32⟩
  | .hbm, ⟨10, _⟩ => ⟨S128x1024x256, .f32⟩
  | .hbm, ⟨11, _⟩ => ⟨S_, .i32⟩
  | .hbm, ⟨12, _⟩ => ⟨S608, .i32⟩
  | .hbm, ⟨13, _⟩ => ⟨S608, .i1⟩
  | .hbm, ⟨14, _⟩ => ⟨S_, .i32⟩
  | .hbm, ⟨15, _⟩ => ⟨S608, .i32⟩
  | .hbm, ⟨16, _⟩ => ⟨S608, .i32⟩
  | .hbm, ⟨17, _⟩ => ⟨S608, .i32⟩
  | .hbm, ⟨18, _⟩ => ⟨S608x1, .i32⟩
  | .hbm, ⟨19, _⟩ => ⟨S608x1024x256, .f32⟩
  | .hbm, ⟨20, _⟩ => ⟨S1x128x1024x256, .f32⟩
  | .hbm, ⟨21, _⟩ => ⟨S128x1024x256, .f32⟩
  | .hbm, ⟨22, _⟩ => ⟨S_, .i32⟩
  | .hbm, ⟨23, _⟩ => ⟨S608, .i32⟩
  | .hbm, ⟨24, _⟩ => ⟨S608, .i1⟩
  | .hbm, ⟨25, _⟩ => ⟨S_, .i32⟩
  | .hbm, ⟨26, _⟩ => ⟨S608, .i32⟩
  | .hbm, ⟨27, _⟩ => ⟨S608, .i32⟩
  | .hbm, ⟨28, _⟩ => ⟨S608, .i32⟩
  | .hbm, ⟨29, _⟩ => ⟨S608x1, .i32⟩
  | .hbm, ⟨30, _⟩ => ⟨S608x1024x256, .f32⟩
  | .hbm, ⟨31, _⟩ => ⟨S1x128x256x1024, .f32⟩
  | .hbm, ⟨32, _⟩ => ⟨S128x256x1024, .f32⟩
  | .hbm, ⟨33, _⟩ => ⟨S_, .i32⟩
  | .hbm, ⟨34, _⟩ => ⟨S608, .i32⟩
  | .hbm, ⟨35, _⟩ => ⟨S608, .i1⟩
  | .hbm, ⟨36, _⟩ => ⟨S_, .i32⟩
  | .hbm, ⟨37, _⟩ => ⟨S608, .i32⟩
  | .hbm, ⟨38, _⟩ => ⟨S608, .i32⟩
  | .hbm, ⟨39, _⟩ => ⟨S608, .i32⟩
  | .hbm, ⟨40, _⟩ => ⟨S608x1, .i32⟩
  | .hbm, ⟨41, _⟩ => ⟨S608x256x1024, .f32⟩
  | .hbm, ⟨42, _⟩ => ⟨S608x512x256, .f32⟩
  | .hbm, ⟨43, _⟩ => ⟨S608x512x256, .f32⟩
  | .hbm, ⟨44, _⟩ => ⟨S608x512x256, .f32⟩
  | .hbm, ⟨45, _⟩ => ⟨S_, .f32⟩
  | .hbm, ⟨46, _⟩ => ⟨S608x512x256, .f32⟩
  | .hbm, ⟨47, _⟩ => ⟨S608x512x256, .f32⟩
  | .hbm, ⟨48, _⟩ => ⟨S_, .f32⟩
  | .hbm, ⟨49, _⟩ => ⟨S608x512x256, .f32⟩
  | .hbm, ⟨50, _⟩ => ⟨S608x512x256, .f32⟩
  | .hbm, ⟨51, _⟩ => ⟨S608x512x256, .f32⟩
  | .hbm, ⟨52, _⟩ => ⟨S608x512x256, .f32⟩
  | .hbm, ⟨53, _⟩ => ⟨S608x512x256, .f32⟩
  | .hbm, ⟨54, _⟩ => ⟨S608x512x1024, .f32⟩
  | .hbm, ⟨55, _⟩ => ⟨S608, .i32⟩
  | .hbm, ⟨56, _⟩ => ⟨S_, .i32⟩
  | .hbm, ⟨57, _⟩ => ⟨S608, .i32⟩
  | .hbm, ⟨58, _⟩ => ⟨S608, .i1⟩
  | .hbm, ⟨59, _⟩ => ⟨S608x1x1, .i1⟩
  | .hbm, ⟨60, _⟩ => ⟨S_, .f32⟩
  | .hbm, ⟨61, _⟩ => ⟨S_, .f32⟩
  | .hbm, ⟨62, _⟩ => ⟨S608x512x1024, .i1⟩
  | .hbm, ⟨63, _⟩ => ⟨S608x512x1024, .f32⟩
  | .hbm, ⟨64, _⟩ => ⟨S608x512x1024, .f32⟩
  | .hbm, ⟨65, _⟩ => ⟨S311296x1024, .f32⟩
  | .hbm, ⟨66, _⟩ => ⟨S311296x1024, .bf16⟩
  | _, _ => ⟨S1216, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_3 : Ref sig .tc := ⟨.hbm, 33, rfl⟩
abbrev main_v23 : Ref sig .tc := ⟨.hbm, 34, rfl⟩
abbrev main_v24 : Ref sig .tc := ⟨.hbm, 35, rfl⟩
abbrev main_c_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== Proof.Softmax.lean ====
/- Softmax attention over two families of keys, as equations between sums of extended reals: dividing once after the
   weighted sum is dividing every weight, and keys masked by `⊥` do not count. -/
module

public import Idealize.ShloMosaic.Lib.Pointwise

@[expose] public section

noncomputable section

namespace Cert.Softmax

open Idealize.ShloMosaic

variable {ι κ τ : Type} [Fintype ι] [Fintype κ] [Fintype τ]

/-- The greatest score of two families. -/
def top (s : ι → EReal) (s' : τ → EReal) : EReal :=
  max (Finset.univ.fold max ⊥ s) (Finset.univ.fold max ⊥ s')

/-- The weight of a score before normalising. -/
def weight (m x : EReal) : EReal := Ideal.exp (x - m)

/-- The sum of all weights. -/
def total (s : ι → EReal) (s' : τ → EReal) : EReal :=
  ∑ k, weight (top s s') (s k) + ∑ t, weight (top s s') (s' t)

/-- Attention that normalises every weight. -/
def each (s v : ι → EReal) (s' v' : τ → EReal) : EReal :=
  ∑ k, Ideal.div (weight (top s s') (s k)) (total s s') * v k
    + ∑ t, Ideal.div (weight (top s s') (s' t)) (total s s') * v' t

/-- Attention that normalises once, after the weighted sum. -/
def once (s v : ι → EReal) (s' v' : τ → EReal) : EReal :=
  Ideal.div (∑ k, weight (top s s') (s k) * v k + ∑ t, weight (top s s') (s' t) * v' t) (total s s')

theorem weight_bot (m : EReal) : weight m ⊥ = 0 := by
  unfold weight
  rw [EReal.bot_sub]
  rfl

theorem weight_nonneg (m x : EReal) : 0 ≤ weight m x := by
  unfold weight
  induction x - m with
  | bot => exact le_rfl
  | top => exact le_top
  | coe r => exact EReal.coe_nonneg.mpr (Real.exp_pos r).le

theorem weight_ne_top {m x : EReal} (hm' : m ≠ ⊥) (hx : x ≠ ⊤) : weight m x ≠ ⊤ := by
  have h : x - m ≠ ⊤ := by
    rw [sub_eq_add_neg]
    exact EReal.add_ne_top hx fun h => hm' (EReal.neg_eq_top_iff.mp h)
  unfold weight
  revert h
  induction x - m with
  | bot => intro _; exact EReal.zero_ne_top
  | top => intro h; exact absurd rfl h
  | coe r => intro _; exact EReal.coe_ne_top _

theorem weight_self {m : EReal} (hm : m ≠ ⊤) (hm' : m ≠ ⊥) : weight m m = 1 := by
  lift m to ℝ using ⟨hm, hm'⟩
  unfold weight
  rw [← EReal.coe_sub, sub_self]
  show ((Real.exp 0 : ℝ) : EReal) = 1
  rw [Real.exp_zero]
  rfl

theorem sum_ne_top (g : ι → EReal) (hg : ∀ k, g k ≠ ⊤) : ∑ k, g k ≠ ⊤ :=
  Finset.sum_induction g (· ≠ ⊤) (fun _ _ => EReal.add_ne_top) EReal.zero_ne_top fun k _ => hg k

theorem sum_mul_real (g : ι → EReal) {c : EReal} (hc : 0 ≤ c) (hc' : c ≠ ⊤) : (∑ k, g k) * c = ∑ k, g k * c := by
  classical
  induction (Finset.univ : Finset ι) using Finset.induction with
  | empty => simp
  | insert a t ha ih =>
    rw [Finset.sum_insert ha, Finset.sum_insert ha, EReal.right_distrib_of_nonneg_of_ne_top hc hc', ih]

theorem exists_eq_sup (s : ι → EReal) (h : Finset.univ.sup s ≠ ⊥) : ∃ k, s k = Finset.univ.sup s := by
  rcases (Finset.univ : Finset ι).eq_empty_or_nonempty with he | he
  · rw [he] at h; exact absurd rfl h
  · obtain ⟨k, _, hk⟩ := Finset.exists_mem_eq_sup _ he s
    exact ⟨k, hk.symm⟩

theorem fold_eq_sup (s : ι → EReal) : Finset.univ.fold max ⊥ s = Finset.univ.sup s := rfl

/-- The word of minus infinity reads `⊥`. -/
theorem ofBits_bot : Ideal.ofBits FTy.f32 4286578688#32 = ⊥ := by
  simp [Ideal.ofBits, Ideal.ieee]

/-- The greatest entry of a list of scores laid end to end. -/
theorem fold_append {n : ℕ} (a b : ℕ) (h : n = a + b) (s : Fin n → EReal) :
    Finset.univ.fold max ⊥ s
      = max (Finset.univ.fold max ⊥ fun k : Fin a => s ⟨k, by omega⟩) (Finset.univ.fold max ⊥ fun t : Fin b => s ⟨a + t, by omega⟩) := by
  rw [fold_eq_sup, fold_eq_sup, fold_eq_sup]
  refine le_antisymm (Finset.sup_le fun k _ => ?_) (max_le (Finset.sup_le fun k _ => Finset.le_sup (f := s) (Finset.mem_univ _))
    (Finset.sup_le fun k _ => Finset.le_sup (f := s) (Finset.mem_univ _)))
  by_cases hk : (k : ℕ) < a
  · exact le_max_of_le_left (Finset.le_sup (f := fun k : Fin a => s ⟨k, by omega⟩) (Finset.mem_univ ⟨k, hk⟩))
  · have e : k = ⟨a + ((⟨k - a, by omega⟩ : Fin b) : ℕ), by omega⟩ := Fin.ext (by simp; omega)
    rw [e]
    exact le_max_of_le_right (Finset.le_sup (f := fun t : Fin b => s ⟨a + t, by omega⟩) (Finset.mem_univ (⟨k - a, by omega⟩ : Fin b)))

/-- Masked keys do not count: a family that is `⊥` off the range of `f` is the family along `f`. -/
theorem once_masked (f : ι → κ) (hf : Function.Injective f) (s v : κ → EReal) (s' v' : τ → EReal)
    (h : ∀ k, k ∉ Set.range f → s k = ⊥) :
    once s v s' v' = once (fun i => s (f i)) (fun i => v (f i)) s' v' := by
  classical
  have htop : top s s' = top (fun i => s (f i)) s' := by
    unfold top
    rw [fold_eq_sup, fold_eq_sup s', fold_eq_sup]
    congr 1
    refine le_antisymm (Finset.sup_le fun k _ => ?_) (Finset.sup_le fun i _ => Finset.le_sup (f := s) (Finset.mem_univ _))
    by_cases hk : k ∈ Set.range f
    · obtain ⟨i, rfl⟩ := hk
      exact Finset.le_sup (f := fun i => s (f i)) (Finset.mem_univ i)
    · rw [h k hk]; exact bot_le
  have hsum (g : κ → EReal) (hg : ∀ k, k ∉ Set.range f → g k = 0) : ∑ k, g k = ∑ i, g (f i) := by
    rw [← Finset.sum_image (s := Finset.univ) (g := f) (f := g) (fun a _ b _ e => hf e)]
    refine (Finset.sum_subset (Finset.subset_univ _) fun k _ hk => hg k fun hr => hk ?_).symm
    obtain ⟨i, rfl⟩ := hr
    exact Finset.mem_image_of_mem _ (Finset.mem_univ i)
  have htot : total s s' = total (fun i => s (f i)) s' := by
    unfold total
    rw [← htop, hsum _ fun k hk => by rw [h k hk, weight_bot]]
  unfold once
  rw [htot, htop, hsum (fun k => weight _ (s k) * v k) fun k hk => by rw [h k hk, weight_bot, zero_mul]]

/-- Normalising once is normalising every weight, where every score is finite and there is one. -/
theorem once_eq_each [Nonempty τ] (s v : ι → EReal) (s' v' : τ → EReal) (hs : ∀ k, s k ≠ ⊤)
    (hs' : ∀ t, s' t ≠ ⊤ ∧ s' t ≠ ⊥) : once s v s' v' = each s v s' v' := by
  have hm : top s s' ≠ ⊤ := by
    unfold top
    rw [fold_eq_sup, fold_eq_sup]
    refine ne_of_lt (max_lt ?_ ?_)
    · exact (Finset.sup_lt_iff (bot_lt_top)).mpr fun k _ => lt_top_iff_ne_top.mpr (hs k)
    · exact (Finset.sup_lt_iff (bot_lt_top)).mpr fun k _ => lt_top_iff_ne_top.mpr (hs' k).1
  have hm' : top s s' ≠ ⊥ := by
    obtain ⟨t⟩ := ‹Nonempty τ›
    refine fun h => (hs' t).2 (le_bot_iff.mp (le_trans ?_ h.le))
    unfold top
    rw [fold_eq_sup, fold_eq_sup]
    exact le_max_of_le_right (Finset.le_sup (Finset.mem_univ t))
  have htot : total s s' ≠ ⊤ :=
    EReal.add_ne_top (sum_ne_top _ fun k => weight_ne_top hm' (hs k)) (sum_ne_top _ fun t => weight_ne_top hm' (hs' t).1)
  have hpos : 0 < total s s' := by
    have h0 : 0 ≤ ∑ k, weight (top s s') (s k) := Finset.sum_nonneg fun k _ => weight_nonneg _ _
    have h0' : 0 ≤ ∑ t, weight (top s s') (s' t) := Finset.sum_nonneg fun t _ => weight_nonneg _ _
    refine lt_of_lt_of_le zero_lt_one ?_
    unfold total
    rcases max_choice (Finset.univ.fold max ⊥ s) (Finset.univ.fold max ⊥ s') with hc | hc
    · have e : Finset.univ.sup s = top s s' := hc.symm
      obtain ⟨k, hk⟩ := exists_eq_sup s (by rw [e]; exact hm')
      refine le_trans ?_ (le_add_of_nonneg_right h0')
      have := Finset.single_le_sum (f := fun k => weight (top s s') (s k)) (fun k _ => weight_nonneg _ _) (Finset.mem_univ k)
      simp only [hk, e, weight_self hm hm'] at this
      exact this
    · have e : Finset.univ.sup s' = top s s' := hc.symm
      obtain ⟨k, hk⟩ := exists_eq_sup s' (by rw [e]; exact hm')
      refine le_trans ?_ (le_add_of_nonneg_left h0)
      have := Finset.single_le_sum (f := fun k => weight (top s s') (s' k)) (fun k _ => weight_nonneg _ _) (Finset.mem_univ k)
      simp only [hk, e, weight_self hm hm'] at this
      exact this
  unfold once each
  simp only [Ideal.div, if_neg hpos.ne']
  have hb : total s s' ≠ ⊥ := (lt_of_le_of_lt bot_le hpos).ne'
  generalize total s s' = d at *
  lift d to ℝ using ⟨htot, hb⟩
  have hd : 0 ≤ (d : EReal)⁻¹ := EReal.inv_nonneg_of_nonneg hpos.le
  have hd' : (d : EReal)⁻¹ ≠ ⊤ := by rw [← EReal.coe_inv]; exact EReal.coe_ne_top _
  rw [EReal.right_distrib_of_nonneg_of_ne_top hd hd', sum_mul_real _ hd hd', sum_mul_real _ hd hd']
  simp only [mul_right_comm]

end Cert.Softmax

end
-- ==== Proof.Attention.lean ====
/- Neighbourhood attention at one query and one output channel, as a function of the three arguments: the scores of the
   128 neighbours and of the 256 context keys, and the softmax over both. -/
module

public import proofs.«01_k».proof.Proof.Softmax

@[expose] public section

noncomputable section

namespace Cert.Attention

open Idealize.ShloMosaic

/-- The first key row of the window of grid row `r`: `r - 4` clipped into `0 … 56`. -/
def firstRow (r : ℕ) : ℕ := min 56 (r - 4)

/-- The first key column of the window of grid column `c`: `c - 8` clipped into `0 … 48`. -/
def firstCol (c : ℕ) : ℕ := min 48 (c - 8)

theorem firstRow_le (r : ℕ) : firstRow r ≤ 56 := Nat.min_le_left _ _

theorem firstCol_le (c : ℕ) : firstCol c ≤ 48 := Nat.min_le_left _ _

/-- The token at row `r` and column `c` of the grid. -/
def tok (r c : Fin 64) : Fin 4096 := ⟨r * 64 + c, by omega⟩

/-- The grid row and grid column of neighbour `k`. -/
def nbRow (r : Fin 64) (k : Fin 128) : Fin 64 := ⟨firstRow r + k / 16, by have := firstRow_le r; omega⟩
def nbCol (c : Fin 64) (k : Fin 128) : Fin 64 := ⟨firstCol c + k % 16, by have := firstCol_le c; omega⟩

/-- The bias table's row and column of neighbour `k`: the two offsets, counted from the table's middle. -/
def biasRow (r : Fin 64) (k : Fin 128) : Fin 15 :=
  ⟨firstRow r + k / 16 + 7 - r, by unfold firstRow; omega⟩
def biasCol (c : Fin 64) (k : Fin 128) : Fin 31 :=
  ⟨firstCol c + k % 16 + 15 - c, by unfold firstCol; omega⟩

/-- Channel `e` of head `h` in part `p` of a token: queries are part 0, keys part 1, values part 2. -/
def chan (p : Fin 3) (h : Fin 8) (e : Fin 64) : Fin 1536 := ⟨p * 512 + (h * 64 + e), by omega⟩

/-- One over the square root of the head's width. -/
def scale : EReal := Ideal.ofBits FTy.f32 1040187392#32

variable (X : FVec Ideal ⟨3, ![16, 4096, 1536]⟩ .bf16) (C : FVec Ideal ⟨3, ![16, 256, 1536]⟩ .bf16)
  (B : FVec Ideal ⟨4, ![4, 8, 15, 31]⟩ .f32)

/-- The product of a query with the key of a token. -/
def dotTok (b : Fin 16) (h : Fin 8) (q k : Fin 4096) : EReal :=
  ∑ e : Fin 64, X (ix3 b q (chan 0 h e)) * X (ix3 b k (chan 1 h e))

/-- The product of a query with a context key. -/
def dotCtx (b : Fin 16) (h : Fin 8) (q : Fin 4096) (t : Fin 256) : EReal :=
  ∑ e : Fin 64, X (ix3 b q (chan 0 h e)) * C (ix3 b t (chan 1 h e))

/-- The score of neighbour `k`. -/
def scoreLoc (b : Fin 16) (h : Fin 8) (r c : Fin 64) (k : Fin 128) : EReal :=
  dotTok X b h (tok r c) (tok (nbRow r k) (nbCol c k)) * scale + B (ix4 0 h (biasRow r k) (biasCol c k))

/-- The score of context key `t`. -/
def scoreCtx (b : Fin 16) (h : Fin 8) (r c : Fin 64) (t : Fin 256) : EReal :=
  dotCtx X C b h (tok r c) t * scale

/-- Channel `e` of head `h` of what the query at row `r`, column `c` attends to. -/
def out (b : Fin 16) (h : Fin 8) (r c e : Fin 64) : EReal :=
  Softmax.each (scoreLoc X B b h r c) (fun k => X (ix3 b (tok (nbRow r k) (nbCol c k)) (chan 2 h e)))
    (scoreCtx X C b h r c) (fun t => C (ix3 b t (chan 2 h e)))

end Cert.Attention

end
-- ==== Proof.RefTables.lean ====
/- The index tables of the reference: which key row, key column, bias row and bias column each neighbour has, and the
   two gathers read at an index. -/
module

public import proofs.«01_k».proof.Proof.Gen.ReferenceIdeal.Run
public import proofs.«01_k».proof.Proof.Attention

@[expose] public section

set_option maxRecDepth 16384

noncomputable section

namespace Cert.ReferenceIdeal.Tables

open Idealize.ShloMosaic.StableHlo Cert.ReferenceIdeal Cert.ReferenceIdeal.Gen Cert.ReferenceIdeal.Value
open Cert.Attention Idealize.ShloMosaic Idealize.ShloMosaic.TcCoe Idealize.SL.Sem

variable (V0 : Valuation τ sig (Elt Ideal))

/-- The table of key rows. -/
theorem keyRow_at (r : Fin 64) (i : Fin 8) :
    res_main_v28 V0 (ix2 r i) = BitVec.ofNat 32 (firstRow r + i) := by
  pointwise [res_main_v28, res_main_v18]
  change @Eq (BitVec 32) _ _
  unfold firstRow
  revert r i
  decide +kernel

/-- The table of key columns. -/
theorem keyCol_at (c : Fin 64) (j : Fin 16) :
    res_main_v37 V0 (ix2 c j) = BitVec.ofNat 32 (firstCol c + j) := by
  pointwise [res_main_v37, res_main_v19]
  change @Eq (BitVec 32) _ _
  unfold firstCol
  revert c j
  decide +kernel

/-- The table of key tokens. -/
theorem keyToken_at (r c : Fin 64) (k : Fin 128) :
    res_main_v45 V0 (ix3 r c k) = BitVec.ofNat 32 ((firstRow r + k / 16) * 64 + (firstCol c + k % 16)) := by
  have h : res_main_v45 V0 = shapeCast S64x64x128
      (addi (broadcastInDim S64x64x8x16 ![0, 1, 2, 3] bcast_S64x1x8x1_S64x64x8x16_0_1_2_3
          (muli (broadcastInDim S64x1x8x1 ![0, 2] bcast_S64x8_S64x1x8x1_0_2 (res_main_v28 V0))
            (broadcastInDim S64x1x8x1 ![] bcast_S_S64x1x8x1 (constantI S_ 32 64#32))))
        (broadcastInDim S64x64x8x16 ![0, 1, 2, 3] bcast_S1x64x1x16_S64x64x8x16_0_1_2_3
          (broadcastInDim S1x64x1x16 ![1, 3] bcast_S64x16_S1x64x1x16_1_3 (res_main_v37 V0))))
      shapeCasts_S64x64x8x16_S64x64x128 := rfl
  rw [h]
  pointwise [keyRow_at, keyCol_at]
  change @Eq (BitVec 32) _ _
  simp only [IntOp.addi, IntOp.muli, BitVec.ofNat_add, BitVec.ofNat_mul]

/-- The rows of the bias table. -/
theorem biasRow_at (r : Fin 64) (i : Fin 8) :
    res_main_v60 V0 (ix4 r 0 i 0) = BitVec.ofNat 32 (firstRow r + i + 7 - r) := by
  pointwise [res_main_v60, keyRow_at, res_main_v18]
  change @Eq (BitVec 32) _ _
  unfold firstRow
  revert r i
  decide +kernel

/-- The columns of the bias table. -/
theorem biasCol_at (c : Fin 64) (j : Fin 16) :
    res_main_v61 V0 (ix4 0 c 0 j) = BitVec.ofNat 32 (firstCol c + j + 15 - c) := by
  pointwise [res_main_v61, keyCol_at, res_main_v19]
  change @Eq (BitVec 32) _ _
  unfold firstCol
  revert c j
  decide +kernel

theorem toInt_of_lt (n : ℕ) (h : n < 2147483648) : (BitVec.ofNat 32 n).toInt = n := by
  rw [BitVec.toInt_eq_toNat_cond, BitVec.toNat_ofNat]
  split <;> omega

/-- A word that is a natural below `2^31` is not negative: the wrap of negative indices leaves it. -/
theorem wrap_of_lt (n : ℕ) (h : n < 2147483648) (w : BitVec 32) :
    Scalar.select (IntOp.cmpi .slt (BitVec.ofNat 32 n) 0#32) w (BitVec.ofNat 32 n) = BitVec.ofNat 32 n := by
  have h0 : (BitVec.ofNat 32 n).slt 0#32 = false := by
    rw [BitVec.slt_eq_decide, toInt_of_lt n h]
    simp
  simp [Scalar.select, IntOp.cmpi, h0]

/-- The gather of the neighbours' rows, read at an index: the token is the table's. -/
theorem gather_token (x : FVec Ideal S16x4096x8x64 .f32) (t : IVec S64x64x128x1 32) (b : Fin 16) (r c : Fin 64) (k : Fin 128)
    (h : Fin 8) (e : Fin 64) :
    Host.gather gather_S16x4096x8x64_S64x64x128x1_S16x64x64x128x8x64_045_1_n_n_1_3_161864 x t (ix6 b r c k h e)
      = x (ix4 b ⟨min (t (ix4 r c k 0)).toInt.toNat 4095, by omega⟩ h e) := by
  unfold Host.gather
  congr 1
  funext a
  refine Fin.ext ?_
  match a with
  | ⟨0, _⟩ => show 0 + 0 + (b : ℕ) = b; omega
  | ⟨1, _⟩ =>
    have hi : GatherDims.siIdx gather_S16x4096x8x64_S64x64x128x1_S16x64x64x128x8x64_045_1_n_n_1_3_161864
        (ix6 b r c k h e) ⟨0, by decide⟩ = ix4 r c k 0 := by
      funext d
      match d with
      | ⟨0, _⟩ => rfl
      | ⟨1, _⟩ => rfl
      | ⟨2, _⟩ => rfl
      | ⟨3, _⟩ => rfl
    show min (t (GatherDims.siIdx gather_S16x4096x8x64_S64x64x128x1_S16x64x64x128x8x64_045_1_n_n_1_3_161864
        (ix6 b r c k h e) ⟨0, _⟩)).toInt.toNat 4095 + 0 + 0 = _
    rw [hi]
    rfl
  | ⟨2, _⟩ => show 0 + 0 + (h : ℕ) = h; omega
  | ⟨3, _⟩ => show 0 + 0 + (e : ℕ) = e; omega

/-- The gather of the bias table, read at an index: row and column are the two tables'. -/
theorem gather_bias (x : FVec Ideal S8x15x31 .f32) (t : IVec S64x64x8x16x2 32) (h : Fin 8) (r c : Fin 64) (i : Fin 8)
    (j : Fin 16) :
    Host.gather gather_S8x15x31_S64x64x8x16x2_S8x64x64x8x16_0_12_n_n_12_4_811 x t (ix5 h r c i j)
      = x (ix3 h ⟨min (t (ix5 r c i j 0)).toInt.toNat 14, by omega⟩ ⟨min (t (ix5 r c i j 1)).toInt.toNat 30, by omega⟩) := by
  unfold Host.gather
  congr 1
  funext a
  refine Fin.ext ?_
  match a with
  | ⟨0, _⟩ => show 0 + 0 + (h : ℕ) = h; omega
  | ⟨1, _⟩ =>
    have hi : GatherDims.siIdx gather_S8x15x31_S64x64x8x16x2_S8x64x64x8x16_0_12_n_n_12_4_811
        (ix5 h r c i j) ⟨0, by decide⟩ = ix5 r c i j 0 := by
      funext d
      match d with
      | ⟨0, _⟩ => rfl
      | ⟨1, _⟩ => rfl
      | ⟨2, _⟩ => rfl
      | ⟨3, _⟩ => rfl
      | ⟨4, _⟩ => rfl
    show min (t (GatherDims.siIdx gather_S8x15x31_S64x64x8x16x2_S8x64x64x8x16_0_12_n_n_12_4_811
        (ix5 h r c i j) ⟨0, _⟩)).toInt.toNat 14 + 0 + 0 = _
    rw [hi]
    rfl
  | ⟨2, _⟩ =>
    have hi : GatherDims.siIdx gather_S8x15x31_S64x64x8x16x2_S8x64x64x8x16_0_12_n_n_12_4_811
        (ix5 h r c i j) ⟨1, by decide⟩ = ix5 r c i j 1 := by
      funext d
      match d with
      | ⟨0, _⟩ => rfl
      | ⟨1, _⟩ => rfl
      | ⟨2, _⟩ => rfl
      | ⟨3, _⟩ => rfl
      | ⟨4, _⟩ => rfl
    show min (t (GatherDims.siIdx gather_S8x15x31_S64x64x8x16x2_S8x64x64x8x16_0_12_n_n_12_4_811
        (ix5 h r c i j) ⟨1, _⟩)).toInt.toNat 30 + 0 + 0 = _
    rw [hi]
    rfl

end Cert.ReferenceIdeal.Tables

end
-- ==== Proof.RefScores.lean ====
/- The reference's scores read at an index. -/
module

public import proofs.«01_k».proof.Proof.RefTables

@[expose] public section

set_option maxRecDepth 16384

noncomputable section

namespace Cert.ReferenceIdeal.Row

open Idealize.ShloMosaic.StableHlo Cert.ReferenceIdeal Cert.ReferenceIdeal.Gen Cert.ReferenceIdeal.Value Cert.ReferenceIdeal.Tables
open Cert.Attention Idealize.ShloMosaic Idealize.ShloMosaic.TcCoe Idealize.SL.Sem

variable (V0 : Valuation τ sig (Elt Ideal))

/-- The three arguments. -/
abbrev argX : FVec Ideal S16x4096x1536 .bf16 := V0 (Proc.devRef .tc main_arg0)
abbrev argC : FVec Ideal S16x256x1536 .bf16 := V0 (Proc.devRef .tc main_arg1)
abbrev argB : FVec Ideal S4x8x15x31 .f32 := V0 (Proc.devRef .tc main_arg2)

theorem query_at (b : Fin 16) (r c : Fin 64) (h : Fin 8) (e : Fin 64) :
    res_main_v80 V0 (ix5 b r c h e) = argX V0 (ix3 b (tok r c) (chan 0 h e)) := by
  have hq : res_main_v80 V0 = (shapeCast S16x64x64x8x64 (shapeCast S16x4096x8x64
      (extf .f32 (extractStridedSlice S16x4096x512 ![0, 0, 0] (V0 (Proc.devRef .tc main_arg0))
        slices_S16x4096x1536_S16x4096x512_0_0_0) bitsLt_bf16_f32) shapeCasts_S16x4096x512_S16x4096x8x64)
      shapeCasts_S16x4096x8x64_S16x64x64x8x64 : FVec Ideal S16x64x64x8x64 .f32) := rfl
  rw [hq]
  pointwise [tok, chan]

/-- The start word of neighbour `k`. -/
theorem token_word (r c : Fin 64) (k : Fin 128) :
    (Scalar.select (IntOp.cmpi .slt (res_main_v45 V0 (ix3 r c k)) 0#32) (IntOp.addi (res_main_v45 V0 (ix3 r c k)) 4096#32)
      (res_main_v45 V0 (ix3 r c k)) : BitVec 32).toInt.toNat = (tok (nbRow r k) (nbCol c k) : ℕ) := by
  have hr := firstRow_le r
  have hc := firstCol_le c
  rw [keyToken_at, wrap_of_lt _ (by omega), toInt_of_lt _ (by omega)]
  rfl

/-- The bias table's row and column of neighbour `k`. -/
theorem biasRow_word (r : Fin 64) (k : Fin 128) (h : (k : ℕ) / 16 < 8) :
    (Scalar.select (IntOp.cmpi .slt (res_main_v60 V0 (ix4 r 0 ⟨k / 16, h⟩ 0)) 0#32)
      (IntOp.addi (res_main_v60 V0 (ix4 r 0 ⟨k / 16, h⟩ 0)) 15#32) (res_main_v60 V0 (ix4 r 0 ⟨k / 16, h⟩ 0))
      : BitVec 32).toInt.toNat = (biasRow r k : ℕ) := by
  have hr := firstRow_le r
  rw [biasRow_at, wrap_of_lt _ (by show firstRow r + k / 16 + 7 - r < _; omega),
    toInt_of_lt _ (by show firstRow r + k / 16 + 7 - r < _; omega)]
  rfl

theorem biasCol_word (c : Fin 64) (k : Fin 128) (h : (k : ℕ) % 16 < 16) :
    (Scalar.select (IntOp.cmpi .slt (res_main_v61 V0 (ix4 0 c 0 ⟨k % 16, h⟩)) 0#32)
      (IntOp.addi (res_main_v61 V0 (ix4 0 c 0 ⟨k % 16, h⟩)) 31#32) (res_main_v61 V0 (ix4 0 c 0 ⟨k % 16, h⟩))
      : BitVec 32).toInt.toNat = (biasCol c k : ℕ) := by
  have hr := firstCol_le c
  rw [biasCol_at, wrap_of_lt _ (by show firstCol c + k % 16 + 15 - c < _; omega),
    toInt_of_lt _ (by show firstCol c + k % 16 + 15 - c < _; omega)]
  rfl

/-- A clamped start index that is in range is the index itself. -/
theorem token_val (X : FVec Ideal S16x4096x1536 .bf16) (b : Fin 16) (n : Fin 4096) (p : Fin 3) (h : Fin 8) (e : Fin 64)
    (hn : min (n : ℕ) 4095 < 4096) (c : Fin 1536) (hc : (c : ℕ) = chan p h e) :
    (X (ix3 b ⟨min (n : ℕ) 4095, hn⟩ c) : EReal) = X (ix3 b n (chan p h e)) := by
  have e1 : (⟨min (n : ℕ) 4095, hn⟩ : Fin 4096) = n := Fin.ext (Nat.min_eq_left (by omega))
  rw [e1, Fin.ext hc]

theorem bias_val (B : FVec Ideal S4x8x15x31 .f32) (h : Fin 8) (i : Fin 15) (j : Fin 31) (hi : min (i : ℕ) 14 < 15)
    (hj : min (j : ℕ) 30 < 31) : (B (ix4 0 h ⟨min (i : ℕ) 14, hi⟩ ⟨min (j : ℕ) 30, hj⟩) : EReal) = B (ix4 0 h i j) := by
  have e1 : (⟨min (i : ℕ) 14, hi⟩ : Fin 15) = i := Fin.ext (Nat.min_eq_left (by omega))
  have e2 : (⟨min (j : ℕ) 30, hj⟩ : Fin 31) = j := Fin.ext (Nat.min_eq_left (by omega))
  rw [e1, e2]

theorem scoreLoc_at (b : Fin 16) (r : Fin 64) (h : Fin 8) (c : Fin 64) (k : Fin 128) :
    (res_main_v105 V0 (ix5 b r h c ⟨k, by omega⟩) : EReal) = scoreLoc (argX V0) (argB V0) b h r c k := by
  pointwise [res_main_v105]
  rw [gather_bias]
  simp only [gather_token]
  pointwise [query_at, token_word]
  simp only [biasRow_word V0 r k, biasCol_word V0 c k]
  refine Ideal.add_congr (Ideal.mul_congr (Finset.sum_congr rfl fun e _ => Ideal.mul_congr rfl ?_) rfl) ?_
  · exact token_val (argX V0) b (tok (nbRow r k) (nbCol c k)) 1 h e _ _ (by simp [chan])
  · exact bias_val (argB V0) h (biasRow r k) (biasCol c k) _ _

theorem scoreCtx_at (b : Fin 16) (r : Fin 64) (h : Fin 8) (c : Fin 64) (t : Fin 256) (ht : 128 + (t : ℕ) < 384) :
    (res_main_v105 V0 (ix5 b r h c ⟨128 + t, ht⟩) : EReal) = scoreCtx (argX V0) (argC V0) b h r c t := by
  pointwise [res_main_v105]
  pointwise [query_at]
  exact Ideal.mul_congr (Finset.sum_congr rfl fun e _ => mul_comm _ _) rfl

end Cert.ReferenceIdeal.Row

end
-- ==== Proof.RefRow.lean ====
/- The reference's result read at an index. -/
module

public import proofs.«01_k».proof.Proof.RefScores

@[expose] public section

set_option maxRecDepth 16384

noncomputable section

namespace Cert.ReferenceIdeal.Row

open Idealize.ShloMosaic.StableHlo Cert.ReferenceIdeal Cert.ReferenceIdeal.Gen Cert.ReferenceIdeal.Value Cert.ReferenceIdeal.Tables
open Cert.Attention Idealize.ShloMosaic Idealize.ShloMosaic.TcCoe Idealize.SL.Sem

/-- The scores' array: 128 neighbours, then 256 context keys. -/
abbrev Scores := FVec Ideal S16x64x8x64x384 .f32

/-- The greatest score of every row. -/
def rowMax (s : Scores) : FVec Ideal S16x64x8x64 .f32 :=
  Host.reduce FloatOps.maximumf s (constant S_ .f32 0xFF800000#32) reducesTo_S16x64x8x64x384_S16x64x8x64_d4 h_S_

/-- The exponentials of the scores, shifted by a number per row. -/
def weights (s : Scores) (m : FVec Ideal S16x64x8x64 .f32) : Scores :=
  Host.exp (subf s (broadcastInDim S16x64x8x64x384 ![0, 1, 2, 3, 4] bcast_S16x64x8x64x1_S16x64x8x64x384_0_1_2_3_4 (broadcastInDim S16x64x8x64x1 ![0, 1, 2, 3] bcast_S16x64x8x64_S16x64x8x64x1_0_1_2_3 (maximumf (broadcastInDim S16x64x8x64 ![] bcast_S_S16x64x8x64 (constant S_ .f32 0xFF800000#32)) m))))

/-- The weights over their sum. -/
def normals (w : Scores) : Scores :=
  Host.divf w (broadcastInDim S16x64x8x64x384 ![0, 1, 2, 3, 4] bcast_S16x64x8x64x1_S16x64x8x64x384_0_1_2_3_4 (broadcastInDim S16x64x8x64x1 ![0, 1, 2, 3] bcast_S16x64x8x64_S16x64x8x64x1_0_1_2_3 (Host.reduceAdd w (constant S_ .f32 0x00000000#32) reducesTo_S16x64x8x64x384_S16x64x8x64_d4 h_S_)))

/-- The neighbours' scores and the context keys' scores in the array. -/
abbrev locOf (s : Scores) (b : Fin 16) (r : Fin 64) (h : Fin 8) (c : Fin 64) : Fin 128 → EReal := fun k => s (ix5 b r h c ⟨k, by omega⟩)
abbrev ctxOf (s : Scores) (b : Fin 16) (r : Fin 64) (h : Fin 8) (c : Fin 64) : Fin 256 → EReal := fun t => s (ix5 b r h c ⟨128 + t, by omega⟩)

theorem rowMax_at (s : Scores) (b : Fin 16) (r : Fin 64) (h : Fin 8) (c : Fin 64) :
    (rowMax s (ix4 b r h c) : EReal) = Softmax.top (locOf s b r h c) (ctxOf s b r h c) := by
  pointwise [rowMax]
  rw [Softmax.ofBits_bot, Softmax.fold_append 128 256 rfl]
  rfl

theorem weights_at (s : Scores) (m : FVec Ideal S16x64x8x64 .f32) (b : Fin 16) (r : Fin 64) (h : Fin 8) (c : Fin 64) (k : Fin 384) :
    (weights s m (ix5 b r h c k) : EReal) = Softmax.weight (m (ix4 b r h c)) (s (ix5 b r h c k)) := by
  pointwise [weights]
  rw [Softmax.ofBits_bot]
  exact congrArg Ideal.exp (congrArg₂ (· - ·) rfl (bot_sup_eq _))

theorem sums_at (w : Scores) (b : Fin 16) (r : Fin 64) (h : Fin 8) (c : Fin 64) (k : Fin 384) :
    (normals w (ix5 b r h c k) : EReal)
      = Ideal.div (w (ix5 b r h c k)) ((∑ k, locOf w b r h c k) + ∑ t, ctxOf w b r h c t) := by
  pointwise [normals]
  rw [Fin.sum_univ_two_halves 128 256 rfl]

/-- The normalised weight of a key: of a neighbour below 128, of a context key from there. -/
theorem normals_at (s : Scores) (b : Fin 16) (r : Fin 64) (h : Fin 8) (c : Fin 64) (k : Fin 384) :
    (normals (weights s (rowMax s)) (ix5 b r h c k) : EReal)
      = Ideal.div (Softmax.weight (Softmax.top (locOf s b r h c) (ctxOf s b r h c)) (s (ix5 b r h c k)))
        (Softmax.total (locOf s b r h c) (ctxOf s b r h c)) := by
  rw [sums_at]
  simp only [locOf, ctxOf, weights_at, rowMax_at]
  rfl

/-- The weighted values, from the normalised weights and the keys' tokens. -/
def combine (n : Scores) (X : FVec Ideal S16x4096x1536 .bf16) (C : FVec Ideal S16x256x1536 .bf16)
    (T : IVec S64x64x128 32) : FVec Ideal S16x64x64x8x64 .f32 :=
  addf (Host.dotGeneral (φ₁ := .f32) (φ₂ := .f32) dot_S16x64x8x64x128_S16x64x64x128x8x64_S16x64x64x8x64_4_3_n_5_0132_0124 none (extractStridedSlice S16x64x8x64x128 ![0, 0, 0, 0, 0] n slices_S16x64x8x64x384_S16x64x8x64x128_0_0_0_0_0) (Host.gather gather_S16x4096x8x64_S64x64x128x1_S16x64x64x128x8x64_045_1_n_n_1_3_161864 (shapeCast S16x4096x8x64 (extf .f32 (extractStridedSlice S16x4096x512 ![0, 0, 1024] X slices_S16x4096x1536_S16x4096x512_0_0_1024) bitsLt_bf16_f32) shapeCasts_S16x4096x512_S16x4096x8x64) (broadcastInDim S64x64x128x1 ![0, 1, 2] bcast_S64x64x128_S64x64x128x1_0_1_2 (select (cmpi .slt T (broadcastInDim S64x64x128 ![] bcast_S_S64x64x128 (constantI S_ 32 0#32))) (addi T (broadcastInDim S64x64x128 ![] bcast_S_S64x64x128 (constantI S_ 32 4096#32))) T)))) (transpose S16x64x64x8x64 [0, 3, 4, 1, 2] (Host.dotGeneral (φ₁ := .f32) (φ₂ := .f32) dot_S16x256x8x64_S16x64x8x64x256_S16x8x64x64x64_1_4_3_13_02_02 none (shapeCast S16x256x8x64 (extf .f32 (extractStridedSlice S16x256x512 ![0, 0, 1024] C slices_S16x256x1536_S16x256x512_0_0_1024) bitsLt_bf16_f32) shapeCasts_S16x256x512_S16x256x8x64) (extractStridedSlice S16x64x8x64x256 ![0, 0, 0, 0, 128] n slices_S16x64x8x64x384_S16x64x8x64x256_0_0_0_0_128)) transposes_S16x8x64x64x64_S16x64x64x8x64_0_3_4_1_2)

/-- The reference's result. -/
def result (V0 : Valuation τ sig (Elt Ideal)) : FVec Ideal S16x4096x512 .bf16 :=
  truncf .bf16 (shapeCast S16x4096x512 (combine (normals (weights (res_main_v105 V0) (rowMax (res_main_v105 V0)))) (argX V0) (argC V0) (res_main_v45 V0)) shapeCasts_S16x64x64x8x64_S16x4096x512) bitsLt_bf16_f32

/-- The start word of a neighbour's token. -/
def word (T : IVec S64x64x128 32) (r c : Fin 64) (k : Fin 128) : BitVec 32 :=
  Scalar.select (IntOp.cmpi .slt (T (ix3 r c k)) 0#32) (IntOp.addi (T (ix3 r c k)) 4096#32) (T (ix3 r c k))

theorem combine_at (n : Scores) (X : FVec Ideal S16x4096x1536 .bf16) (C : FVec Ideal S16x256x1536 .bf16)
    (T : IVec S64x64x128 32) (b : Fin 16) (r c : Fin 64) (h : Fin 8) (e : Fin 64) :
    (combine n X C T (ix5 b r c h e) : EReal)
      = (∑ k : Fin 128, n (ix5 b r h c ⟨k, by omega⟩) *
          X (ix3 b ⟨min (word T r c k).toInt.toNat 4095, by omega⟩ (chan 2 h e)))
        + ∑ t : Fin 256, n (ix5 b r h c ⟨128 + t, by omega⟩) * C (ix3 b t (chan 2 h e)) := by
  pointwise [combine]
  simp only [gather_token]
  pointwise
  exact Ideal.add_congr rfl (Finset.sum_congr rfl fun t _ => mul_comm _ _)

theorem token_word' (V0 : Valuation τ sig (Elt Ideal)) (X : FVec Ideal S16x4096x1536 .bf16) (b : Fin 16) (r c : Fin 64) (k : Fin 128) (h : Fin 8) (e : Fin 64)
    (hn : min (word (res_main_v45 V0) r c k).toInt.toNat 4095 < 4096) :
    (X (ix3 b ⟨min (word (res_main_v45 V0) r c k).toInt.toNat 4095, hn⟩ (chan 2 h e)) : EReal)
      = X (ix3 b (tok (nbRow r k) (nbCol c k)) (chan 2 h e)) := by
  have e1 : (⟨min (word (res_main_v45 V0) r c k).toInt.toNat 4095, hn⟩ : Fin 4096) = tok (nbRow r k) (nbCol c k) := by
    apply Fin.ext
    show min (word (res_main_v45 V0) r c k).toInt.toNat 4095 = _
    rw [show (word (res_main_v45 V0) r c k).toInt.toNat = _ from token_word V0 r c k]
    omega
  rw [e1]

theorem result_at (V0 : Valuation τ sig (Elt Ideal)) (b : Fin 16) (r c : Fin 64) (h : Fin 8) (e : Fin 64) :
    (result V0 (ix3 b (tok r c) ⟨h * 64 + e, by omega⟩) : EReal) = out (argX V0) (argC V0) (argB V0) b h r c e := by
  pointwise [result, tok]
  rw [combine_at]
  simp only [normals_at]
  have h1 : locOf (res_main_v105 V0) b r h c = scoreLoc (argX V0) (argB V0) b h r c := funext fun k => scoreLoc_at V0 b r h c k
  have h2 : ctxOf (res_main_v105 V0) b r h c = scoreCtx (argX V0) (argC V0) b h r c := funext fun t => scoreCtx_at V0 b r h c t _
  rw [h1, h2]
  refine Ideal.add_congr (Finset.sum_congr rfl fun k _ => Ideal.mul_congr ?_ ?_) (Finset.sum_congr rfl fun t _ => Ideal.mul_congr ?_ rfl)
  · rw [scoreLoc_at V0 b r h c k]
  · exact (token_word' V0 (argX V0) b r c k h e _)
  · rw [scoreCtx_at V0 b r h c t]

end Cert.ReferenceIdeal.Row

end
-- ==== Proof.KernelRow.lean ====
/- One row of the kernel: 64 queries of four heads against the 512 keys of eight grid rows and the context keys.
   The four heads' queries are stacked below one another, each with the other heads' channels at zero; from the
   result every channel takes the rows of its own head. -/
module

public import proofs.«01_k».proof.Proof.Attention
public import proofs.«01_k».proof.Proof.Gen.KernelIdeal.Value
public import Idealize.ShloMosaic.Lib.Pipeline.ValueKit

@[expose] public section

set_option maxRecDepth 16384

noncomputable section

namespace Cert.KernelIdeal.Row

open Cert.KernelIdeal Cert.KernelIdeal.Gen Idealize.ShloMosaic Idealize.ShloMosaic.TcCoe Idealize.SL.Sem
open Cert.Attention

/-- The head of every channel: the channel over 64, rounded down. -/
def headOf : IVec S64x256 32 :=
  select
    (andi (cmpi .ne (subi (extui 32 (cmpi .sgt (iota .tc S64x256 32 [1] iota_S64x256_d1_w32) (broadcast S64x256 0#32)) natLt_1_32)
        (extui 32 (cmpi .slt (iota .tc S64x256 32 [1] iota_S64x256_d1_w32) (broadcast S64x256 0#32)) natLt_1_32))
      (broadcast S64x256 (Scalar.subi (Scalar.extui (Scalar.cmpi .sgt 64#32 0#32)) (Scalar.extui (Scalar.cmpi .slt 64#32 0#32)))))
      (cmpi .ne (remsi (iota .tc S64x256 32 [1] iota_S64x256_d1_w32) (broadcast S64x256 64#32)) (broadcast S64x256 0#32)))
    (subi (divsi (iota .tc S64x256 32 [1] iota_S64x256_d1_w32) (broadcast S64x256 64#32)) (broadcast S64x256 1#32))
    (divsi (iota .tc S64x256 32 [1] iota_S64x256_d1_w32) (broadcast S64x256 64#32))

/-- The queries with all channels but one head's at zero. -/
def only (a : BitVec 32) (q : FVec Ideal S64x256 .bf16) : FVec Ideal S64x256 .bf16 :=
  select (cmpi .eq headOf (broadcast S64x256 a)) q (broadcast S64x256 (Scalar.ofBits .bf16 0x0000#16))

/-- The four heads' queries below one another. -/
def stack (q : Vec Ideal S1x64x256 .bf16) : FVec Ideal S256x256 .bf16 :=
  concatenate S256x256 0 [⟨S64x256, only 0#32 (shapeCast S64x256 q shapeCasts_S1x64x256_S64x256)⟩,
    ⟨S64x256, only 1#32 (shapeCast S64x256 q shapeCasts_S1x64x256_S64x256)⟩,
    ⟨S64x256, only 2#32 (shapeCast S64x256 q shapeCasts_S1x64x256_S64x256)⟩,
    ⟨S64x256, only 3#32 (shapeCast S64x256 q shapeCasts_S1x64x256_S64x256)⟩]
    concatenates_S64x256_S64x256_S64x256_S64x256_S256x256_d0

/-- Scores against the grid's keys, and against the context's. -/
def locS (qs : FVec Ideal S256x256 .bf16) (k : Vec Ideal S1x512x256 .bf16) (bias : Vec Ideal S1x1x1x256x512 .f32) : FVec Ideal S256x512 .f32 :=
  addf (mulf (matmul (φ₁ := .bf16) (φ₂ := .bf16) dot_S256x256_S512x256_S256x512_1_1_0_0_n_n none qs (shapeCast S512x256 k shapeCasts_S1x512x256_S512x256)
      (constant S256x512 .f32 0x00000000#32)) (broadcast S256x512 (Scalar.ofBits .f32 0x3E000000#32)))
    (shapeCast S256x512 bias shapeCasts_S1x1x1x256x512_S256x512)

def ctxS (qs : FVec Ideal S256x256 .bf16) (kc : Vec Ideal S1x256x256 .bf16) : FVec Ideal S256x256 .f32 :=
  mulf (matmul (φ₁ := .bf16) (φ₂ := .bf16) dot_S256x256_S256x256_S256x256_1_1_0_0_n_n none qs (shapeCast S256x256 kc shapeCasts_S1x256x256_S256x256)
      (constant S256x256 .f32 0x00000000#32)) (broadcast S256x256 (Scalar.ofBits .f32 0x3E000000#32))

/-- The greatest score of a query. -/
def tops (s : FVec Ideal S256x512 .f32) (s' : FVec Ideal S256x256 .f32) : FVec Ideal S256x1 .f32 :=
  maximumf (shapeCast S256x1 (multiReduction .maximumf [1] S256 s 0xFF800000#32 reduces_S256x512_S256 (.inl rfl) rfl) shapeCasts_S256_S256x1)
    (shapeCast S256x1 (multiReduction .maximumf [1] S256 s' 0xFF800000#32 reduces_S256x256_S256 (.inl rfl) rfl) shapeCasts_S256_S256x1)

def locP (s : FVec Ideal S256x512 .f32) (m : FVec Ideal S256x1 .f32) : FVec Ideal S256x512 .f32 :=
  exp (subf s (broadcastTo S256x512 m broadcasts_S256x1_S256x512))

def ctxP (s : FVec Ideal S256x256 .f32) (m : FVec Ideal S256x1 .f32) : FVec Ideal S256x256 .f32 :=
  exp (subf s (broadcastTo S256x256 m broadcasts_S256x1_S256x256))

/-- The weighted values over the weights' sum. -/
def mix (p : FVec Ideal S256x512 .f32) (p' : FVec Ideal S256x256 .f32) (v : Vec Ideal S1x512x256 .bf16) (vc : Vec Ideal S1x256x256 .bf16) :
    FVec Ideal S256x256 .f32 :=
  divf (addf (matmul (φ₁ := .bf16) (φ₂ := .bf16) dot_S256x512_S512x256_S256x256_1_0_0_1_n_n none (truncf .bf16 p bitsLt_bf16_f32) (shapeCast S512x256 v shapeCasts_S1x512x256_S512x256)
        (constant S256x256 .f32 0x00000000#32))
      (matmul (φ₁ := .bf16) (φ₂ := .bf16) dot_S256x256_S256x256_S256x256_1_0_0_1_n_n none (truncf .bf16 p' bitsLt_bf16_f32) (shapeCast S256x256 vc shapeCasts_S1x256x256_S256x256)
        (constant S256x256 .f32 0x00000000#32)))
    (broadcastTo S256x256 (addf
      (shapeCast S256x1 (multiReduction .add [1] S256 p 0x00000000#32 reduces_S256x512_S256 (.inl rfl) rfl) shapeCasts_S256_S256x1)
      (shapeCast S256x1 (multiReduction .add [1] S256 p' 0x00000000#32 reduces_S256x256_S256 (.inl rfl) rfl) shapeCasts_S256_S256x1))
      broadcasts_S256x1_S256x256)

/-- The stacked result. -/
def attend (qs : FVec Ideal S256x256 .bf16) (k v : Vec Ideal S1x512x256 .bf16) (kc vc : Vec Ideal S1x256x256 .bf16)
    (bias : Vec Ideal S1x1x1x256x512 .f32) : FVec Ideal S256x256 .f32 :=
  mix (locP (locS qs k bias) (tops (locS qs k bias) (ctxS qs kc))) (ctxP (ctxS qs kc) (tops (locS qs k bias) (ctxS qs kc))) v vc

/-- Every channel from its own head's rows. -/
def unstack (o : FVec Ideal S256x256 .f32) : FVec Ideal S1x64x256 .bf16 :=
  shapeCast S1x64x256 (truncf .bf16
    (select (cmpi .eq headOf (broadcast S64x256 3#32)) (extractStridedSlice S64x256 ![192, 0] o slices_S256x256_o192_0_S64x256)
      (select (cmpi .eq headOf (broadcast S64x256 2#32)) (extractStridedSlice S64x256 ![128, 0] o slices_S256x256_o128_0_S64x256)
        (select (cmpi .eq headOf (broadcast S64x256 1#32)) (extractStridedSlice S64x256 ![64, 0] o slices_S256x256_o64_0_S64x256)
          (select (cmpi .eq headOf (broadcast S64x256 0#32)) (extractStridedSlice S64x256 ![0, 0] o slices_S256x256_o0_0_S64x256)
            (broadcast S64x256 (Scalar.ofBits .f32 0x00000000#32))))))
    bitsLt_bf16_f32) shapeCasts_S64x256_S1x64x256

/-- One row of the kernel. -/
def row (q : Vec Ideal S1x64x256 .bf16) (k v : Vec Ideal S1x512x256 .bf16) (kc vc : Vec Ideal S1x256x256 .bf16)
    (bias : Vec Ideal S1x1x1x256x512 .f32) : FVec Ideal S1x64x256 .bf16 :=
  unstack (attend (stack q) k v kc vc bias)

theorem stack_eq (q : Vec Ideal S1x64x256 .bf16) : k0_pay15 q = stack q := rfl

theorem attend_eq (qs : FVec Ideal S256x256 .bf16) (k v : Vec Ideal S1x512x256 .bf16) (kc vc : Vec Ideal S1x256x256 .bf16)
    (bias : Vec Ideal S1x1x1x256x512 .f32) : k0_pay16 (k0_pay1 kc) (k0_pay2 vc) qs k v bias = attend qs k v kc vc bias := rfl

theorem unstack_eq (o : FVec Ideal S256x256 .f32) :
    k0_pay18 (k0_pay17 o (iota .tc S64x256 32 [1] iota_S64x256_d1_w32) 64#32) = unstack o := rfl

/-- A channel's head. -/
theorem headOf_at (w : Fin 64) (d : Fin 256) : headOf (ix2 w d) = BitVec.ofNat 32 (d / 64) := by
  pointwise [headOf]
  revert d
  decide +kernel

theorem head_eq (d : Fin 256) (a : Fin 4) : (BitVec.ofNat 32 (d / 64) = BitVec.ofNat 32 a) ↔ (d : ℕ) / 64 = a := by
  revert d a
  decide +kernel

theorem select_word (x y : BitVec 32) (a b : EReal) : Scalar.select (IntOp.cmpi .eq x y) a b = if x = y then a else b := by
  have h : IntOp.cmpi .eq x y = if x = y then 1#1 else 0#1 := by
    by_cases e : x = y
    · subst e
      simp [IntOp.cmpi]
    · rw [if_neg e]
      show BitVec.ofBool (x == y) = _
      rw [beq_eq_false_iff_ne.mpr e]
      rfl
  unfold Scalar.select
  rw [h]
  by_cases e : x = y <;> simp [e]

theorem only_at (a : Fin 4) (q : FVec Ideal S64x256 .bf16) (w : Fin 64) (d : Fin 256) :
    (only (BitVec.ofNat 32 a) q (ix2 w d) : EReal) = if (d : ℕ) / 64 = a then (q (ix2 w d) : EReal) else 0 := by
  pointwise [only, headOf_at]
  rw [select_word]
  exact if_congr (head_eq d a) rfl rfl

theorem stack_at (q : Vec Ideal S1x64x256 .bf16) (a : Fin 4) (w : Fin 64) (d : Fin 256) :
    (stack q (ix2 ⟨a * 64 + w, by omega⟩ d) : EReal) = if (d : ℕ) / 64 = a then (q (ix3 0 w d) : EReal) else 0 := by
  have h0 := fun w' => only_at 0 (shapeCast S64x256 q shapeCasts_S1x64x256_S64x256) w' d
  have h1 := fun w' => only_at 1 (shapeCast S64x256 q shapeCasts_S1x64x256_S64x256) w' d
  have h2 := fun w' => only_at 2 (shapeCast S64x256 q shapeCasts_S1x64x256_S64x256) w' d
  have h3 := fun w' => only_at 3 (shapeCast S64x256 q shapeCasts_S1x64x256_S64x256) w' d
  pointwise [stack]
  fin_cases a
  · rw [dif_pos (by show 0 * 64 + (w : ℕ) < 64; omega)]
    have e : (⟨0 * 64 + (w : ℕ), by omega⟩ : Fin 64) = w := Fin.ext (by simp)
    refine (h0 ⟨0 * 64 + (w : ℕ), by omega⟩).trans ?_
    rw [e]
    pointwise
  · rw [dif_neg (by show ¬ (1 * 64 + (w : ℕ) < 64); omega), dif_pos (by show 1 * 64 + (w : ℕ) - 64 < 64; omega)]
    have e : (⟨1 * 64 + (w : ℕ) - 64, by omega⟩ : Fin 64) = w := Fin.ext (by simp)
    refine (h1 ⟨1 * 64 + (w : ℕ) - 64, by omega⟩).trans ?_
    rw [e]
    pointwise
  · rw [dif_neg (by show ¬ (2 * 64 + (w : ℕ) < 64); omega), dif_neg (by show ¬ (2 * 64 + (w : ℕ) - 64 < 64); omega),
      dif_pos (by show 2 * 64 + (w : ℕ) - 64 - 64 < 64; omega)]
    have e : (⟨2 * 64 + (w : ℕ) - 64 - 64, by omega⟩ : Fin 64) = w := Fin.ext (by show 2 * 64 + (w : ℕ) - 64 - 64 = w; omega)
    refine (h2 ⟨2 * 64 + (w : ℕ) - 64 - 64, by omega⟩).trans ?_
    rw [e]
    pointwise
  · rw [dif_neg (by show ¬ (3 * 64 + (w : ℕ) < 64); omega), dif_neg (by show ¬ (3 * 64 + (w : ℕ) - 64 < 64); omega),
      dif_neg (by show ¬ (3 * 64 + (w : ℕ) - 64 - 64 < 64); omega)]
    have e : (⟨3 * 64 + (w : ℕ) - 64 - 64 - 64, by omega⟩ : Fin 64) = w := Fin.ext (by show 3 * 64 + (w : ℕ) - 64 - 64 - 64 = w; omega)
    refine (h3 ⟨3 * 64 + (w : ℕ) - 64 - 64 - 64, by omega⟩).trans ?_
    rw [e]
    pointwise

theorem locS_at (qs : FVec Ideal S256x256 .bf16) (k : Vec Ideal S1x512x256 .bf16) (bias : Vec Ideal S1x1x1x256x512 .f32)
    (i : Fin 256) (j : Fin 512) :
    (locS qs k bias (ix2 i j) : EReal) = (∑ d : Fin 256, (qs (ix2 i d) : EReal) * k (ix3 0 j d)) * scale + bias (ix5 0 0 0 i j) := by
  pointwise [locS]
  rfl

theorem ctxS_at (qs : FVec Ideal S256x256 .bf16) (kc : Vec Ideal S1x256x256 .bf16) (i j : Fin 256) :
    (ctxS qs kc (ix2 i j) : EReal) = (∑ d : Fin 256, (qs (ix2 i d) : EReal) * kc (ix3 0 j d)) * scale := by
  pointwise [ctxS]
  rfl

theorem tops_at (s : FVec Ideal S256x512 .f32) (s' : FVec Ideal S256x256 .f32) (i : Fin 256) :
    (tops s s' (ix2 i 0) : EReal) = Softmax.top (fun k : Fin 512 => (s (ix2 i k) : EReal)) (fun t : Fin 256 => (s' (ix2 i t) : EReal)) := by
  pointwise [tops]
  rw [Softmax.ofBits_bot]
  rfl

theorem locP_at (s : FVec Ideal S256x512 .f32) (m : FVec Ideal S256x1 .f32) (i : Fin 256) (j : Fin 512) :
    (locP s m (ix2 i j) : EReal) = Softmax.weight (m (ix2 i 0)) (s (ix2 i j)) := by
  pointwise [locP]
  rfl

theorem ctxP_at (s : FVec Ideal S256x256 .f32) (m : FVec Ideal S256x1 .f32) (i j : Fin 256) :
    (ctxP s m (ix2 i j) : EReal) = Softmax.weight (m (ix2 i 0)) (s (ix2 i j)) := by
  pointwise [ctxP]
  rfl

theorem mix_at (p : FVec Ideal S256x512 .f32) (p' : FVec Ideal S256x256 .f32) (v : Vec Ideal S1x512x256 .bf16) (vc : Vec Ideal S1x256x256 .bf16)
    (i j : Fin 256) :
    (mix p p' v vc (ix2 i j) : EReal)
      = Ideal.div ((∑ k : Fin 512, (p (ix2 i k) : EReal) * v (ix3 0 k j)) + ∑ t : Fin 256, (p' (ix2 i t) : EReal) * vc (ix3 0 t j))
        ((∑ k : Fin 512, (p (ix2 i k) : EReal)) + ∑ t : Fin 256, (p' (ix2 i t) : EReal)) := by
  pointwise [mix]

theorem unstack_at (o : FVec Ideal S256x256 .f32) (w : Fin 64) (a : Fin 4) (e : Fin 64) :
    (unstack o (ix3 0 w ⟨a * 64 + e, by omega⟩) : EReal) = o (ix2 ⟨a * 64 + w, by omega⟩ ⟨a * 64 + e, by omega⟩) := by
  pointwise [unstack, headOf_at]
  have he : ((a : ℕ) * 64 + e) / 64 = a := by omega
  rw [he]
  fin_cases a
  · change (o (ix2 ⟨(w : ℕ), by omega⟩ ⟨0 * 64 + (e : ℕ), by omega⟩) : EReal) = _
    exact congrArg o (congrArg₂ ix2 (Fin.ext (by simp)) rfl)
  · rfl
  · rfl
  · rfl

/-- The sum over all channels of a product that is zero off one head is the sum over the head's channels. -/
theorem sum_head (a : Fin 4) (f g : Fin 256 → EReal) :
    (∑ d : Fin 256, (if (d : ℕ) / 64 = a then f d else 0) * g d)
      = ∑ e : Fin 64, f ⟨a * 64 + e, by omega⟩ * g ⟨a * 64 + e, by omega⟩ := by
  rw [← (finProdFinEquiv : Fin 4 × Fin 64 ≃ Fin 256).sum_comp, Fintype.sum_prod_type, Finset.sum_eq_single a]
  · refine Finset.sum_congr rfl fun e _ => ?_
    have h : (finProdFinEquiv (a, e) : Fin 256) = ⟨a * 64 + e, by omega⟩ := Fin.ext (by simp [finProdFinEquiv]; omega)
    rw [h, if_pos (by show ((a : ℕ) * 64 + e) / 64 = a; omega)]
  · intro b _ hb
    refine Finset.sum_eq_zero fun e _ => ?_
    rw [if_neg, zero_mul]
    intro h
    apply hb
    apply Fin.ext
    rw [← h]
    simp [finProdFinEquiv]
    omega
  · intro h
    exact absurd (Finset.mem_univ _) h

/-- One row of the kernel at an index: the softmax over the 512 keys of the eight rows and the context keys. -/
theorem row_at (q : Vec Ideal S1x64x256 .bf16) (k v : Vec Ideal S1x512x256 .bf16) (kc vc : Vec Ideal S1x256x256 .bf16)
    (bias : Vec Ideal S1x1x1x256x512 .f32) (w : Fin 64) (a : Fin 4) (e : Fin 64) :
    (row q k v kc vc bias (ix3 0 w ⟨a * 64 + e, by omega⟩) : EReal)
      = Softmax.once
          (fun n : Fin 512 => (∑ d : Fin 64, (q (ix3 0 w ⟨a * 64 + d, by omega⟩) : EReal) * k (ix3 0 n ⟨a * 64 + d, by omega⟩)) * scale
            + bias (ix5 0 0 0 ⟨a * 64 + w, by omega⟩ n))
          (fun n : Fin 512 => (v (ix3 0 n ⟨a * 64 + e, by omega⟩) : EReal))
          (fun t : Fin 256 => (∑ d : Fin 64, (q (ix3 0 w ⟨a * 64 + d, by omega⟩) : EReal) * kc (ix3 0 t ⟨a * 64 + d, by omega⟩)) * scale)
          (fun t : Fin 256 => (vc (ix3 0 t ⟨a * 64 + e, by omega⟩) : EReal)) := by
  rw [row, unstack_at, attend, mix_at]
  simp only [locP_at, ctxP_at, tops_at]
  have h1 : ∀ n : Fin 512, (locS (stack q) k bias (ix2 ⟨a * 64 + w, by omega⟩ n) : EReal)
      = (∑ d : Fin 64, (q (ix3 0 w ⟨a * 64 + d, by omega⟩) : EReal) * k (ix3 0 n ⟨a * 64 + d, by omega⟩)) * scale
            + bias (ix5 0 0 0 ⟨a * 64 + w, by omega⟩ n) := fun n => by
    rw [locS_at]
    simp only [stack_at]
    rw [sum_head a (fun d => q (ix3 0 w d)) (fun d => k (ix3 0 n d))]
  have h2 : ∀ t : Fin 256, (ctxS (stack q) kc (ix2 ⟨a * 64 + w, by omega⟩ t) : EReal)
      = (∑ d : Fin 64, (q (ix3 0 w ⟨a * 64 + d, by omega⟩) : EReal) * kc (ix3 0 t ⟨a * 64 + d, by omega⟩)) * scale := fun t => by
    rw [ctxS_at]
    simp only [stack_at]
    rw [sum_head a (fun d => q (ix3 0 w d)) (fun d => kc (ix3 0 t d))]
  simp only [h1, h2]
  rfl

end Cert.KernelIdeal.Row

end
-- ==== Proof.KernelBlock.lean ====
/- What one grid point of the kernel writes: eight rows, each one row of the kernel over the point's blocks, read as
   entries of the argument arrays and of the table of biases. -/
module

public import proofs.«01_k».proof.Proof.KernelRow

@[expose] public section

set_option maxRecDepth 16384

noncomputable section

namespace Cert.KernelIdeal.Block

open Cert.KernelIdeal Cert.KernelIdeal.Gen Cert.KernelIdeal.Row Idealize.ShloMosaic Idealize.ShloMosaic.TcCoe Idealize.SL.Sem
open Cert.Attention

variable (m : (ℓ : Loc nD τ sig) → Buf (Elt Ideal) ℓ)

/-- The arguments. -/
abbrev argX (c : Dev nD) : FVec Ideal S16x4096x1536 .bf16 := m ((c : Thread nD τ).loc main_arg0)
abbrev argC (c : Dev nD) : FVec Ideal S16x256x1536 .bf16 := m ((c : Thread nD τ).loc main_arg1)
abbrev argB (c : Dev nD) : FVec Ideal S4x8x15x31 .f32 := m ((c : Thread nD τ).loc main_arg2)

/-- Row `rl` of the point: the loads and the row's arithmetic. -/
def piece (c : Dev nD) (t : Fin cfg0.N) (rl : Fin 8) : FVec Ideal S1x64x256 .bf16 :=
  row (View.ld (iblk m c 0 t) (Rect.unit (s := S1x512x256) (k0_off1 (BitVec.ofNat 32 rl.val)) S1x64x256.size (k0_off1_inb rl)))
    (View.ld (iblk m c 1 t) (Rect.unit (s := S1x4096x256) (k0_off2 (grid0.coords t) (BitVec.ofNat 32 rl.val)) S1x512x256.size (k0_off2_inb (grid0.coords t) rl)))
    (View.ld (iblk m c 2 t) (Rect.unit (s := S1x4096x256) (k0_off2 (grid0.coords t) (BitVec.ofNat 32 rl.val)) S1x512x256.size (k0_off2_inb (grid0.coords t) rl)))
    (iblk m c 3 t) (iblk m c 4 t)
    (View.ld (iblk m c 5 t) (Rect.unit (s := S1x1x8x256x512) (k0_off3 (grid0.coords t) (BitVec.ofNat 32 rl.val)) S1x1x1x256x512.size (k0_off3_inb (grid0.coords t) rl)))

/-- The blocks' positions. -/
theorem idx : ∀ t : Fin cfg0.N, win0_0.index t = ![t.val / 16, t.val % 8, t.val / 8 % 2] ∧ win0_1.index t = ![t.val / 16, 0, 2 + t.val / 8 % 2]
    ∧ win0_2.index t = ![t.val / 16, 0, 4 + t.val / 8 % 2] ∧ win0_3.index t = ![t.val / 16, 0, 2 + t.val / 8 % 2]
    ∧ win0_4.index t = ![t.val / 16, 0, 4 + t.val / 8 % 2] ∧ win0_5.index t = ![0, t.val / 8 % 2, 0, 0, 0]
    ∧ win0_6.index t = ![t.val / 16, t.val % 8, t.val / 8 % 2] :=
  (by decide +kernel : ∀ t : Fin grid0.N, _)

theorem lt (t : Fin cfg0.N) : t.val < 256 := lt_of_lt_of_eq t.isLt N_0

/-- The loads' offsets. -/
theorem off1 : ∀ rl : Fin 8, k0_off1 (BitVec.ofNat 32 rl.val) = ![0, rl.val * 64, 0] := by decide +kernel
theorem off2 : ∀ t : Fin cfg0.N, ∀ rl : Fin 8, k0_off2 (grid0.coords t) (BitVec.ofNat 32 rl.val) = ![0, firstRow (t.val % 8 * 8 + rl) * 64, 0] :=
  (by decide +kernel : ∀ t : Fin grid0.N, ∀ rl : Fin 8, _)
theorem off3 : ∀ t : Fin cfg0.N, ∀ rl : Fin 8, k0_off3 (grid0.coords t) (BitVec.ofNat 32 rl.val)
    = ![0, 0, firstRow (t.val % 8 * 8 + rl) + 7 - (t.val % 8 * 8 + rl), 0, 0] :=
  (by decide +kernel : ∀ t : Fin grid0.N, ∀ rl : Fin 8, _)

/-- The batch, the head and the grid row of the point's row `rl`. -/
def batch (t : Fin cfg0.N) : Fin 16 := ⟨t.val / 16, by have := lt t; omega⟩
def head (t : Fin cfg0.N) (a : Fin 4) : Fin 8 := ⟨t.val / 8 % 2 * 4 + a, by omega⟩
def gridRow (t : Fin cfg0.N) (rl : Fin 8) : Fin 64 := ⟨t.val % 8 * 8 + rl, by omega⟩

theorem query_at (c : Dev nD) (t : Fin cfg0.N) (rl : Fin 8) (w : Fin 64) (a : Fin 4) (d : Fin 64) :
    (View.ld (iblk m c 0 t) (Rect.unit (s := S1x512x256) (k0_off1 (BitVec.ofNat 32 rl.val)) S1x64x256.size (k0_off1_inb rl))
        (ix3 0 w ⟨a * 64 + d, by omega⟩) : EReal)
      = argX m c (ix3 (batch t) (tok (gridRow t rl) w) (chan 0 (head t a) d)) := by
  rw [View.ld_unit_apply_of (i := ix3 0 ⟨rl.val * 64 + w, by omega⟩ ⟨a * 64 + d, by omega⟩)]
  · have ht := lt t
    blk_point [iblk, V, idx t, batch, tok, gridRow, chan, head]
  · intro k
    refine Eq.trans ?_ (congrArg (· + _) (congrFun (off1 rl) k).symm)
    match k with
    | ⟨0, _⟩ => rfl
    | ⟨1, _⟩ => rfl
    | ⟨2, _⟩ => exact (Nat.zero_add _).symm

theorem key_at (c : Dev nD) (t : Fin cfg0.N) (rl : Fin 8) (n : Fin 512) (a : Fin 4) (d : Fin 64) :
    (View.ld (iblk m c 1 t) (Rect.unit (s := S1x4096x256) (k0_off2 (grid0.coords t) (BitVec.ofNat 32 rl.val)) S1x512x256.size (k0_off2_inb (grid0.coords t) rl))
        (ix3 0 n ⟨a * 64 + d, by omega⟩) : EReal)
      = argX m c (ix3 (batch t) ⟨firstRow (gridRow t rl) * 64 + n, by have := firstRow_le (gridRow t rl); omega⟩ (chan 1 (head t a) d)) := by
  have hr := firstRow_le (t.val % 8 * 8 + rl)
  rw [View.ld_unit_apply_of (i := ix3 0 ⟨firstRow (t.val % 8 * 8 + rl) * 64 + n, by omega⟩ ⟨a * 64 + d, by omega⟩)]
  · have ht := lt t
    blk_point [iblk, V, idx t, batch, gridRow, chan, head]
  · intro k
    refine Eq.trans ?_ (congrArg (· + _) (congrFun (off2 t rl) k).symm)
    match k with
    | ⟨0, _⟩ => rfl
    | ⟨1, _⟩ => rfl
    | ⟨2, _⟩ => exact (Nat.zero_add _).symm

theorem value_at (c : Dev nD) (t : Fin cfg0.N) (rl : Fin 8) (n : Fin 512) (a : Fin 4) (d : Fin 64) :
    (View.ld (iblk m c 2 t) (Rect.unit (s := S1x4096x256) (k0_off2 (grid0.coords t) (BitVec.ofNat 32 rl.val)) S1x512x256.size (k0_off2_inb (grid0.coords t) rl))
        (ix3 0 n ⟨a * 64 + d, by omega⟩) : EReal)
      = argX m c (ix3 (batch t) ⟨firstRow (gridRow t rl) * 64 + n, by have := firstRow_le (gridRow t rl); omega⟩ (chan 2 (head t a) d)) := by
  have hr := firstRow_le (t.val % 8 * 8 + rl)
  rw [View.ld_unit_apply_of (i := ix3 0 ⟨firstRow (t.val % 8 * 8 + rl) * 64 + n, by omega⟩ ⟨a * 64 + d, by omega⟩)]
  · have ht := lt t
    blk_point [iblk, V, idx t, batch, gridRow, chan, head]
  · intro k
    refine Eq.trans ?_ (congrArg (· + _) (congrFun (off2 t rl) k).symm)
    match k with
    | ⟨0, _⟩ => rfl
    | ⟨1, _⟩ => rfl
    | ⟨2, _⟩ => exact (Nat.zero_add _).symm

theorem ctxKey_at (c : Dev nD) (t : Fin cfg0.N) (n : Fin 256) (a : Fin 4) (d : Fin 64) :
    (iblk m c 3 t (ix3 0 n ⟨a * 64 + d, by omega⟩) : EReal) = argC m c (ix3 (batch t) n (chan 1 (head t a) d)) := by
  have ht := lt t
  blk_point [iblk, V, idx t, batch, chan, head]

theorem ctxValue_at (c : Dev nD) (t : Fin cfg0.N) (n : Fin 256) (a : Fin 4) (d : Fin 64) :
    (iblk m c 4 t (ix3 0 n ⟨a * 64 + d, by omega⟩) : EReal) = argC m c (ix3 (batch t) n (chan 2 (head t a) d)) := by
  have ht := lt t
  blk_point [iblk, V, idx t, batch, chan, head]

/-- A block of the table, for any table. -/
theorem table_block (A : FVec Ideal S4x2x8x256x512 .f32) (t : Fin cfg0.N) (d : Fin 8) (i : Fin 256) (n : Fin 512) :
    (((cfg0.win 5).blk t).view.read (Elt Ideal) A (ix5 0 0 d i n) : EReal) = A (ix5 0 ⟨t.val / 8 % 2, by omega⟩ d i n) := by
  have ht := lt t
  blk_point [idx t]

/-- The table the kernel's sixth operand holds. -/
abbrev IsTable (c : Dev nD) (A : FVec Ideal S4x2x8x256x512 .f32) : Prop := V m c (Pipeline.arrRef spec0 5) = A

theorem bias_at (c : Dev nD) (A : FVec Ideal S4x2x8x256x512 .f32) (hA : IsTable m c A) (t : Fin cfg0.N) (rl : Fin 8) (i : Fin 256) (n : Fin 512) :
    (View.ld (iblk m c 5 t) (Rect.unit (s := S1x1x8x256x512) (k0_off3 (grid0.coords t) (BitVec.ofNat 32 rl.val)) S1x1x1x256x512.size (k0_off3_inb (grid0.coords t) rl))
        (ix5 0 0 0 i n) : EReal)
      = A (ix5 0 ⟨t.val / 8 % 2, by omega⟩ ⟨firstRow (gridRow t rl) + 7 - gridRow t rl, by unfold firstRow; omega⟩ i n) := by
  have hr : firstRow (t.val % 8 * 8 + rl) + 7 - (t.val % 8 * 8 + rl) < 8 := by unfold firstRow; omega
  unfold iblk
  rw [hA]
  rw [View.ld_unit_apply_of (i := ix5 0 0 ⟨firstRow (t.val % 8 * 8 + rl) + 7 - (t.val % 8 * 8 + rl), hr⟩ i n)]
  · exact table_block A t _ i n
  · intro k
    refine Eq.trans ?_ (congrArg (· + _) (congrFun (off3 t rl) k).symm)
    match k with
    | ⟨0, _⟩ => rfl
    | ⟨1, _⟩ => rfl
    | ⟨2, _⟩ => rfl
    | ⟨3, _⟩ => exact (Nat.zero_add _).symm
    | ⟨4, _⟩ => exact (Nat.zero_add _).symm

theorem point_eq (c : Dev nD) (t : Fin cfg0.N) (y : S1x512x256.Idx) (G : S1x512x256.Idx → EReal)
    (hG : ∀ (rl : Fin 8) (x : S1x64x256.Idx), (y 1 : ℕ) = rl.val * 64 + x 1 → (y 2 : ℕ) = x 2 → (piece m c t rl x : EReal) = G y) :
    (outsAt0 m c t y : EReal) = G y := by
  unfold outsAt0
  frame_out
  canon_tiles x h
  case piece0 => exact Eq.trans (congrFun (show _ = piece m c t 7 from rfl) x) (hG 7 x (by rw [h1]; rfl) h2)
  case piece1 => exact Eq.trans (congrFun (show _ = piece m c t 6 from rfl) x) (hG 6 x (by rw [h1]; rfl) h2)
  case piece2 => exact Eq.trans (congrFun (show _ = piece m c t 5 from rfl) x) (hG 5 x (by rw [h1]; rfl) h2)
  case piece3 => exact Eq.trans (congrFun (show _ = piece m c t 4 from rfl) x) (hG 4 x (by rw [h1]; rfl) h2)
  case piece4 => exact Eq.trans (congrFun (show _ = piece m c t 3 from rfl) x) (hG 3 x (by rw [h1]; rfl) h2)
  case piece5 => exact Eq.trans (congrFun (show _ = piece m c t 2 from rfl) x) (hG 2 x (by rw [h1]; rfl) h2)
  case piece6 => exact Eq.trans (congrFun (show _ = piece m c t 1 from rfl) x) (hG 1 x (by rw [h1]; rfl) h2)
  case piece7 => exact Eq.trans (congrFun (show _ = piece m c t 0 from rfl) x) (hG 0 x (by rw [h1]; simp) h2)

end Cert.KernelIdeal.Block

end
-- ==== Proof.KernelTable.lean ====
/- The table of biases the program computes before the call, read at an index: the bias of a query column and a key
   column inside the window, minus infinity outside. -/
module

public import proofs.«01_k».proof.Proof.Attention
public import proofs.«01_k».proof.Proof.Softmax
public import proofs.«01_k».proof.Proof.Gen.KernelIdeal.Value
public import Idealize.ShloMosaic.Lib.Pipeline.ValueKit

@[expose] public section

set_option maxRecDepth 16384

noncomputable section

namespace Cert.KernelIdeal.Table

open Cert.KernelIdeal Cert.KernelIdeal.Gen Idealize.ShloMosaic Idealize.ShloMosaic.TcCoe Idealize.SL.Sem
open Cert.Attention

/-- The first key column of every query column. -/
def firstCols : IVec S64 32 :=
  minsi (broadcastInDim S64 ![] bcast_S_S64 (constantI S_ 32 48#32))
    (maxsi (broadcastInDim S64 ![] bcast_S_S64 (constantI S_ 32 0#32))
      (subi (iotaInDim S64 32 0) (broadcastInDim S64 ![] bcast_S_S64 (constantI S_ 32 8#32))))

/-- Whether a key column is in the window of a query column. -/
def valid : IVec S64x64 1 :=
  andi (cmpi .sge (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (broadcastInDim S64x1 ![0] bcast_S64_S64x1_0 firstCols)))
    (cmpi .slt (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (addi (broadcastInDim S64x1 ![0] bcast_S64_S64x1_0 firstCols)
        (broadcastInDim S64x1 ![] bcast_S_S64x1 (constantI S_ 32 16#32)))))

/-- The bias column of a query column and a key column. -/
def offsets : IVec S64x64 32 :=
  subi (addi (subi (broadcastInDim S64x64 ![0, 1] bcast_S1x64_S64x64_0_1 (broadcastInDim S1x64 ![1] bcast_S64_S1x64_1 (iotaInDim S64 32 0)))
        (broadcastInDim S64x64 ![0, 1] bcast_S64x1_S64x64_0_1 (broadcastInDim S64x1 ![0] bcast_S64_S64x1_0 (iotaInDim S64 32 0))))
      (broadcastInDim S64x64 ![] bcast_S_S64x64 (constantI S_ 32 16#32)))
    (broadcastInDim S64x64 ![] bcast_S_S64x64 (constantI S_ 32 1#32))

/-- Which bias column it is. -/
def picks : IVec S31x64x64 1 :=
  andi (cmpi .eq (broadcastInDim S31x64x64 ![0, 1, 2] bcast_S31x1x1_S31x64x64_0_1_2 (broadcastInDim S31x1x1 ![0] bcast_S31_S31x1x1_0 (iotaInDim S31 32 0)))
      (broadcastInDim S31x64x64 ![0, 1, 2] bcast_S1x64x64_S31x64x64_0_1_2 (broadcastInDim S1x64x64 ![1, 2] bcast_S64x64_S1x64x64_1_2 offsets)))
    (broadcastInDim S31x64x64 ![0, 1, 2] bcast_S1x64x64_S31x64x64_0_1_2 (broadcastInDim S1x64x64 ![1, 2] bcast_S64x64_S1x64x64_1_2 valid))

/-- The biases by query column and key column. -/
def biases (B : FVec Ideal S4x8x15x31 .f32) : FVec Ideal S4x8x15x64x64 .f32 :=
  select (broadcastInDim S4x8x15x64x64 ![0, 1, 2, 3, 4] bcast_S1x1x1x64x64_S4x8x15x64x64_0_1_2_3_4
      (broadcastInDim S1x1x1x64x64 ![3, 4] bcast_S64x64_S1x1x1x64x64_3_4 valid))
    (Host.dotGeneral (φ₁ := .f32) (φ₂ := .f32) dot_S4x8x15x31_S31x64x64_S4x8x15x64x64_3_0_012_12_n_n (some .fp32) B (uitofp .f32 picks))
    (broadcastInDim S4x8x15x64x64 ![] bcast_S_S4x8x15x64x64 (constant S_ .f32 0xFF800000#32))

/-- Eight rows of biases in a row, from every first row. -/
def rows (T : FVec Ideal S4x8x15x64x64 .f32) : FVec Ideal S4x8x8x8x64x64 .f32 :=
  concatenate S4x8x8x8x64x64 2
    [⟨S4x8x1x8x64x64, broadcastInDim S4x8x1x8x64x64 ![0, 1, 3, 4, 5] bcast_S4x8x8x64x64_S4x8x1x8x64x64_0_1_3_4_5 (extractStridedSlice S4x8x8x64x64 ![0, 0, 0, 0, 0] T slices_S4x8x15x64x64_S4x8x8x64x64_0_0_0_0_0)⟩,
     ⟨S4x8x1x8x64x64, broadcastInDim S4x8x1x8x64x64 ![0, 1, 3, 4, 5] bcast_S4x8x8x64x64_S4x8x1x8x64x64_0_1_3_4_5 (extractStridedSlice S4x8x8x64x64 ![0, 0, 1, 0, 0] T slices_S4x8x15x64x64_S4x8x8x64x64_0_0_1_0_0)⟩,
     ⟨S4x8x1x8x64x64, broadcastInDim S4x8x1x8x64x64 ![0, 1, 3, 4, 5] bcast_S4x8x8x64x64_S4x8x1x8x64x64_0_1_3_4_5 (extractStridedSlice S4x8x8x64x64 ![0, 0, 2, 0, 0] T slices_S4x8x15x64x64_S4x8x8x64x64_0_0_2_0_0)⟩,
     ⟨S4x8x1x8x64x64, broadcastInDim S4x8x1x8x64x64 ![0, 1, 3, 4, 5] bcast_S4x8x8x64x64_S4x8x1x8x64x64_0_1_3_4_5 (extractStridedSlice S4x8x8x64x64 ![0, 0, 3, 0, 0] T slices_S4x8x15x64x64_S4x8x8x64x64_0_0_3_0_0)⟩,
     ⟨S4x8x1x8x64x64, broadcastInDim S4x8x1x8x64x64 ![0, 1, 3, 4, 5] bcast_S4x8x8x64x64_S4x8x1x8x64x64_0_1_3_4_5 (extractStridedSlice S4x8x8x64x64 ![0, 0, 4, 0, 0] T slices_S4x8x15x64x64_S4x8x8x64x64_0_0_4_0_0)⟩,
     ⟨S4x8x1x8x64x64, broadcastInDim S4x8x1x8x64x64 ![0, 1, 3, 4, 5] bcast_S4x8x8x64x64_S4x8x1x8x64x64_0_1_3_4_5 (extractStridedSlice S4x8x8x64x64 ![0, 0, 5, 0, 0] T slices_S4x8x15x64x64_S4x8x8x64x64_0_0_5_0_0)⟩,
     ⟨S4x8x1x8x64x64, broadcastInDim S4x8x1x8x64x64 ![0, 1, 3, 4, 5] bcast_S4x8x8x64x64_S4x8x1x8x64x64_0_1_3_4_5 (extractStridedSlice S4x8x8x64x64 ![0, 0, 6, 0, 0] T slices_S4x8x15x64x64_S4x8x8x64x64_0_0_6_0_0)⟩,
     ⟨S4x8x1x8x64x64, broadcastInDim S4x8x1x8x64x64 ![0, 1, 3, 4, 5] bcast_S4x8x8x64x64_S4x8x1x8x64x64_0_1_3_4_5 (extractStridedSlice S4x8x8x64x64 ![0, 0, 7, 0, 0] T slices_S4x8x15x64x64_S4x8x8x64x64_0_0_7_0_0)⟩]
    concatenates_S4x8x1x8x64x64_S4x8x1x8x64x64_S4x8x1x8x64x64_S4x8x1x8x64x64_S4x8x1x8x64x64_S4x8x1x8x64x64_S4x8x1x8x64x64_S4x8x1x8x64x64_S4x8x8x8x64x64_d2

/-- The rows laid out as the kernel's blocks read them. -/
def laid (R : FVec Ideal S4x8x8x8x64x64 .f32) : FVec Ideal S4x2x8x256x512 .f32 :=
  shapeCast S4x2x8x256x512 (transpose S4x2x8x4x64x512 [0, 1, 3, 2, 4, 5] (shapeCast S4x2x4x8x64x512
      (transpose S4x8x8x64x8x64 [0, 1, 2, 4, 3, 5] R transposes_S4x8x8x8x64x64_S4x8x8x64x8x64_0_1_2_4_3_5)
      shapeCasts_S4x8x8x64x8x64_S4x2x4x8x64x512) transposes_S4x2x4x8x64x512_S4x2x8x4x64x512_0_1_3_2_4_5)
    shapeCasts_S4x2x8x4x64x512_S4x2x8x256x512

def table (B : FVec Ideal S4x8x15x31 .f32) : FVec Ideal S4x2x8x256x512 .f32 := laid (rows (biases B))

theorem firstCols_at (c : Fin 64) : firstCols (ix1 c) = BitVec.ofNat 32 (firstCol c) := by
  pointwise [firstCols]
  unfold firstCol
  revert c
  decide +kernel

theorem valid_at (c k : Fin 64) : valid (ix2 c k) = if firstCol c ≤ k ∧ (k : ℕ) < firstCol c + 16 then 1#1 else 0#1 := by
  pointwise [valid, firstCols_at]
  unfold firstCol
  revert c k
  decide +kernel

theorem picks_at (d : Fin 31) (c k : Fin 64) :
    picks (ix3 d c k) = if (firstCol c ≤ k ∧ (k : ℕ) < firstCol c + 16) ∧ (d : ℕ) = k + 15 - c then 1#1 else 0#1 := by
  have ho : offsets (ix2 c k) = BitVec.ofNat 32 k - BitVec.ofNat 32 c + 16#32 - 1#32 := by
    pointwise [offsets]
    rfl
  pointwise [picks, valid_at, ho]
  unfold firstCol
  revert d c k
  decide +kernel

theorem uitofp_zero : (FloatOps.uitofp (F := Ideal) FTy.f32 (0#1) : EReal) = 0 := by
  change ((((0#1 : BitVec 1).toNat : ℝ) : EReal)) = 0
  simp

theorem uitofp_one : (FloatOps.uitofp (F := Ideal) FTy.f32 (1#1) : EReal) = 1 := by
  change ((((1#1 : BitVec 1).toNat : ℝ) : EReal)) = 1
  simp

theorem biases_at (B : FVec Ideal S4x8x15x31 .f32) (h : Fin 8) (d : Fin 15) (c k : Fin 64) :
    (biases B (ix5 0 h d c k) : EReal)
      = if hk : firstCol c ≤ k ∧ (k : ℕ) < firstCol c + 16 then B (ix4 0 h d ⟨k + 15 - c, by unfold firstCol at hk; omega⟩) else ⊥ := by
  pointwise [biases, valid_at, picks_at]
  by_cases hk : firstCol c ≤ k ∧ (k : ℕ) < firstCol c + 16
  · have hd : (k : ℕ) + 15 - c < 31 := by unfold firstCol at hk; omega
    rw [if_pos hk, dif_pos hk]
    change (∑ x : Fin 31, (B (ix4 0 h d x) : EReal) * (FloatOps.uitofp (F := Ideal) FTy.f32 (if (firstCol c ≤ k ∧ (k : ℕ) < firstCol c + 16) ∧ (x : ℕ) = k + 15 - c then 1#1 else 0#1) : EReal)) = _
    refine Eq.trans (Finset.sum_eq_single (⟨k + 15 - c, hd⟩ : Fin 31) (fun x _ hx => ?_) (fun h => absurd (Finset.mem_univ _) h)) ?_
    · rw [if_neg (fun h => hx (Fin.ext h.2))]
      exact Eq.trans (congrArg (_ * ·) uitofp_zero) (mul_zero _)
    · rw [if_pos ⟨hk, rfl⟩]
      exact Eq.trans (congrArg (_ * ·) uitofp_one) (mul_one _)
  · rw [if_neg hk, dif_neg hk]
    exact Softmax.ofBits_bot

theorem rows_at (T : FVec Ideal S4x8x15x64x64 .f32) (h : Fin 8) (d i : Fin 8) (c k : Fin 64) :
    (rows T (ix6 0 h d i c k) : EReal) = T (ix5 0 h ⟨d + i, by omega⟩ c k) := by
  pointwise [rows]
  match d with
  | ⟨0, _⟩ | ⟨1, _⟩ | ⟨2, _⟩ | ⟨3, _⟩ | ⟨4, _⟩ | ⟨5, _⟩ | ⟨6, _⟩ | ⟨7, _⟩ => simp

theorem laid_at (R : FVec Ideal S4x8x8x8x64x64 .f32) (j : Fin 2) (a : Fin 4) (d i : Fin 8) (c k : Fin 64) :
    (laid R (ix5 0 j d ⟨a * 64 + c, by omega⟩ ⟨i * 64 + k, by omega⟩) : EReal) = R (ix6 0 ⟨j * 4 + a, by omega⟩ d i c k) := by
  pointwise [laid]

theorem table_at (B : FVec Ideal S4x8x15x31 .f32) (j : Fin 2) (a : Fin 4) (d i : Fin 8) (c k : Fin 64) :
    (table B (ix5 0 j d ⟨a * 64 + c, by omega⟩ ⟨i * 64 + k, by omega⟩) : EReal)
      = if hk : firstCol c ≤ k ∧ (k : ℕ) < firstCol c + 16 then
          B (ix4 0 ⟨j * 4 + a, by omega⟩ ⟨d + i, by omega⟩ ⟨k + 15 - c, by unfold firstCol at hk; omega⟩) else ⊥ := by
  unfold table
  exact (laid_at _ j a d i c k).trans ((rows_at _ _ d i c k).trans (biases_at B _ _ c k))

end Cert.KernelIdeal.Table

end
-- ==== Proof.KernelValue.lean ====
/- The kernel's rows are the attention: the table's minus infinities leave the neighbours alone, and with finite scores
   one division at the end is a division of every weight. -/
module

public import proofs.«01_k».proof.Proof.KernelBlock
public import proofs.«01_k».proof.Proof.KernelTable

@[expose] public section

noncomputable section

namespace Cert.KernelIdeal.Block

open Cert.KernelIdeal Cert.KernelIdeal.Gen Cert.KernelIdeal.Row Idealize.ShloMosaic Idealize.ShloMosaic.TcCoe Idealize.SL.Sem
open Cert.Attention

variable (m : (ℓ : Loc nD τ sig) → Buf (Elt Ideal) ℓ)

/-- Neighbour `k` among the eight whole rows of keys. -/
def place (w : Fin 64) (k : Fin 128) : Fin 512 := ⟨k / 16 * 64 + (firstCol w + k % 16), by have := firstCol_le w; omega⟩

theorem place_injective (w : Fin 64) : Function.Injective (place w) := by
  intro k k' h
  have h' := congrArg Fin.val h
  have := firstCol_le w
  simp only [place] at h'
  apply Fin.ext
  omega

/-- A key is a neighbour exactly when its column is in the window. -/
theorem mem_place (w : Fin 64) (n : Fin 512) (h : firstCol w ≤ (n : ℕ) % 64 ∧ (n : ℕ) % 64 < firstCol w + 16) : n ∈ Set.range (place w) := by
  refine ⟨⟨n / 64 * 16 + (n % 64 - firstCol w), by omega⟩, Fin.ext ?_⟩
  simp only [place]
  omega

theorem table_at' (B : FVec Ideal S4x8x15x31 .f32) (j : Fin 2) (a : Fin 4) (d : Fin 8) (w : Fin 64) (n : Fin 512) :
    (Table.table B (ix5 0 j d ⟨a * 64 + w, by omega⟩ n) : EReal)
      = if hk : firstCol w ≤ (n : ℕ) % 64 ∧ (n : ℕ) % 64 < firstCol w + 16 then
          B (ix4 0 ⟨j * 4 + a, by omega⟩ ⟨d + n / 64, by omega⟩ ⟨n % 64 + 15 - w, by unfold firstCol at hk; omega⟩) else ⊥ := by
  have hn : (⟨(⟨n / 64, by omega⟩ : Fin 8) * 64 + (⟨n % 64, by omega⟩ : Fin 64), by simp only; omega⟩ : Fin 512) = n := Fin.ext (by simp only; omega)
  have h := Table.table_at B j a d ⟨n / 64, by omega⟩ w ⟨n % 64, by omega⟩
  rw [hn] at h
  exact h

/-- One softmax over the eight whole rows of keys, masked to the neighbours, is the attention. -/
theorem once_out (X : FVec Ideal S16x4096x1536 .bf16) (C : FVec Ideal S16x256x1536 .bf16) (B : FVec Ideal S4x8x15x31 .f32)
    (b : Fin 16) (h : Fin 8) (r w e : Fin 64) (hs : ∀ k, scoreLoc X B b h r w k ≠ ⊤)
    (hs' : ∀ k, scoreCtx X C b h r w k ≠ ⊤ ∧ scoreCtx X C b h r w k ≠ ⊥) (s v : Fin 512 → EReal) (s' v' : Fin 256 → EReal)
    (e1 : ∀ k, s (place w k) = scoreLoc X B b h r w k) (e0 : ∀ n, n ∉ Set.range (place w) → s n = ⊥)
    (e2 : ∀ k, v (place w k) = X (ix3 b (tok (nbRow r k) (nbCol w k)) (chan 2 h e)))
    (e3 : ∀ k, s' k = scoreCtx X C b h r w k) (e4 : ∀ k, v' k = C (ix3 b k (chan 2 h e))) :
    Softmax.once s v s' v' = out X C B b h r w e := by
  rw [Softmax.once_masked (place w) (place_injective w) s v s' v' e0, funext e1, funext e2, funext e3, funext e4]
  exact Softmax.once_eq_each _ _ _ _ hs hs'

theorem place_window (w : Fin 64) (k : Fin 128) : firstCol w ≤ (place w k : ℕ) % 64 ∧ (place w k : ℕ) % 64 < firstCol w + 16 := by
  have := firstCol_le w
  simp only [place]
  omega

theorem place_tok (r w : Fin 64) (k : Fin 128) :
    (⟨firstRow r * 64 + place w k, by have := firstRow_le r; omega⟩ : Fin 4096) = tok (nbRow r k) (nbCol w k) :=
  Fin.ext (by simp only [place, tok, nbRow, nbCol]; omega)

/-- The table at a neighbour is its bias. -/
theorem table_place (B : FVec Ideal S4x8x15x31 .f32) (j : Fin 2) (a : Fin 4) (r w : Fin 64) (k : Fin 128) :
    (Table.table B (ix5 0 j ⟨firstRow r + 7 - r, by unfold firstRow; omega⟩ ⟨a * 64 + w, by omega⟩ (place w k)) : EReal)
      = B (ix4 0 ⟨j * 4 + a, by omega⟩ (biasRow r k) (biasCol w k)) := by
  rw [table_at', dif_pos (place_window w k)]
  refine congrArg B (congrArg₂ (ix4 0 _) (Fin.ext ?_) (Fin.ext ?_))
  · have := firstCol_le w
    simp only [place, biasRow, firstRow]
    omega
  · have := firstCol_le w
    simp only [place, biasCol]
    omega

theorem piece_at (c : Dev nD) (hA : IsTable m c (Table.table (argB m c))) (t : Fin cfg0.N) (rl : Fin 8) (w : Fin 64) (a : Fin 4) (e : Fin 64)
    (hs : (∀ k, scoreLoc (argX m c) (argB m c) (batch t) (head t a) (gridRow t rl) w k ≠ ⊤))
    (hs' : ∀ k, scoreCtx (argX m c) (argC m c) (batch t) (head t a) (gridRow t rl) w k ≠ ⊤ ∧ scoreCtx (argX m c) (argC m c) (batch t) (head t a) (gridRow t rl) w k ≠ ⊥) :
    (piece m c t rl (ix3 0 w ⟨a * 64 + e, by omega⟩) : EReal)
      = out (argX m c) (argC m c) (argB m c) (batch t) (head t a) (gridRow t rl) w e := by
  unfold piece
  rw [row_at]
  refine once_out _ _ _ _ _ _ _ _ hs hs' _ _ _ _ (fun k => ?_) (fun n hn => ?_) (fun k => ?_) (fun k => ?_) (fun k => ?_)
  · refine congrArg₂ (· + ·) (congrArg (· * scale) (Finset.sum_congr rfl fun d _ => congrArg₂ (· * ·) (query_at m c t rl w a d) ?_)) ?_
    · rw [key_at, place_tok]
    · rw [bias_at m c _ hA]
      exact table_place _ _ _ _ _ _
  · rw [bias_at m c _ hA, table_at', dif_neg (fun h => hn (mem_place w n h))]
    exact EReal.add_bot _
  · rw [value_at, place_tok]
  · exact congrArg (· * scale) (Finset.sum_congr rfl fun d _ => congrArg₂ (· * ·) (query_at m c t rl w a d) (ctxKey_at m c t k a d))
  · exact ctxValue_at m c t k a e

end Cert.KernelIdeal.Block

end
-- ==== Proof.KernelEntry.lean ====
/- The kernel's sixth operand is the table: the lines of operations before the call, read one line at a time over
   whatever the line begins with. -/
module

public import proofs.«01_k».proof.Proof.KernelTable
public import Idealize.ShloMosaic.Lib.Claim

@[expose] public section

set_option maxRecDepth 16384

noncomputable section

namespace Cert.KernelIdeal.Table

open Cert.KernelIdeal Cert.KernelIdeal.Gen Idealize.ShloMosaic Idealize.ShloMosaic.TcCoe Idealize.SL.Sem
open Idealize.ShloMosaic.StableHlo

variable (W : Valuation τ sig (Elt Ideal))

theorem line0 : after hostOps0 W main_v0 = iotaInDim S64 32 0
    ∧ after hostOps0 W main_v2 = subi (iotaInDim S64 32 0) (broadcastInDim S64 ![] bcast_S_S64 (constantI S_ 32 8#32))
    ∧ after hostOps0 W main_c_0 = constantI S_ 32 0#32 ∧ after hostOps0 W main_c_1 = constantI S_ 32 48#32
    ∧ after hostOps0 W main_arg2 = W main_arg2 := by
  refine ⟨?_, ?_, ?_, ?_, ?_⟩ <;> (unfold hostOps0; after_results)

theorem line1 : after hostOps0_1 W main_v3
      = minsi (broadcastInDim S64 ![] bcast_S_S64 (W main_c_1 : IVec S_ 32)) (maxsi (broadcastInDim S64 ![] bcast_S_S64 (W main_c_0 : IVec S_ 32)) (W main_v2))
    ∧ after hostOps0_1 W main_v0 = W main_v0 ∧ after hostOps0_1 W main_arg2 = W main_arg2 := by
  refine ⟨?_, ?_, ?_⟩ <;> (unfold hostOps0_1; after_results) <;> rfl

/-- The window test from the first columns. -/
def validOf (f : IVec S64 32) : IVec S64x64 1 :=
  andi (cmpi .sge (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (broadcastInDim S64x1 ![0] bcast_S64_S64x1_0 f)))
    (cmpi .slt (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (addi (broadcastInDim S64x1 ![0] bcast_S64_S64x1_0 f)
        (broadcastInDim S64x1 ![] bcast_S_S64x1 (constantI S_ 32 16#32)))))

/-- The bias column from the query columns. -/
def offsetsOf (q : IVec S64 32) : IVec S64x64 32 :=
  subi (addi (subi (broadcastInDim S64x64 ![0, 1] bcast_S1x64_S64x64_0_1 (broadcastInDim S1x64 ![1] bcast_S64_S1x64_1 (iotaInDim S64 32 0)))
        (broadcastInDim S64x64 ![0, 1] bcast_S64x1_S64x64_0_1 (broadcastInDim S64x1 ![0] bcast_S64_S64x1_0 q)))
      (broadcastInDim S64x64 ![] bcast_S_S64x64 (constantI S_ 32 16#32)))
    (broadcastInDim S64x64 ![] bcast_S_S64x64 (constantI S_ 32 1#32))

/-- Which bias column it is, from the bias columns and the window test. -/
def picksOf (o : IVec S64x64 32) (v : IVec S64x64 1) : IVec S31x64x64 1 :=
  andi (cmpi .eq (broadcastInDim S31x64x64 ![0, 1, 2] bcast_S31x1x1_S31x64x64_0_1_2 (broadcastInDim S31x1x1 ![0] bcast_S31_S31x1x1_0 (iotaInDim S31 32 0)))
      (broadcastInDim S31x64x64 ![0, 1, 2] bcast_S1x64x64_S31x64x64_0_1_2 (broadcastInDim S1x64x64 ![1, 2] bcast_S64x64_S1x64x64_1_2 o)))
    (broadcastInDim S31x64x64 ![0, 1, 2] bcast_S1x64x64_S31x64x64_0_1_2 (broadcastInDim S1x64x64 ![1, 2] bcast_S64x64_S1x64x64_1_2 v))

set_option maxHeartbeats 2000000 in
theorem line2_v37 : after hostOps0_2 W main_v37
      = (Host.dotGeneral (φ₁ := .f32) (φ₂ := .f32) dot_S4x8x15x31_S31x64x64_S4x8x15x64x64_3_0_012_12_n_n (some .fp32) (W main_arg2 : FVec Ideal S4x8x15x31 .f32)
          (uitofp .f32 (picksOf (offsetsOf (W main_v0)) (validOf (W main_v3)))) : FVec Ideal S4x8x15x64x64 .f32) := by
  unfold hostOps0_2
  after_results
  rfl

set_option maxHeartbeats 2000000 in
theorem line2_v38 : after hostOps0_2 W main_v38 = broadcastInDim S1x1x1x64x64 ![3, 4] bcast_S64x64_S1x1x1x64x64_3_4 (validOf (W main_v3)) := by
  unfold hostOps0_2
  after_results
  rfl

theorem line2_cst : after hostOps0_2 W main_cst = constant (F := Ideal) S_ .f32 0xFF800000#32 := by
  unfold hostOps0_2
  after_results

theorem line3 : after hostOps0_3 W main_v39
      = select (broadcastInDim S4x8x15x64x64 ![0, 1, 2, 3, 4] bcast_S1x1x1x64x64_S4x8x15x64x64_0_1_2_3_4 (W main_v38 : IVec S1x1x1x64x64 1))
          (W main_v37 : FVec Ideal S4x8x15x64x64 .f32) (broadcastInDim S4x8x15x64x64 ![] bcast_S_S4x8x15x64x64 (W main_cst : FVec Ideal S_ .f32)) := by
  unfold hostOps0_3
  after_results
  rfl

set_option maxHeartbeats 2000000 in
theorem line4 : after hostOps0_4 W main_v60 = laid (rows (W main_v39)) := by
  unfold hostOps0_4
  after_results
  rfl

theorem value_eq (m : (ℓ : Loc nD τ sig) → Buf (Elt Ideal) ℓ) (c : Dev nD) :
    V m c main_v60 = table (m ((c : Thread nD τ).loc main_arg2)) := by
  change after (hostOps0 ++ (hostOps0_1 ++ (hostOps0_2 ++ (hostOps0_3 ++ (hostOps0_4 ++ []))))) (fun b => m (c, b)) main_v60 = _
  rw [StableHlo.after_append, StableHlo.after_append, StableHlo.after_append, StableHlo.after_append, List.append_nil, line4, line3,
    line2_v37, line2_v38, line2_cst, (line1 _).1, (line1 _).2.1, (line1 _).2.2, (line0 _).1, (line0 _).2.1, (line0 _).2.2.1,
    (line0 _).2.2.2.1, (line0 _).2.2.2.2]
  rfl

end Cert.KernelIdeal.Table

end
-- ==== Proof.Finite.lean ====
/- What the precondition gives: the queries, the keys, the context keys and the biases of layer 0 are finite, so every
   score is finite. -/
module

public import proofs.«01_k».proof.Proof.Attention
public import proofs.«01_k».proof.Pre_finite_scores
public import Idealize.ShloMosaic.Lib.ReduceAll
public import Idealize.ShloMosaic.Lib.Pipeline.ValueKit

@[expose] public section

noncomputable section

namespace Cert.Finite

open Idealize.ShloMosaic Cert.Attention Cert.Pre_finite_scores

instance facts : Cert.Pre_finite_scores.Facts where
  slices_S16x4096x1536_S16x4096x1024_0_0_0 := by decide +kernel
  bitsLt_bf16_f32 := by decide +kernel
  slices_S16x256x1536_S16x256x512_0_0_512 := by decide +kernel
  bcast_S_S16x4096x1024 := by decide +kernel
  reducesTo_S16x4096x1024_S_d0_1_2 := by decide +kernel
  h_S_ := by decide +kernel
  bcast_S_S16x256x512 := by decide +kernel
  reducesTo_S16x256x512_S_d0_1_2 := by decide +kernel
  slices_S4x8x15x31_S1x8x15x31_0_0_0_0 := by decide +kernel
  shapeCasts_S1x8x15x31_S8x15x31 := by decide +kernel
  bcast_S_S8x15x31 := by decide +kernel
  reducesTo_S8x15x31_S_d0_1_2 := by decide +kernel

/-- Neither infinity. -/
def IsFin (x : EReal) : Prop := x ≠ ⊤ ∧ x ≠ ⊥

theorem IsFin.add {x y : EReal} (hx : IsFin x) (hy : IsFin y) : IsFin (x + y) := by
  obtain ⟨a, rfl⟩ : ∃ a : ℝ, x = a := ⟨x.toReal, (EReal.coe_toReal hx.1 hx.2).symm⟩
  obtain ⟨b, rfl⟩ : ∃ b : ℝ, y = b := ⟨y.toReal, (EReal.coe_toReal hy.1 hy.2).symm⟩
  exact ⟨by rw [← EReal.coe_add]; exact EReal.coe_ne_top _, by rw [← EReal.coe_add]; exact EReal.coe_ne_bot _⟩

theorem IsFin.mul {x y : EReal} (hx : IsFin x) (hy : IsFin y) : IsFin (x * y) := by
  obtain ⟨a, rfl⟩ : ∃ a : ℝ, x = a := ⟨x.toReal, (EReal.coe_toReal hx.1 hx.2).symm⟩
  obtain ⟨b, rfl⟩ : ∃ b : ℝ, y = b := ⟨y.toReal, (EReal.coe_toReal hy.1 hy.2).symm⟩
  exact ⟨by rw [← EReal.coe_mul]; exact EReal.coe_ne_top _, by rw [← EReal.coe_mul]; exact EReal.coe_ne_bot _⟩

theorem IsFin.zero : IsFin 0 := ⟨EReal.zero_ne_top, EReal.zero_ne_bot⟩

theorem IsFin.sum {ι : Type} (s : Finset ι) (f : ι → EReal) (h : ∀ i, IsFin (f i)) : IsFin (∑ i ∈ s, f i) := by
  classical
  induction s using Finset.induction_on with
  | empty => exact IsFin.zero
  | insert a s ha ih => rw [Finset.sum_insert ha]; exact (h a).add ih

theorem of_bool {p : Prop} [Decidable p] (h : BitVec.ofBool (decide p) = 1#1) : p := by
  by_contra n
  simp [n] at h

/-- A number whose magnitude is below infinity is finite. -/
theorem of_lt (x : EReal) (hlt : max x (-x) < Ideal.ofBits FTy.f32 0x7F800000#32) : IsFin x := by
  have htop : Ideal.ofBits FTy.f32 0x7F800000#32 = (⊤ : EReal) := by simp [Ideal.ofBits, Ideal.ieee]
  rw [htop] at hlt
  refine ⟨fun e => ?_, fun e => ?_⟩
  · rw [e] at hlt; simp at hlt
  · rw [e] at hlt; simp at hlt

theorem scale_fin : IsFin scale := by
  have h : scale = ((0.125 : ℝ) : EReal) := by
    unfold scale
    simp [Ideal.ofBits, Ideal.ieee, -EReal.coe_mul]
    norm_num
  rw [h]
  exact ⟨EReal.coe_ne_top _, EReal.coe_ne_bot _⟩

variable (X : FVec Ideal ⟨3, ![16, 4096, 1536]⟩ .bf16) (C : FVec Ideal ⟨3, ![16, 256, 1536]⟩ .bf16)
  (B : FVec Ideal ⟨4, ![4, 8, 15, 31]⟩ .f32)

instance : Subsingleton S_.Idx := ⟨fun a b => funext fun i => i.elim0⟩

theorem parts (h : Cert.Pre_finite_scores.fn (F := Ideal) X C B = fun _ => 1#1) :
    (∀ (b : Fin 16) (q : Fin 4096) (n : Fin 1024), IsFin (X (ix3 b q ⟨n, by omega⟩)))
    ∧ (∀ (b : Fin 16) (q : Fin 256) (n : Fin 512), IsFin (C (ix3 b q ⟨512 + n, by omega⟩)))
    ∧ (∀ (a : Fin 8) (i : Fin 15) (j : Fin 31), IsFin (B (ix4 0 a i j))) := by
  have h0 := congrFun h ix0
  dsimp only [fn, fn_part1] at h0
  obtain ⟨h1, hB⟩ := IntOp.andi_eq_one.mp h0
  obtain ⟨hX, hC⟩ := IntOp.andi_eq_one.mp h1
  refine ⟨fun b q n => ?_, fun b q n => ?_, fun a i j => ?_⟩
  · have e := Host.reduce_andi_all _ _ _ _ _ hX (ix3 b q n)
    pointwise at e
    exact of_lt _ (of_bool e)
  · have e := Host.reduce_andi_all _ _ _ _ _ hC (ix3 b q n)
    pointwise at e
    exact of_lt _ (of_bool e)
  · have e := Host.reduce_andi_all _ _ _ _ _ hB (ix3 a i j)
    pointwise at e
    exact of_lt _ (of_bool e)

variable {X C B}

theorem scores (h : Cert.Pre_finite_scores.fn (F := Ideal) X C B = fun _ => 1#1) (b : Fin 16) (a : Fin 8) (r c : Fin 64) :
    (∀ k, IsFin (scoreLoc X B b a r c k)) ∧ ∀ t, IsFin (scoreCtx X C b a r c t) := by
  obtain ⟨hX, hC, hB⟩ := parts X C B h
  have hX' (q : Fin 4096) (p : Fin 2) (e : Fin 64) : IsFin (X (ix3 b q (chan ⟨p, by omega⟩ a e))) :=
    hX b q ⟨p * 512 + (a * 64 + e), by omega⟩
  have hC' (q : Fin 256) (e : Fin 64) : IsFin (C (ix3 b q (chan 1 a e))) := by
    have := hC b q ⟨a * 64 + e, by omega⟩
    have e' : (⟨512 + (a * 64 + e), by omega⟩ : Fin 1536) = chan 1 a e := Fin.ext (by simp [chan])
    rw [← e']; exact this
  refine ⟨fun k => ?_, fun t => ?_⟩
  · unfold scoreLoc dotTok
    exact ((IsFin.sum _ _ fun e => (hX' _ 0 e).mul (hX' _ 1 e)).mul scale_fin).add (hB _ _ _)
  · unfold scoreCtx dotCtx
    exact (IsFin.sum _ _ fun e => (hX' _ 0 e).mul (hC' _ e)).mul scale_fin

end Cert.Finite

end
-- ==== Proof.KernelFinal.lean ====
/- The array the kernel returns: every element is the attention's. -/
module

public import proofs.«01_k».proof.Proof.KernelValue
public import proofs.«01_k».proof.Proof.KernelEntry
public import proofs.«01_k».proof.Proof.Finite

@[expose] public section

noncomputable section

namespace Cert.KernelIdeal.Block

open Cert.KernelIdeal Cert.KernelIdeal.Gen Cert.KernelIdeal.Row Idealize.ShloMosaic Idealize.ShloMosaic.TcCoe Idealize.SL.Sem
open Cert.Attention

variable (m : (ℓ : Loc nD τ sig) → Buf (Elt Ideal) ℓ)

/-- The array of attentions. -/
def final (c : Dev nD) : FVec Ideal S16x4096x512 .bf16 := fun i =>
  out (argX m c) (argC m c) (argB m c) (i 0) ⟨(i 2 : ℕ) / 64, by have : (i 2 : ℕ) < 512 := (i 2).isLt; omega⟩
    ⟨(i 1 : ℕ) / 64, by have : (i 1 : ℕ) < 4096 := (i 1).isLt; omega⟩ ⟨(i 1 : ℕ) % 64, by omega⟩ ⟨(i 2 : ℕ) % 64, by omega⟩

theorem final_eq (c : Dev nD) (hfin : Cert.Pre_finite_scores.fn (F := Ideal) (argX m c) (argC m c) (argB m c) = fun _ => 1#1) :
    (dats m 0 c).arrAt 6 cfg0.N = final m c := by
  have hA : IsTable m c (Table.table (argB m c)) := Table.value_eq m c
  refine (dats m 0 c).arrAt_eq_of_covers 6 (final m c) (by decide +kernel) fun t hf y => ?_
  blk_simp
  rw [after0_6]
  refine point_eq m c t y (fun y => final m c ((win0_6.blk t).view.emb y)) fun rl x h1 h2 => ?_
  have ht := lt t
  have hx1 : (x 1 : ℕ) < 64 := (x 1).isLt
  have hx2 : (x 2 : ℕ) < 256 := (x 2).isLt
  have hx : x = ix3 0 ⟨x 1, hx1⟩ ⟨(⟨(x 2 : ℕ) / 64, by omega⟩ : Fin 4) * 64 + (⟨(x 2 : ℕ) % 64, by omega⟩ : Fin 64), by simp only; omega⟩ := by
    funext k
    match k with
    | ⟨0, _⟩ => exact Subsingleton.elim (α := Fin 1) _ _
    | ⟨1, _⟩ => rfl
    | ⟨2, _⟩ => exact Fin.ext (by show (x 2 : ℕ) = (x 2 : ℕ) / 64 * 64 + (x 2 : ℕ) % 64; omega)
  have hy : (win0_6.blk t).view.emb y = ix3 (batch t) ⟨t.val % 8 * 512 + (rl * 64 + x 1), by omega⟩ ⟨t.val / 8 % 2 * 256 + x 2, by omega⟩ := by
    blk_ext [idx t, batch]
  have hs := Finite.scores hfin (batch t) (head t ⟨(x 2 : ℕ) / 64, by omega⟩) (gridRow t rl) ⟨x 1, hx1⟩
  refine Eq.trans (congrArg (piece m c t rl) hx) (Eq.trans (piece_at m c hA t rl _ _ _ (fun k => (hs.1 k).1) hs.2) ?_)
  refine Eq.trans ?_ (congrArg (final m c) hy).symm
  unfold final
  congr 1
  · exact Fin.ext (by simp only [head]; show _ = (t.val / 8 % 2 * 256 + (x 2 : ℕ)) / 64; omega)
  · exact Fin.ext (by simp only [gridRow]; show _ = (t.val % 8 * 512 + (rl * 64 + (x 1 : ℕ))) / 64; omega)
  · exact Fin.ext (by show (x 1 : ℕ) = (t.val % 8 * 512 + (rl * 64 + (x 1 : ℕ))) % 64; omega)
  · exact Fin.ext (by show (x 2 : ℕ) % 64 = (t.val / 8 % 2 * 256 + (x 2 : ℕ)) % 64; omega)

end Cert.KernelIdeal.Block

end
-- ==== Proof.InprojKernel.lean ====
/- One grid point of the input projection: 512 tokens, scaled and shifted, times the columns of the weights. -/
module

public import proofs.«01_k».proof.Proof.Gen.Kernel2Ideal.Value
public import Idealize.ShloMosaic.Lib.Pipeline.ValueKit

@[expose] public section

set_option maxRecDepth 16384

noncomputable section

namespace Cert.Kernel2Ideal.Inproj

open Cert.Kernel2Ideal Cert.Kernel2Ideal.Gen Idealize.ShloMosaic Idealize.ShloMosaic.TcCoe Idealize.SL.Sem

/-- A token's channel, scaled and shifted. -/
theorem mod_at (x : Vec Ideal S1x512x1024 .f32) (a h : Vec Ideal S1x1x1024 .f32) (i : Fin 512) (k : Fin 1024) :
    (k0_pay3 x a h (ix2 i k) : EReal) = x (ix3 0 i k) * (1 + a (ix3 0 0 k)) + h (ix3 0 0 k) := by
  pointwise [k0_pay3]

/-- The attention's three groups of columns. -/
theorem pay4_at (x : Vec Ideal S1x512x1024 .f32) (a h : Vec Ideal S1x1x1024 .f32) (w : Vec Ideal S1024x512 .bf16) (i n : Fin 512) :
    (k0_pay4 x a h w (ix3 0 i n) : EReal) = ∑ k : Fin 1024, (x (ix3 0 i k) * (1 + a (ix3 0 0 k)) + h (ix3 0 0 k)) * w (ix2 k n) := by
  pointwise [k0_pay4, mod_at]

theorem pay5_at (x : Vec Ideal S1x512x1024 .f32) (a h : Vec Ideal S1x1x1024 .f32) (w : Vec Ideal S1024x512 .bf16) (i n : Fin 512) :
    (k0_pay5 x a h w (ix3 0 i n) : EReal) = ∑ k : Fin 1024, (x (ix3 0 i k) * (1 + a (ix3 0 0 k)) + h (ix3 0 0 k)) * w (ix2 k n) := by
  pointwise [k0_pay5, mod_at]

theorem pay7_at (x : Vec Ideal S1x512x1024 .f32) (a h : Vec Ideal S1x1x1024 .f32) (w : Vec Ideal S1024x512 .bf16) (i n : Fin 512) :
    (k0_pay7 (k0_pay6 x a h w) (ix3 0 i n) : EReal) = ∑ k : Fin 1024, (x (ix3 0 i k) * (1 + a (ix3 0 0 k)) + h (ix3 0 0 k)) * w (ix2 k n) := by
  pointwise [k0_pay7, k0_pay6, mod_at]

/-- The gated attention's two groups. -/
theorem pay8_at (x : Vec Ideal S1x512x1024 .f32) (a h : Vec Ideal S1x1x1024 .f32) (w : Vec Ideal S1024x512 .bf16) (i n : Fin 512) :
    (k0_pay8 (k0_pay3 x a h) w (ix3 0 i n) : EReal) = ∑ k : Fin 1024, (x (ix3 0 i k) * (1 + a (ix3 0 0 k)) + h (ix3 0 0 k)) * w (ix2 k n) := by
  pointwise [k0_pay8, mod_at]

theorem pay9_at (x : Vec Ideal S1x512x1024 .f32) (a h : Vec Ideal S1x1x1024 .f32) (w : Vec Ideal S1024x384 .bf16) (i : Fin 512) (n : Fin 384) :
    (k0_pay9 (k0_pay3 x a h) w (ix3 0 i n) : EReal) = ∑ k : Fin 1024, (x (ix3 0 i k) * (1 + a (ix3 0 0 k)) + h (ix3 0 0 k)) * w (ix2 k n) := by
  pointwise [k0_pay9, mod_at]

/-- The convolution's channels, before time. -/
theorem pay10_at (x : Vec Ideal S1x512x1024 .f32) (a h : Vec Ideal S1x1x1024 .f32) (w : Vec Ideal S768x1024 .bf16) (n : Fin 768) (i : Fin 512) :
    (k0_pay10 (k0_pay3 x a h) w (ix2 n i) : EReal) = ∑ k : Fin 1024, w (ix2 n k) * (x (ix3 0 i k) * (1 + a (ix3 0 0 k)) + h (ix3 0 0 k)) := by
  pointwise [k0_pay10, mod_at]

theorem pay11_at (x : FVec Ideal S512x1024 .bf16) (w : Vec Ideal S768x1024 .bf16) (n : Fin 768) (r : Fin 128) :
    (k0_pay11 x w (ix4 0 0 n r) : EReal) = k0_pay10 x w (ix2 n ⟨r, by omega⟩) := by
  pointwise [k0_pay11]

theorem pay12_at (x : FVec Ideal S512x1024 .bf16) (w : Vec Ideal S768x1024 .bf16) (n : Fin 768) (r : Fin 128) :
    (k0_pay12 x w (ix4 0 0 n r) : EReal) = k0_pay10 x w (ix2 n ⟨128 + r, by omega⟩) := by
  pointwise [k0_pay12]

theorem pay1_at (x : FVec Ideal S512x1024 .bf16) (w : Vec Ideal S768x1024 .bf16) (n : Fin 768) (r : Fin 128) :
    (k0_pay1 (k0_pay13 x w) (ix4 0 0 n r) : EReal) = k0_pay10 x w (ix2 n ⟨256 + r, by omega⟩) := by
  pointwise [k0_pay1, k0_pay13]

theorem pay2_at (v : FVec Ideal S768x512 .f32) (n : Fin 768) (r : Fin 128) :
    (k0_pay2 v (ix4 0 0 n r) : EReal) = v (ix2 n ⟨384 + r, by omega⟩) := by
  pointwise [k0_pay2]

/-! The weights' columns, laid out by the operations before the call. -/

/-- The attention's and the gated attention's columns, then zeros. -/
def wide (W : FVec Ideal S1024x3104 .f32) : FVec Ideal S1024x2432 .bf16 :=
  truncf .bf16 (pad S1024x2432 ![0, 0] ![0, 96] ![0, 0] (extractStridedSlice S1024x2336 ![0, 0] W slices_S1024x3104_S1024x2336_0_0)
    (sitofp .f32 (constantI S_ 32 0#32)) pads_S1024x2336_S1024x2432_000_0960 h_S_) bitsLt_bf16_f32

/-- The convolution's columns as rows. -/
def tall (W : FVec Ideal S1024x3104 .f32) : FVec Ideal S768x1024 .bf16 :=
  truncf .bf16 (transpose S768x1024 [1, 0] (extractStridedSlice S1024x768 ![0, 2336] W slices_S1024x3104_S1024x768_0_2336)
    transposes_S1024x768_S768x1024_1_0) bitsLt_bf16_f32

theorem wide_at (W : FVec Ideal S1024x3104 .f32) (k : Fin 1024) (n : Fin 2432) :
    (wide W (ix2 k n) : EReal) = if h : (n : ℕ) < 2336 then W (ix2 k ⟨n, by omega⟩) else 0 := by
  have h0 : (FloatOps.sitofp (F := Ideal) .f32 (0#32 : BitVec 32) : EReal) = 0 := by
    show (((0#32 : BitVec 32).toInt : ℝ) : EReal) = 0
    simp
  pointwise [wide]
  rw [h0]

theorem tall_at (W : FVec Ideal S1024x3104 .f32) (k : Fin 1024) (n : Fin 768) :
    (tall W (ix2 n k) : EReal) = W (ix2 k ⟨2336 + n, by omega⟩) := by
  pointwise [tall]

end Cert.Kernel2Ideal.Inproj

end
-- ==== Proof.InprojEntry.lean ====
/- The two weight operands of the call: what the operations before it leave in them. -/
module

public import proofs.«01_k».proof.Proof.InprojKernel
public import Idealize.ShloMosaic.Lib.Claim

@[expose] public section

set_option maxRecDepth 16384

noncomputable section

namespace Cert.Kernel2Ideal.Inproj

open Cert.Kernel2Ideal Cert.Kernel2Ideal.Gen Idealize.ShloMosaic Idealize.ShloMosaic.TcCoe Idealize.SL.Sem
open Idealize.ShloMosaic.StableHlo

variable (m : (ℓ : Loc nD τ sig) → Buf (Elt Ideal) ℓ)

theorem wide_eq (c : Dev nD) : V m c main_v2 = wide (m ((c : Thread nD τ).loc main_arg3)) := by
  change after (hostOps0 ++ (hostOps0_1 ++ (hostOps0_2 ++ []))) (fun b => m (c, b)) main_v2 = _
  rw [StableHlo.after_append, StableHlo.after_append, List.append_nil]
  unfold hostOps0_2 hostOps0_1 hostOps0
  after_results
  rfl

theorem tall_eq (c : Dev nD) : V m c main_v5 = tall (m ((c : Thread nD τ).loc main_arg3)) := by
  change after (hostOps0 ++ (hostOps0_1 ++ (hostOps0_2 ++ []))) (fun b => m (c, b)) main_v5 = _
  rw [StableHlo.after_append, StableHlo.after_append, List.append_nil]
  unfold hostOps0_2 hostOps0_1 hostOps0
  after_results
  rfl

end Cert.Kernel2Ideal.Inproj

end
-- ==== Proof.InprojBlock.lean ====
/- What a grid point writes into the three arrays, in terms of the argument arrays. -/
module

public import proofs.«01_k».proof.Proof.InprojEntry

@[expose] public section

set_option maxRecDepth 16384

noncomputable section

namespace Cert.Kernel2Ideal.Inproj

open Cert.Kernel2Ideal Cert.Kernel2Ideal.Gen Idealize.ShloMosaic Idealize.ShloMosaic.TcCoe Idealize.SL.Sem

/-- A column of the projection: every channel scaled and shifted, times the column's weight. -/
def proj (X : FVec Ideal S16x4096x1024 .f32) (A H : FVec Ideal S16x1x1024 .f32) (W : FVec Ideal S1024x3104 .f32)
    (b : Fin 16) (i : Fin 4096) (n : Fin 3104) : EReal :=
  ∑ k : Fin 1024, (X (ix3 b i k) * (1 + A (ix3 b 0 k)) + H (ix3 b 0 k)) * W (ix2 k n)

variable (m : (ℓ : Loc nD τ sig) → Buf (Elt Ideal) ℓ)

/-- The arguments. -/
abbrev argX (c : Dev nD) : FVec Ideal S16x4096x1024 .f32 := m ((c : Thread nD τ).loc main_arg0)
abbrev argA (c : Dev nD) : FVec Ideal S16x1x1024 .f32 := m ((c : Thread nD τ).loc main_arg1)
abbrev argH (c : Dev nD) : FVec Ideal S16x1x1024 .f32 := m ((c : Thread nD τ).loc main_arg2)
abbrev argW (c : Dev nD) : FVec Ideal S1024x3104 .f32 := m ((c : Thread nD τ).loc main_arg3)

/-- The blocks' positions. -/
theorem idx : ∀ t : Fin cfg0.N, win0_0.index t = ![t.val / 8, t.val % 8, 0] ∧ win0_1.index t = ![t.val / 8, 0, 0]
    ∧ win0_2.index t = ![t.val / 8, 0, 0] ∧ win0_3.index t = ![0, 0] ∧ win0_4.index t = ![0, 0]
    ∧ win0_5.index t = ![t.val / 8, t.val % 8, 0] ∧ win0_6.index t = ![t.val / 8, t.val % 8, 0]
    ∧ win0_7.index t = ![t.val / 8, t.val % 8, 0, 0] :=
  (by decide +kernel : ∀ t : Fin grid0.N, _)

theorem lt (t : Fin cfg0.N) : t.val < 128 := lt_of_lt_of_eq t.isLt N_0

/-- The point's batch and times. -/
def batch (t : Fin cfg0.N) : Fin 16 := ⟨t.val / 8, by have := lt t; omega⟩
def time (t : Fin cfg0.N) (i : Fin 512) : Fin 4096 := ⟨t.val % 8 * 512 + i, by omega⟩

/-- The point's tokens, scales, shifts and the convolution's weights. -/
abbrev blkX (c : Dev nD) (t : Fin cfg0.N) : Vec Ideal S1x512x1024 .f32 := iblk m c 0 t
abbrev blkA (c : Dev nD) (t : Fin cfg0.N) : Vec Ideal S1x1x1024 .f32 := iblk m c 1 t
abbrev blkH (c : Dev nD) (t : Fin cfg0.N) : Vec Ideal S1x1x1024 .f32 := iblk m c 2 t
abbrev blkT (c : Dev nD) (t : Fin cfg0.N) : Vec Ideal S768x1024 .bf16 := iblk m c 4 t

theorem x_at (c : Dev nD) (t : Fin cfg0.N) (i : Fin 512) (k : Fin 1024) :
    (iblk m c 0 t (ix3 0 i k) : EReal) = argX m c (ix3 (batch t) (time t i) k) := by
  have ht := lt t
  blk_point [iblk, V, idx t, batch, time]

theorem a_at (c : Dev nD) (t : Fin cfg0.N) (k : Fin 1024) : (iblk m c 1 t (ix3 0 0 k) : EReal) = argA m c (ix3 (batch t) 0 k) := by
  have ht := lt t
  blk_point [iblk, V, idx t, batch]

theorem h_at (c : Dev nD) (t : Fin cfg0.N) (k : Fin 1024) : (iblk m c 2 t (ix3 0 0 k) : EReal) = argH m c (ix3 (batch t) 0 k) := by
  have ht := lt t
  blk_point [iblk, V, idx t, batch]

theorem wide_block (A : FVec Ideal S1024x2432 .bf16) (t : Fin cfg0.N) (k : Fin 1024) (n : Fin 2432) :
    (((cfg0.win 3).blk t).view.read (Elt Ideal) A (ix2 k n) : EReal) = A (ix2 k n) := by
  have ht := lt t
  blk_point [idx t]

theorem tall_block (A : FVec Ideal S768x1024 .bf16) (t : Fin cfg0.N) (n : Fin 768) (k : Fin 1024) :
    (((cfg0.win 4).blk t).view.read (Elt Ideal) A (ix2 n k) : EReal) = A (ix2 n k) := by
  have ht := lt t
  blk_point [idx t]

theorem wide_get (c : Dev nD) (t : Fin cfg0.N) (k : Fin 1024) (n : Fin 2432) :
    (iblk m c 3 t (ix2 k n) : EReal) = wide (argW m c) (ix2 k n) := by
  have h : V m c (Pipeline.arrRef spec0 3) = wide (argW m c) := wide_eq m c
  unfold iblk
  rw [h]
  exact wide_block _ t k n

theorem tall_get (c : Dev nD) (t : Fin cfg0.N) (n : Fin 768) (k : Fin 1024) :
    (iblk m c 4 t (ix2 n k) : EReal) = tall (argW m c) (ix2 n k) := by
  have h : V m c (Pipeline.arrRef spec0 4) = tall (argW m c) := tall_eq m c
  unfold iblk
  rw [h]
  exact tall_block _ t n k

/-- 512 columns of the weights, from column `o`. -/
theorem cols_at (c : Dev nD) (t : Fin cfg0.N) (o : ℕ) (w : ℕ) (inb : ∀ a, (![0, o] : Fin 2 → ℕ) a + (![1024, w] : Fin 2 → ℕ) a ≤ S1024x2432.size a)
    (k : Fin 1024) (n : Fin w) (hn : o + n < 2432) :
    (View.ld (iblk m c 3 t) (Rect.unit (s := S1024x2432) ![0, o] ![1024, w] inb) (ix2 k n) : EReal) = wide (argW m c) (ix2 k ⟨o + n, hn⟩) := by
  rw [View.ld_unit_apply_of (i := ix2 k ⟨o + n, hn⟩)]
  · exact wide_get m c t k _
  · intro a
    match a with
    | ⟨0, _⟩ => exact (Nat.zero_add _).symm
    | ⟨1, _⟩ => rfl

/-- The sum over the channels, with the weights' column named. -/
theorem sum_eq (c : Dev nD) (t : Fin cfg0.N) (i : Fin 512) (w : Fin 1024 → EReal) (n : Fin 2432) (hw : ∀ k, w k = wide (argW m c) (ix2 k n)) :
    ∑ k : Fin 1024, (blkX m c t (ix3 0 i k) * (1 + blkA m c t (ix3 0 0 k)) + blkH m c t (ix3 0 0 k)) * w k
      = if h : (n : ℕ) < 2336 then proj (argX m c) (argA m c) (argH m c) (argW m c) (batch t) (time t i) ⟨n, by omega⟩ else 0 := by
  have hx := x_at m c t i
  have ha := a_at m c t
  have hh := h_at m c t
  split_ifs with h
  · unfold proj
    refine Finset.sum_congr rfl fun k _ => ?_
    rw [hw, wide_at, dif_pos h]
    exact congrArg (· * _) (congrArg₂ (· + ·) (congrArg₂ (· * ·) (hx k) (congrArg (1 + ·) (ha k))) (hh k))
  · refine Finset.sum_eq_zero fun k _ => ?_
    rw [hw, wide_at, dif_neg h, mul_zero]

/-- The same of the convolution's channels. -/
theorem sum_tall (c : Dev nD) (t : Fin cfg0.N) (i : Fin 512) (n : Fin 768) :
    ∑ k : Fin 1024, blkT m c t (ix2 n k) * (blkX m c t (ix3 0 i k) * (1 + blkA m c t (ix3 0 0 k)) + blkH m c t (ix3 0 0 k))
      = proj (argX m c) (argA m c) (argH m c) (argW m c) (batch t) (time t i) ⟨2336 + n, by omega⟩ := by
  have hx := x_at m c t i
  have ha := a_at m c t
  have hh := h_at m c t
  unfold proj
  refine Finset.sum_congr rfl fun k _ => ?_
  refine Eq.trans (congrArg₂ (· * ·) ((tall_get m c t n k).trans (tall_at _ _ _))
    (congrArg₂ (· + ·) (congrArg₂ (· * ·) (hx k) (congrArg ((1 : EReal) + ·) (ha k))) (hh k))) ?_
  exact mul_comm (G := EReal) _ _

/-- 512 columns of the weights from column `o`, as a point loads them. -/
abbrev cols (c : Dev nD) (t : Fin cfg0.N) (o : ℕ) (inb : ∀ a, (![0, o] : Fin 2 → ℕ) a + S1024x512.size a ≤ S1024x2432.size a) : Vec Ideal S1024x512 .bf16 :=
  View.ld (iblk m c 3 t) (Rect.unit (s := S1024x2432) ![0, o] S1024x512.size inb)

/-- The last 384. -/
abbrev cols' (c : Dev nD) (t : Fin cfg0.N) : Vec Ideal S1024x384 .bf16 :=
  View.ld (iblk m c 3 t) (Rect.unit (s := S1024x2432) ![0, 2048] S1024x384.size inb_S1024x2432_S1024x384_0_2048)

theorem point5 (c : Dev nD) (t : Fin cfg0.N) (y : S1x512x1536.Idx) (G : S1x512x1536.Idx → EReal)
    (g0 : ∀ x : S1x512x512.Idx, (y 1 : ℕ) = x 1 → (y 2 : ℕ) = x 2 →
      (k0_pay4 (iblk m c 0 t) (iblk m c 1 t) (iblk m c 2 t) (cols m c t 0 inb_S1024x2432_S1024x512_0_0) x : EReal) = G y)
    (g1 : ∀ x : S1x512x512.Idx, (y 1 : ℕ) = x 1 → (y 2 : ℕ) = 512 + x 2 →
      (k0_pay5 (iblk m c 0 t) (iblk m c 1 t) (iblk m c 2 t) (cols m c t 512 inb_S1024x2432_S1024x512_0_512) x : EReal) = G y)
    (g2 : ∀ x : S1x512x512.Idx, (y 1 : ℕ) = x 1 → (y 2 : ℕ) = 1024 + x 2 →
      (k0_pay7 (k0_pay6 (iblk m c 0 t) (iblk m c 1 t) (iblk m c 2 t) (cols m c t 1024 inb_S1024x2432_S1024x512_0_1024)) x : EReal) = G y) :
    ((outsAt0 m c t).1 y : EReal) = G y := by
  unfold outsAt0
  frame_out
  canon_tiles x h
  case piece0 => exact g2 x h1 h2
  case piece1 => exact g1 x h1 h2
  case piece2 => exact g0 x h1 h2

theorem point6 (c : Dev nD) (t : Fin cfg0.N) (y : S1x512x896.Idx) (G : S1x512x896.Idx → EReal)
    (g0 : ∀ x : S1x512x512.Idx, (y 1 : ℕ) = x 1 → (y 2 : ℕ) = x 2 →
      (k0_pay8 (k0_pay3 (iblk m c 0 t) (iblk m c 1 t) (iblk m c 2 t)) (cols m c t 1536 inb_S1024x2432_S1024x512_0_1536) x : EReal) = G y)
    (g1 : ∀ x : S1x512x384.Idx, (y 1 : ℕ) = x 1 → (y 2 : ℕ) = 512 + x 2 →
      (k0_pay9 (k0_pay3 (iblk m c 0 t) (iblk m c 1 t) (iblk m c 2 t)) (cols' m c t) x : EReal) = G y) :
    ((outsAt0 m c t).2.1 y : EReal) = G y := by
  unfold outsAt0
  frame_out
  canon_tiles x h using View.cover_of_tiledBy _ ![1, 512, 128] (by sl_kernel_rfl) y
  case piece0 => exact g1 x h1 h2
  case piece1 => exact g0 x h1 h2

theorem point7 (c : Dev nD) (t : Fin cfg0.N) (y : S1x4x768x128.Idx) (G : S1x4x768x128.Idx → EReal)
    (g0 : ∀ x : S1x1x768x128.Idx, (y 1 : ℕ) = 0 → (y 2 : ℕ) = x 2 → (y 3 : ℕ) = x 3 →
      (k0_pay11 (k0_pay3 (iblk m c 0 t) (iblk m c 1 t) (iblk m c 2 t)) (iblk m c 4 t) x : EReal) = G y)
    (g1 : ∀ x : S1x1x768x128.Idx, (y 1 : ℕ) = 1 → (y 2 : ℕ) = x 2 → (y 3 : ℕ) = x 3 →
      (k0_pay12 (k0_pay3 (iblk m c 0 t) (iblk m c 1 t) (iblk m c 2 t)) (iblk m c 4 t) x : EReal) = G y)
    (g2 : ∀ x : S1x1x768x128.Idx, (y 1 : ℕ) = 2 → (y 2 : ℕ) = x 2 → (y 3 : ℕ) = x 3 →
      (k0_pay1 (k0_pay13 (k0_pay3 (iblk m c 0 t) (iblk m c 1 t) (iblk m c 2 t)) (iblk m c 4 t)) x : EReal) = G y)
    (g3 : ∀ x : S1x1x768x128.Idx, (y 1 : ℕ) = 3 → (y 2 : ℕ) = x 2 → (y 3 : ℕ) = x 3 →
      (k0_pay2 (k0_pay10 (k0_pay3 (iblk m c 0 t) (iblk m c 1 t) (iblk m c 2 t)) (iblk m c 4 t)) x : EReal) = G y) :
    ((outsAt0 m c t).2.2 y : EReal) = G y := by
  unfold outsAt0
  frame_out
  canon_tiles x h
  case piece0 => exact g3 x (by omega) h2 h3
  case piece1 => exact g2 x (by omega) h2 h3
  case piece2 => exact g1 x (by omega) h2 h3
  case piece3 => exact g0 x (by omega) h2 h3

end Cert.Kernel2Ideal.Inproj

end
-- ==== Proof.InprojRef.lean ====
/- The reference's three arrays of the input projection, element by element. -/
module

public import proofs.«01_k».proof.Proof.Gen.Reference2Ideal
public import proofs.«01_k».proof.Proof.Gen.Reference2Ideal.Run
public import Idealize.ShloMosaic.Lib.Pipeline.ValueKit

@[expose] public section

set_option maxRecDepth 16384

noncomputable section

namespace Cert.Reference2Ideal.Inproj

open Cert.Reference2Ideal Cert.Reference2Ideal.Gen Idealize.ShloMosaic Idealize.ShloMosaic.TcCoe Idealize.SL.Sem

/-- The scaled and shifted tokens. -/
def modulated (X : FVec Ideal S16x4096x1024 .f32) (A H : FVec Ideal S16x1x1024 .f32) : FVec Ideal S16x4096x1024 .f32 :=
  addf (mulf X (broadcastInDim S16x4096x1024 ![0, 1, 2] bcast_S16x1x1024_S16x4096x1024_0_1_2
      (addf (broadcastInDim S16x1x1024 ![] bcast_S_S16x1x1024 (constant S_ .f32 0x3F800000#32)) A)))
    (broadcastInDim S16x4096x1024 ![0, 1, 2] bcast_S16x1x1024_S16x4096x1024_0_1_2 H)

/-- All columns of the projection. -/
def projected (X : FVec Ideal S16x4096x1024 .f32) (W : FVec Ideal S1024x3104 .f32) : FVec Ideal S16x4096x3104 .f32 :=
  Host.dotGeneral (φ₁ := .f32) (φ₂ := .f32) dot_S16x4096x1024_S1024x3104_S16x4096x3104_2_0_01_1_n_n none X W

/-- The three results. -/
def first (U : FVec Ideal S16x4096x3104 .f32) : FVec Ideal S16x4096x1536 .bf16 :=
  truncf .bf16 (extractStridedSlice S16x4096x1536 ![0, 0, 0] U slices_S16x4096x3104_S16x4096x1536_0_0_0) bitsLt_bf16_f32
def second (U : FVec Ideal S16x4096x3104 .f32) : FVec Ideal S16x4096x896 .f32 :=
  pad S16x4096x896 ![0, 0, 0] ![0, 0, 96] ![0, 0, 0] (extractStridedSlice S16x4096x800 ![0, 0, 1536] U slices_S16x4096x3104_S16x4096x800_0_0_1536)
    (sitofp .f32 (constantI S_ 32 0#32)) pads_S16x4096x800_S16x4096x896_000_000_0960 h_S_
def third (U : FVec Ideal S16x4096x3104 .f32) : FVec Ideal S16x32x768x128 .f32 :=
  transpose S16x32x768x128 [0, 1, 3, 2] (shapeCast _ (extractStridedSlice S16x4096x768 ![0, 0, 2336] U slices_S16x4096x3104_S16x4096x768_0_0_2336)
    shapeCasts_S16x4096x768_S16x32x128x768) transposes_S16x32x128x768_S16x32x768x128_0_1_3_2

theorem modulated_at (X : FVec Ideal S16x4096x1024 .f32) (A H : FVec Ideal S16x1x1024 .f32) (b : Fin 16) (i : Fin 4096) (k : Fin 1024) :
    (modulated X A H (ix3 b i k) : EReal) = X (ix3 b i k) * (1 + A (ix3 b 0 k)) + H (ix3 b 0 k) := by
  pointwise [modulated]

theorem projected_at (X : FVec Ideal S16x4096x1024 .f32) (W : FVec Ideal S1024x3104 .f32) (b : Fin 16) (i : Fin 4096) (n : Fin 3104) :
    (projected X W (ix3 b i n) : EReal) = ∑ k : Fin 1024, X (ix3 b i k) * W (ix2 k n) := by
  pointwise [projected]

theorem first_at (U : FVec Ideal S16x4096x3104 .f32) (b : Fin 16) (i : Fin 4096) (n : Fin 1536) :
    (first U (ix3 b i n) : EReal) = U (ix3 b i ⟨n, by omega⟩) := by
  pointwise [first]

theorem second_at (U : FVec Ideal S16x4096x3104 .f32) (b : Fin 16) (i : Fin 4096) (n : Fin 896) :
    (second U (ix3 b i n) : EReal) = if h : (n : ℕ) < 800 then U (ix3 b i ⟨1536 + n, by omega⟩) else 0 := by
  have h0 : (FloatOps.sitofp (F := Ideal) .f32 (0#32 : BitVec 32) : EReal) = 0 := by
    show (((0#32 : BitVec 32).toInt : ℝ) : EReal) = 0
    simp
  pointwise [second]
  rw [h0]

theorem third_at (U : FVec Ideal S16x4096x3104 .f32) (b : Fin 16) (j : Fin 32) (n : Fin 768) (r : Fin 128) :
    (third U (ix4 b j n r) : EReal) = U (ix3 b ⟨j * 128 + r, by omega⟩ ⟨2336 + n, by omega⟩) := by
  pointwise [third]

end Cert.Reference2Ideal.Inproj

end
-- ==== Proof.InprojFinal.lean ====
/- The three arrays of the input projection, whole, and the reference's. -/
module

public import proofs.«01_k».proof.Proof.InprojBlock
public import proofs.«01_k».proof.Proof.InprojRef

@[expose] public section

set_option maxRecDepth 16384

noncomputable section

namespace Cert.Kernel2Ideal.Inproj

open Cert.Kernel2Ideal Cert.Kernel2Ideal.Gen Idealize.ShloMosaic Idealize.ShloMosaic.TcCoe Idealize.SL.Sem

variable (m : (ℓ : Loc nD τ sig) → Buf (Elt Ideal) ℓ)

/-- An element of the projection. -/
abbrev el (c : Dev nD) (b : Fin 16) (i : Fin 4096) (n : Fin 3104) : EReal := proj (argX m c) (argA m c) (argH m c) (argW m c) b i n

/-- The attention's columns. -/
def final5 (c : Dev nD) : FVec Ideal S16x4096x1536 .bf16 := fun j => el m c (j 0) (j 1) ⟨j 2, (j 2).isLt.trans (by decide)⟩

/-- The gated attention's columns, then zeros. -/
def final6 (c : Dev nD) : FVec Ideal S16x4096x896 .f32 := fun j =>
  if h : (j 2 : ℕ) < 800 then el m c (j 0) (j 1) ⟨1536 + j 2, by omega⟩ else 0

/-- The convolution's channels, by blocks of 128 times. -/
def final7 (c : Dev nD) : FVec Ideal S16x32x768x128 .f32 := fun j =>
  el m c (j 0) ⟨(j 1 : ℕ) * 128 + j 3, by have h1 : (j 1 : ℕ) < 32 := (j 1).isLt; have h3 : (j 3 : ℕ) < 128 := (j 3).isLt; omega⟩
    ⟨2336 + j 2, by have h2 : (j 2 : ℕ) < 768 := (j 2).isLt; omega⟩

theorem idx3 {a b : ℕ} (x : (⟨3, ![1, a, b]⟩ : Shape).Idx) : x = ix3 0 (x 1) (x 2) := by
  funext k
  match k with
  | ⟨0, _⟩ => exact Subsingleton.elim (α := Fin 1) _ _
  | ⟨1, _⟩ => rfl
  | ⟨2, _⟩ => rfl

theorem idx4 {a b : ℕ} (x : (⟨4, ![1, 1, a, b]⟩ : Shape).Idx) : x = ix4 0 0 (x 2) (x 3) := by
  funext k
  match k with
  | ⟨0, _⟩ => exact Subsingleton.elim (α := Fin 1) _ _
  | ⟨1, _⟩ => exact Subsingleton.elim (α := Fin 1) _ _
  | ⟨2, _⟩ => rfl
  | ⟨3, _⟩ => rfl

theorem final5_eq (c : Dev nD) : (dats m 0 c).arrAt 5 cfg0.N = final5 m c := by
  refine (dats m 0 c).arrAt_eq_of_covers 5 (final5 m c) (by decide +kernel) fun t hf y => ?_
  blk_simp
  rw [after0_5]
  have ht := lt t
  have hG (x1 x2 : Fin 512) (o : ℕ) (ho : o + x2 < 1536) (h1 : (y 1 : ℕ) = x1) (h2 : (y 2 : ℕ) = o + x2) :
      final5 m c ((win0_5.blk t).view.emb y) = el m c (batch t) (time t x1) ⟨o + x2, by omega⟩ := by
    have hy : (win0_5.blk t).view.emb y = ix3 (batch t) (time t x1) ⟨o + x2, ho⟩ := by
      blk_ext [idx t, batch, time]
    rw [hy]
    rfl
  have hv (x1 x2 : Fin 512) (o : ℕ) (ho : o + x2 < 1536) (inb : ∀ a, (![0, o] : Fin 2 → ℕ) a + S1024x512.size a ≤ S1024x2432.size a) :=
    (sum_eq m c t x1 (fun k => cols m c t o inb (ix2 k x2)) ⟨o + x2, by omega⟩ (fun k => cols_at m c t o 512 inb k x2 _)).trans (dif_pos (by simp only; omega))
  refine point5 m c t y (fun y => final5 m c ((win0_5.blk t).view.emb y)) (fun x h1 h2 => ?_) (fun x h1 h2 => ?_) (fun x h1 h2 => ?_)
  · have hx2 : (x 2 : ℕ) < 512 := (x 2).isLt
    rw [idx3 x]
    exact (pay4_at _ _ _ _ _ _).trans ((hv (x 1) (x 2) 0 (by omega) _).trans (hG (x 1) (x 2) 0 (by omega) h1 (by omega)).symm)
  · have hx2 : (x 2 : ℕ) < 512 := (x 2).isLt
    rw [idx3 x]
    exact (pay5_at _ _ _ _ _ _).trans ((hv (x 1) (x 2) 512 (by omega) _).trans (hG (x 1) (x 2) 512 (by omega) h1 h2).symm)
  · have hx2 : (x 2 : ℕ) < 512 := (x 2).isLt
    rw [idx3 x]
    exact (pay7_at _ _ _ _ _ _).trans ((hv (x 1) (x 2) 1024 (by omega) _).trans (hG (x 1) (x 2) 1024 (by omega) h1 h2).symm)

theorem final6_eq (c : Dev nD) : (dats m 0 c).arrAt 6 cfg0.N = final6 m c := by
  refine (dats m 0 c).arrAt_eq_of_covers 6 (final6 m c) (by decide +kernel) fun t hf y => ?_
  blk_simp
  rw [after0_6]
  have ht := lt t
  have hG (x1 : Fin 512) (n : Fin 896) (h1 : (y 1 : ℕ) = x1) (h2 : (y 2 : ℕ) = n) :
      final6 m c ((win0_6.blk t).view.emb y) = if h : (n : ℕ) < 800 then el m c (batch t) (time t x1) ⟨1536 + n, by omega⟩ else 0 := by
    have hy : (win0_6.blk t).view.emb y = ix3 (batch t) (time t x1) n := by
      blk_ext [idx t, batch, time]
    rw [hy]
    rfl
  have hif (x1 : Fin 512) (n : Fin 896) :
      (if h : 1536 + (n : ℕ) < 2336 then el m c (batch t) (time t x1) ⟨1536 + n, by omega⟩ else 0)
        = if h : (n : ℕ) < 800 then el m c (batch t) (time t x1) ⟨1536 + n, by omega⟩ else 0 := by
    by_cases h : (n : ℕ) < 800
    · rw [dif_pos h, dif_pos (by omega)]
    · rw [dif_neg h, dif_neg (by omega)]
  refine point6 m c t y (fun y => final6 m c ((win0_6.blk t).view.emb y)) (fun x h1 h2 => ?_) (fun x h1 h2 => ?_)
  · have hx2 : (x 2 : ℕ) < 512 := (x 2).isLt
    rw [idx3 x]
    exact (pay8_at _ _ _ _ _ _).trans ((sum_eq m c t (x 1) _ ⟨1536 + x 2, by omega⟩ (fun k => cols_at m c t 1536 512 _ k (x 2) _)).trans
      ((hif (x 1) ⟨x 2, by omega⟩).trans (hG (x 1) ⟨x 2, by omega⟩ h1 h2).symm))
  · have hx2 : (x 2 : ℕ) < 384 := (x 2).isLt
    rw [idx3 x]
    refine (pay9_at _ _ _ _ _ _).trans ((sum_eq m c t (x 1) _ ⟨1536 + (512 + x 2), by omega⟩ (fun k => ?_)).trans
      ((hif (x 1) ⟨512 + x 2, by omega⟩).trans (hG (x 1) ⟨512 + x 2, by omega⟩ h1 h2).symm))
    refine (cols_at m c t 2048 384 _ k (x 2) (by omega)).trans ?_
    exact congrArg (fun n => (wide (argW m c) (ix2 k n) : EReal)) (Fin.ext (by simp only; omega))

theorem final7_eq (c : Dev nD) : (dats m 0 c).arrAt 7 cfg0.N = final7 m c := by
  refine (dats m 0 c).arrAt_eq_of_covers 7 (final7 m c) (by decide +kernel) fun t hf y => ?_
  blk_simp
  rw [after0_7]
  have ht := lt t
  have hG (j : Fin 4) (n : Fin 768) (r : Fin 128) (h1 : (y 1 : ℕ) = j) (h2 : (y 2 : ℕ) = n) (h3 : (y 3 : ℕ) = r) :
      final7 m c ((win0_7.blk t).view.emb y) = el m c (batch t) (time t ⟨j * 128 + r, by omega⟩) ⟨2336 + n, by omega⟩ := by
    have hy : (win0_7.blk t).view.emb y = ix4 (batch t) ⟨t.val % 8 * 4 + j, by omega⟩ n r := by
      blk_ext [idx t, batch]
    rw [hy]
    refine congrArg (fun i => el m c (batch t) i _) (Fin.ext ?_)
    show (t.val % 8 * 4 + j) * 128 + r = t.val % 8 * 512 + (j * 128 + r)
    omega
  have hv (i : Fin 512) (n : Fin 768) :=
    (pay10_at (blkX m c t) (blkA m c t) (blkH m c t) (blkT m c t) n i).trans (sum_tall m c t i n)
  refine point7 m c t y (fun y => final7 m c ((win0_7.blk t).view.emb y)) (fun x h1 h2 h3 => ?_) (fun x h1 h2 h3 => ?_) (fun x h1 h2 h3 => ?_) (fun x h1 h2 h3 => ?_)
  · have hx3 : (x 3 : ℕ) < 128 := (x 3).isLt
    rw [idx4 x]
    refine (pay11_at _ _ _ _).trans ((hv _ _).trans (Eq.trans ?_ (hG 0 (x 2) (x 3) h1 h2 h3).symm))
    exact congrArg (fun i => el m c (batch t) (time t i) _) (Fin.ext (by simp))
  · have hx3 : (x 3 : ℕ) < 128 := (x 3).isLt
    rw [idx4 x]
    refine (pay12_at _ _ _ _).trans ((hv _ _).trans (Eq.trans ?_ (hG 1 (x 2) (x 3) h1 h2 h3).symm))
    exact congrArg (fun i => el m c (batch t) (time t i) _) (Fin.ext (by simp))
  · have hx3 : (x 3 : ℕ) < 128 := (x 3).isLt
    rw [idx4 x]
    refine (pay1_at _ _ _ _).trans ((hv _ _).trans (Eq.trans ?_ (hG 2 (x 2) (x 3) h1 h2 h3).symm))
    exact congrArg (fun i => el m c (batch t) (time t i) _) (Fin.ext (by simp))
  · have hx3 : (x 3 : ℕ) < 128 := (x 3).isLt
    rw [idx4 x]
    refine (pay2_at _ _ _).trans ((hv _ _).trans (Eq.trans ?_ (hG 3 (x 2) (x 3) h1 h2 h3).symm))
    exact congrArg (fun i => el m c (batch t) (time t i) _) (Fin.ext (by simp))

/-! The reference's arrays are these. -/

open Cert.Reference2Ideal.Inproj in
/-- An element of the reference's product. -/
theorem projected_el (X : FVec Ideal S16x4096x1024 .f32) (A H : FVec Ideal S16x1x1024 .f32) (W : FVec Ideal S1024x3104 .f32)
    (b : Fin 16) (i : Fin 4096) (n : Fin 3104) :
    (projected (modulated X A H) W (ix3 b i n) : EReal) = proj X A H W b i n := by
  rw [projected_at]
  exact Finset.sum_congr rfl fun k _ => by rw [modulated_at]

open Cert.Reference2Ideal.Inproj in
theorem first_final (c : Dev nD) : first (projected (modulated (argX m c) (argA m c) (argH m c)) (argW m c)) = final5 m c := by
  funext j
  have hj : j = ix3 (j 0) (j 1) (j 2) := by funext k; match k with | ⟨0, _⟩ => rfl | ⟨1, _⟩ => rfl | ⟨2, _⟩ => rfl
  rw [hj]
  exact (first_at _ _ _ _).trans (projected_el _ _ _ _ _ _ _)

open Cert.Reference2Ideal.Inproj in
theorem second_el (c : Dev nD) (b : Fin 16) (i : Fin 4096) (n : Fin 896) :
    (second (projected (modulated (argX m c) (argA m c) (argH m c)) (argW m c)) (ix3 b i n) : EReal)
      = if h : (n : ℕ) < 800 then el m c b i ⟨1536 + n, by omega⟩ else 0 := by
  refine (second_at _ _ _ _).trans ?_
  by_cases h : (n : ℕ) < 800
  · rw [dif_pos h, dif_pos h]
    exact projected_el _ _ _ _ _ _ _
  · rw [dif_neg h, dif_neg h]

open Cert.Reference2Ideal.Inproj in
theorem second_final (c : Dev nD) : second (projected (modulated (argX m c) (argA m c) (argH m c)) (argW m c)) = final6 m c := by
  funext j
  have hj : j = ix3 (j 0) (j 1) (j 2) := by funext k; match k with | ⟨0, _⟩ => rfl | ⟨1, _⟩ => rfl | ⟨2, _⟩ => rfl
  rw [hj]
  exact second_el m c _ _ _

open Cert.Reference2Ideal.Inproj in
theorem third_final (c : Dev nD) : third (projected (modulated (argX m c) (argA m c) (argH m c)) (argW m c)) = final7 m c := by
  funext j
  have hj : j = ix4 (j 0) (j 1) (j 2) (j 3) := by funext k; match k with | ⟨0, _⟩ => rfl | ⟨1, _⟩ => rfl | ⟨2, _⟩ => rfl | ⟨3, _⟩ => rfl
  rw [hj]
  exact (third_at _ _ _ _ _).trans (projected_el _ _ _ _ _ _ _)

end Cert.Kernel2Ideal.Inproj

end
-- ==== Proof.ExpertsSetup.lean ====
/- The routed experts' call, its launch: what its arrays hold when it starts, the two tables it reads before anything
   else (each block's expert, and how many blocks are in use), the block of every operand a grid point works on, and
   what the body is handed at a point. Everything holds for any reading of the numbers. -/
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel3Ideal.Experts

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation)

variable {F : FTy → Type} [FloatOps F]

local notation "𝕄" => MT nD τ sig Unit (Elt F) ℕ (UR sig nD τ) ℕ

variable (m : (ℓ : Loc nD τ sig) → Buf (Elt F) ℓ)

/-- A buffer's contents when the call starts: the result's buffer has been filled with the blocks handed on. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; rfl

theorem main_prefix : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub hostOps0_fresh main_chain

/-- The copy into the result's buffer touches no other buffer. -/
theorem V_of_ne (c : Dev nD) (b : Ref sig .tc) (h : b ≠ main_v0) : V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact StableHlo.devRef_ne_of_ne h))

/-- The result's buffer starts as the blocks handed on. -/
theorem V_result (c : Dev nD) : V m c main_v0 = m ((c : Thread nD τ).loc main_arg6) := by
  unfold V hostOps0
  after_results
  rfl

/-! ## The tables -/

/-- The tables' contents. -/
def tables : pre0.Contents (Elt F) := fun j => V m (0 : Dev nD) (pre0.ref j)

theorem V_tables (c : Dev nD) (j : Fin 2) : V m c (pre0.ref j) = tables m j := by
  obtain rfl : c = 0 := Subsingleton.elim _ _; rfl

/-- Every block's expert exists. -/
abbrev Ok : Prop := ok0 (F := F) (tables m)
abbrev adm (hO : Ok m) : (pcfg0 (F := F)).Adm := ⟨tables m, hO⟩
abbrev cfg (hO : Ok m) : Pipeline.Cfg sig Λ₀ := cfg0 (adm m hO)

abbrev expertsRef : Memref sig .tc .smem S1216 .i32 := Memref.whole main_arg0
abbrev usedRef : Memref sig .tc .smem S1 .i32 := Memref.whole main_arg1

/-- The half of a table's ownership that the body holds while it runs. -/
abbrev held (c : Dev nD) {S : Shape} {e : EltTy} (M : Memref sig .tc .smem S e) (f : Buf (Elt F) (M.view.loc (c : Thread nD τ))) : sProp 𝕄 :=
  M.view.loc (c : Thread nD τ) ↦{fullShare.right} f

theorem tables_held (c : Dev nD) : (Pipeline.ΦT pre0 (tables m) c : sProp 𝕄)
    = iprop(held c expertsRef (tables m 0) ∗ held c usedRef (tables m 1)) := by
  unfold Pipeline.ΦT Pipeline.prefHeld
  rw [show (Finset.univ : Finset (Fin 2)) = insert (0 : Fin 2) {(1 : Fin 2)} from by decide,
    bigSep_insert (by decide), bigSep_singleton]
  rfl

/-! ## The blocks -/

/-- Operand `w`'s block at point `t`. -/
def blk (hO : Ok m) (c : Dev nD) (w : Fin (cfg m hO).W) (t : Fin (cfg m hO).N) : (((cfg m hO).win w).xblock ((cfg m hO).grid.coords t)).Idx → Elt F ((cfg m hO).win w).elt :=
  (((cfg m hO).win w).blk t).view.read (Elt F) (V m c (Pipeline.arrRef spec0 w))

/-- The three scratch buffers: the current expert's weights, rounded. -/
abbrev gateM : Memref sig .tc .vmem S1024x256 .bf16 := Memref.whole cc0_scratch0
abbrev upM : Memref sig .tc .vmem S1024x256 .bf16 := Memref.whole cc0_scratch1
abbrev downM : Memref sig .tc .vmem S256x1024 .bf16 := Memref.whole cc0_scratch2

/-- What the region owns beside the windows and the tables: the scratch at anything, the generator's register. -/
theorem scratch_owned (c : Dev nD) : (Pipeline.ΦA spec0 c : sProp 𝕄)
    = iprop(iprop((∃ d, owns (c : Thread nD τ) gateM fullShare d) ∗ (∃ d, owns (c : Thread nD τ) upM fullShare d)
        ∗ (∃ d, owns (c : Thread nD τ) downM fullShare d)) ∗ (∃ r, prngReg c r)) := by
  unfold Pipeline.ΦA; rw [scopedRest0_eq]; simp only [gateM, upM, downM, owns_whole]; try rfl

/-- The staging buffers of point `t`. -/
abbrev stg0 (hO : Ok m) (t : Fin (cfg m hO).N) : Memref sig .tc .vmem S512x1024 .bf16 := spec0_0.stage ((cfg m hO).slots t 0)
abbrev stg1 (hO : Ok m) (t : Fin (cfg m hO).N) : Memref sig .tc .vmem S1x1x1024x256 .f32 := spec0_1.stage ((cfg m hO).slots t 1)
abbrev stg2 (hO : Ok m) (t : Fin (cfg m hO).N) : Memref sig .tc .vmem S1x1x1024x256 .f32 := spec0_2.stage ((cfg m hO).slots t 2)
abbrev stg3 (hO : Ok m) (t : Fin (cfg m hO).N) : Memref sig .tc .vmem S1x1x256x1024 .f32 := spec0_3.stage ((cfg m hO).slots t 3)
abbrev stg4 (hO : Ok m) (t : Fin (cfg m hO).N) : Memref sig .tc .vmem S512x1024 .bf16 := spec0_4.stage ((cfg m hO).slots t 4)

end Cert.Kernel3Ideal.Experts

end
-- ==== Proof.ExpertsRuns.lean ====
/- The routed experts' body at one point: from its operands' blocks and the scratch to what it leaves in the scratch and
   in the result's block, for each way its two conditions come out. -/
module

public import proofs.«01_k».proof.Proof.ExpertsSetup
public import Idealize.ShloMosaic.Lib.VecWindow

@[expose] public section

set_option maxRecDepth 16384

noncomputable section

namespace Cert.Kernel3Ideal.Experts

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- An unmasked store over a whole buffer leaves its payload, whatever was stored before. -/
theorem read_store_all {κ : Kind} {sp : Space} {s : Shape} {e : EltTy} {Val : EltTy → Type} (v : View sig κ sp s e) (f : v.ty.Contents Val)
    {off : Fin s.rank → ℕ} (inb : ∀ a, off a + s.size a ≤ s.size a) (x : s.Idx → Val e) (L : List (View.Piece Val s e)) :
    v.read Val (v.writes Val f (⟨Rect.unit off s.size inb, x⟩ :: L)) = x := by
  funext y
  have h := View.read_writes_cons_emb v f (Rect.unit off s.size inb) x L y
  have e : (Rect.unit off s.size inb).emb y = y := funext fun a => Fin.ext (by
    show off a + 1 * (y a).val = (y a).val
    have := inb a; omega)
  rwa [e] at h

/-- The entry of a block's expert table at an offset. -/
def entry (te : IVec S1216 32) (off : Fin 1 → ℕ) (inb : ∀ a, off a + S1.size a ≤ S1216.size a) : BitVec 32 :=
  te ((Rect.unit (s := S1216) off S1.size inb).emb (Shape.Idx.first (numel1_S1.symm ▸ Nat.one_pos)))

/-- Whether the point loads its expert's weights: the first does, and every one whose expert is not the one before's. -/
def fresh (i : grid0.Coords) (te : IVec S1216 32) : BitVec 1 :=
  Scalar.cmpi .ne (Scalar.extui (Scalar.ori (Scalar.cmpi .eq (BitVec.ofNat 32 (i 0).val) 0#32)
    (Scalar.cmpi .ne (entry te (k0_off1 i) (k0_off1_inb i)) (entry te (k0_off2 i) (k0_off2_inb i))))) 0#32

/-- How many blocks are in use. -/
def count (nu : IVec S1 32) : BitVec 32 := nu (fun a => ⟨(![0] : Fin 1 → ℕ) a, by revert a; decide⟩)

/-- A scratch buffer after the point. -/
def kept {α : Type} (i : grid0.Coords) (te : IVec S1216 32) (new old : α) : α := if fresh i te = 1#1 then new else old

/-- The result's block after the point: the expert applied to its block when it is in use, else nothing. -/
def written (i : grid0.Coords) (nu : IVec S1 32) (x : Vec F S512x1024 .bf16) (g u : Vec F S1024x256 .bf16) (d : Vec F S256x1024 .bf16) : Vec F S512x1024 .bf16 :=
  if k0_cond2 i (count nu) = 1#1 then k0_pay4 x g u d else k0_pay5

set_option maxHeartbeats 1000000 in
theorem body_run (c : Dev nD) (i : grid0.Coords) (arg3 : Memref sig .tc .vmem S512x1024 .bf16) (harg3 : arg3.IsWhole) (arg4 : Memref sig .tc .vmem S1x1x1024x256 .f32) (harg4 : arg4.IsWhole) (arg5 : Memref sig .tc .vmem S1x1x1024x256 .f32) (harg5 : arg5.IsWhole) (arg6 : Memref sig .tc .vmem S1x1x256x1024 .f32) (harg6 : arg6.IsWhole) (arg8 : Memref sig .tc .vmem S512x1024 .bf16) (harg8 : arg8.IsWhole)
    (x0 : Vec F S512x1024 .bf16) (x1 : Vec F S1x1x1024x256 .f32) (x2 : Vec F S1x1x1024x256 .f32) (x3 : Vec F S1x1x256x1024 .f32) (s0 s1 : Vec F S1024x256 .bf16) (s2 : Vec F S256x1024 .bf16)
    (te : IVec S1216 32) (nu : IVec S1 32) (hstore : ¬ k0_cond2 i (count nu) = 1#1 ↔ k0_cond3 i (count nu) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ (∃ d, owns (c : Thread nD τ) arg8 fullShare d)
        ∗ owns (c : Thread nD τ) gateM fullShare s0 ∗ owns (c : Thread nD τ) upM fullShare s1 ∗ owns (c : Thread nD τ) downM fullShare s2
        ∗ held c expertsRef te ∗ held c usedRef nu
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg8 fullShare (written i nu x0 (kept i te (k0_pay1 x1) s0) (kept i te (k0_pay2 x2) s1) (kept i te (k0_pay3 x3) s2))
            ∗ owns (c : Thread nD τ) gateM fullShare (kept i te (k0_pay1 x1) s0) ∗ owns (c : Thread nD τ) upM fullShare (kept i te (k0_pay2 x2) s1) ∗ owns (c : Thread nD τ) downM fullShare (kept i te (k0_pay3 x3) s2)
            ∗ held c expertsRef te ∗ held c usedRef nu) -∗ K ⟨⟩))
      ⊢ wp frame (wpE (defs₀ (F := F)) Variants.none c none) E (cc0_moe_experts i expertsRef (Memref.isWhole_whole _) usedRef (Memref.isWhole_whole _) arg3 harg3 arg4 harg4 arg5 harg5 arg6 harg6 (Memref.whole main_arg6) (Memref.isWhole_whole _) arg8 harg8 gateM (Memref.isWhole_whole _) upM (Memref.isWhole_whole _) downM (Memref.isWhole_whole _)) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, ⟨%fs2, %hs2, HS2⟩, HT0, HT1, Hk⟩
  sl_exec
  have hv : body_run.sl.v11 (F := F) i te = fresh i te := rfl
  have hr : body_run.sl.r_2 (F := F) nu = count nu := congrArg nu (funext fun a => Fin.ext (by revert a; decide))
  have e1 : View.read (Elt F) gateM.view (if hc : body_run.sl.v11 (F := F) i te = 1#1 then
      gateM.view.writes (Elt F) fs0 [⟨Rect.unit ![0, 0] S1024x256.size inb_S1024x256_S1024x256_0_0, k0_pay1 (View.readAt (Elt F) arg4.view (Rect.unit ![0, 0, 0, 0] S1x1x1024x256.size inb_S1x1x1024x256_S1x1x1024x256_0_0_0_0).toLoadRect f1)⟩] else fs0) = kept i te (k0_pay1 x1) s0 := by
    unfold kept
    by_cases h : fresh i te = 1#1
    · rw [dif_pos (hv.trans h), if_pos h]; exact (read_store_all _ _ _ _ _).trans (congrArg k0_pay1 ((View.readAt_full _ _ _).trans hf1))
    · rw [dif_neg (fun h' => h (hv.symm.trans h')), if_neg h]; exact hs0
  have e2 : View.read (Elt F) upM.view (if hc : body_run.sl.v11 (F := F) i te = 1#1 then
      upM.view.writes (Elt F) fs1 [⟨Rect.unit ![0, 0] S1024x256.size inb_S1024x256_S1024x256_0_0, k0_pay2 (View.readAt (Elt F) arg5.view (Rect.unit ![0, 0, 0, 0] S1x1x1024x256.size inb_S1x1x1024x256_S1x1x1024x256_0_0_0_0).toLoadRect f2)⟩] else fs1) = kept i te (k0_pay2 x2) s1 := by
    unfold kept
    by_cases h : fresh i te = 1#1
    · rw [dif_pos (hv.trans h), if_pos h]; exact (read_store_all _ _ _ _ _).trans (congrArg k0_pay2 ((View.readAt_full _ _ _).trans hf2))
    · rw [dif_neg (fun h' => h (hv.symm.trans h')), if_neg h]; exact hs1
  have e3 : View.read (Elt F) downM.view (if hc : body_run.sl.v11 (F := F) i te = 1#1 then
      downM.view.writes (Elt F) fs2 [⟨Rect.unit ![0, 0] S256x1024.size inb_S256x1024_S256x1024_0_0, k0_pay3 (View.readAt (Elt F) arg6.view (Rect.unit ![0, 0, 0, 0] S1x1x256x1024.size inb_S1x1x256x1024_S1x1x256x1024_0_0_0_0).toLoadRect f3)⟩] else fs2) = kept i te (k0_pay3 x3) s2 := by
    unfold kept
    by_cases h : fresh i te = 1#1
    · rw [dif_pos (hv.trans h), if_pos h]; exact (read_store_all _ _ _ _ _).trans (congrArg k0_pay3 ((View.readAt_full _ _ _).trans hf3))
    · rw [dif_neg (fun h' => h (hv.symm.trans h')), if_neg h]; exact hs2
  sl_step
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    rotate_left
    · iexact H4
    · ipureintro
      rw [hr]
      unfold written
      by_cases h : k0_cond2 i (count nu) = 1#1
      · rw [dif_neg (fun h3 => hstore.mpr h3 h), dif_pos h, if_pos h]
        refine (read_store_all _ _ _ _ _).trans ?_
        rw [← e1, ← e2, ← e3, ← hf0]
        exact congr (congr (congr (congrArg k0_pay4 (View.readAt_full _ _ _)) (View.readAt_full _ _ _)) (View.readAt_full _ _ _)) (View.readAt_full _ _ _)
      · rw [dif_pos (hstore.mp h), if_neg h]
        exact read_store_all _ _ _ _ _
  isplitl [HS0]
  · iexists _; isplitr
    · ipureintro; exact e1
    iexact HS0
  isplitl [HS1]
  · iexists _; isplitr
    · ipureintro; exact e2
    iexact HS1
  isplitl [HS2]
  · iexists _; isplitr
    · ipureintro; exact e3
    iexact HS2
  isplitl [HT0]; · iexact HT0
  iexact HT1

end Cert.Kernel3Ideal.Experts

end
-- ==== Proof.ExpertsBlocks.lean ====
/- The blocks the routed experts' points work on, as parts of the arrays: a point's rows, and its expert's weights. -/
module

public import proofs.«01_k».proof.Proof.ExpertsRuns
public import Idealize.ShloMosaic.Lib.Pipeline.ValueKit

@[expose] public section

set_option maxRecDepth 16384

noncomputable section

namespace Cert.Kernel3Ideal.Experts

open Cert.Kernel3Ideal.Gen
open Idealize.ShloMosaic Idealize.ShloMosaic.TcCoe Idealize.ShloMosaic.Tactic
open Idealize.SL.Sem

variable {F : FTy → Type} [FloatOps F] (m : (ℓ : Loc nD τ sig) → Buf (Elt F) ℓ)

theorem point_lt (hO : Ok m) (t : Fin (cfg m hO).N) : t.val < 608 := lt_of_lt_of_eq t.isLt N_0

/-- The expert of point `t`'s block. -/
def word (hO : Ok m) (t : Fin (cfg m hO).N) : BitVec 32 := entry (tables m 0) (k0_off1 (grid0.coords t)) (k0_off1_inb _)

theorem index_weights (hO : Ok m) (t : Fin (cfg m hO).N) :
    ((cfg m hO).win 1).index t = ![0, (word m hO t).toNat, 0, 0] ∧ ((cfg m hO).win 2).index t = ![0, (word m hO t).toNat, 0, 0]
      ∧ ((cfg m hO).win 3).index t = ![0, (word m hO t).toNat, 0, 0] :=
  ⟨rfl, rfl, rfl⟩

theorem index_rows (hO : Ok m) (t : Fin (cfg m hO).N) : ((cfg m hO).win 0).index t = ![t.val, 0] ∧ ((cfg m hO).win 4).index t = ![t.val + 608, 0] :=
  (by decide +kernel : ∀ t : Fin grid0.N, cc0_transform_0 (grid0.coords t) = ![t.val, 0] ∧ cc0_transform_5 (grid0.coords t) = ![t.val + 608, 0]) t

theorem word_lt (hO : Ok m) (t : Fin (cfg m hO).N) : (word m hO t).toNat < 128 := by
  have h : ((word m hO t).toNat + 1) * 1 ≤ 128 := (hO.1 (grid0.coords t)).elim fun h _ => h 1
  omega

/-- That expert as a number. -/
def expert (hO : Ok m) (t : Fin (cfg m hO).N) : Fin 128 := ⟨(word m hO t).toNat, word_lt m hO t⟩

theorem gate_at (hO : Ok m) (c : Dev nD) (t : Fin (cfg m hO).N) (k : Fin 1024) (n : Fin 256) :
    blk m hO c 1 t (ix4 0 0 k n) = V m c main_arg3 (ix4 0 (expert m hO t) k n) := by
  have h := index_weights m hO t
  blk_point [blk, h, expert]

theorem up_at (hO : Ok m) (c : Dev nD) (t : Fin (cfg m hO).N) (k : Fin 1024) (n : Fin 256) :
    blk m hO c 2 t (ix4 0 0 k n) = V m c main_arg4 (ix4 0 (expert m hO t) k n) := by
  have h := index_weights m hO t
  blk_point [blk, h, expert]

theorem down_at (hO : Ok m) (c : Dev nD) (t : Fin (cfg m hO).N) (n : Fin 256) (k : Fin 1024) :
    blk m hO c 3 t (ix4 0 0 n k) = V m c main_arg5 (ix4 0 (expert m hO t) n k) := by
  have h := index_weights m hO t
  blk_point [blk, h, expert]

theorem rows_at (hO : Ok m) (c : Dev nD) (t : Fin (cfg m hO).N) (r : Fin 512) (k : Fin 1024) :
    blk m hO c 0 t (ix2 r k) = V m c main_arg2 (ix2 ⟨t.val * 512 + r, by have := point_lt m hO t; omega⟩ k) := by
  have h := index_rows m hO t
  have ht := point_lt m hO t
  blk_point [blk, h]

end Cert.Kernel3Ideal.Experts

end
-- ==== Proof.ExpertsBody.lean ====
/- The routed experts' launch, point by point: the scratch always holds the current expert's weights, because a point
   whose weights are not loaded has the same expert as the one before; so every point writes its expert's output. From
   that the launch's final memory. -/
module

public import proofs.«01_k».proof.Proof.ExpertsBlocks

@[expose] public section

set_option maxRecDepth 16384

noncomputable section

namespace Cert.Kernel3Ideal.Experts

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions -/

theorem ne_zero_iff (b : Bool) : Scalar.cmpi .ne (Scalar.extui (BitVec.ofBool b) : BitVec 32) 0#32 = 1#1 ↔ b = true := by
  revert b; decide

theorem used_iff (i : grid0.Coords) (w : BitVec 32) :
    k0_cond2 i w = 1#1 ↔ BitVec.slt (Scalar.addi (BitVec.ofNat 32 (i 0).val) 608#32) w = true := ne_zero_iff _

theorem unused_iff (i : grid0.Coords) (w : BitVec 32) :
    k0_cond3 i w = 1#1 ↔ BitVec.sle w (Scalar.addi (BitVec.ofNat 32 (i 0).val) 608#32) = true := ne_zero_iff _

/-- A block is in use or it is not: the result's block is stored exactly once. -/
theorem one_store (i : grid0.Coords) (w : BitVec 32) : ¬ k0_cond2 i w = 1#1 ↔ k0_cond3 i w = 1#1 := by
  rw [used_iff, unused_iff]
  simp [BitVec.slt, BitVec.sle]

theorem not_both (a b : BitVec 1) (h : ¬ a = 1#1 ↔ b = 1#1) : (!(a == 1#1) && !(b == 1#1)) = false := by
  revert a b; decide

theorem never_idle (hO : Ok m) (t : Fin (cfg m hO).N) : (cfg m hO).idle 4 ((cfg m hO).grid.coords t) = false :=
  not_both _ _ (one_store (grid0.coords t) _)

theorem offset_here : ∀ t : Fin grid0.N, k0_off1 (grid0.coords t) = ![t.val + 608] := by decide +kernel

theorem offset_before : ∀ t : Fin grid0.N, k0_off2 (grid0.coords t) = ![t.val + 607] := by decide +kernel

theorem first_iff : ∀ t : Fin grid0.N, Scalar.cmpi .eq (BitVec.ofNat 32 ((grid0.coords t) 0).val) 0#32 = 0#1 → t.val ≠ 0 := by decide +kernel

theorem not_fresh_bits (a b : BitVec 1) (h : ¬ Scalar.cmpi .ne (Scalar.extui (Scalar.ori a b) : BitVec 32) 0#32 = 1#1) : a = 0#1 ∧ b = 0#1 := by
  revert a b; decide

theorem entry_congr (te : IVec S1216 32) (off off' : Fin 1 → ℕ) (inb inb') (h : off = off') : entry te off inb = entry te off' inb' := by
  subst h; rfl

theorem eq_of_not_ne (a b : BitVec 32) (h : Scalar.cmpi .ne a b = 0#1) : a = b := by
  by_contra hne
  have : Scalar.cmpi .ne a b = 1#1 := by
    show BitVec.ofBool (a != b) = 1#1
    rw [bne_iff_ne.mpr hne]; rfl
  rw [this] at h; exact absurd h (by decide)

/-- The point before. -/
def pred (hO : Ok m) (t : Fin (cfg m hO).N) : Fin (cfg m hO).N := ⟨t.val - 1, Nat.lt_of_le_of_lt (Nat.sub_le _ _) t.isLt⟩

/-- A point that does not load its weights is not the first and has the expert of the one before. -/
theorem not_fresh (hO : Ok m) (t : Fin (cfg m hO).N) (h : ¬ fresh (grid0.coords t) (tables m 0) = 1#1) :
    t.val ≠ 0 ∧ word m hO t = word m hO (pred m hO t) := by
  obtain ⟨ha, hb⟩ := not_fresh_bits _ _ h
  have h0 := first_iff t ha
  refine ⟨h0, (eq_of_not_ne _ _ hb).trans (entry_congr _ _ _ _ _ ?_)⟩
  rw [offset_before, offset_here]
  show ![t.val + 607] = ![(t.val - 1) + 608]
  congr 1; omega

/-! ## The weights in the scratch -/

/-- The weights of point `t`'s expert, rounded. -/
def gate (hO : Ok m) (c : Dev nD) (t : Fin (cfg m hO).N) : FVec F S1024x256 .bf16 := k0_pay1 (blk m hO c 1 t)
def up (hO : Ok m) (c : Dev nD) (t : Fin (cfg m hO).N) : FVec F S1024x256 .bf16 := k0_pay2 (blk m hO c 2 t)
def down (hO : Ok m) (c : Dev nD) (t : Fin (cfg m hO).N) : FVec F S256x1024 .bf16 := k0_pay3 (blk m hO c 3 t)

theorem same_weights (hO : Ok m) (c : Dev nD) (t u : Fin (cfg m hO).N) (h : word m hO t = word m hO u) :
    gate m hO c t = gate m hO c u ∧ up m hO c t = up m hO c u ∧ down m hO c t = down m hO c u := by
  have he : expert m hO t = expert m hO u := by unfold expert; rw [Fin.mk.injEq, h]
  have e1 : ∀ (a b : Fin 1) (k : Fin 1024) (n : Fin 256), blk m hO c 1 t (ix4 a b k n) = blk m hO c 1 u (ix4 a b k n) := fun a b k n => by
    obtain rfl : a = 0 := Subsingleton.elim _ _
    obtain rfl : b = 0 := Subsingleton.elim _ _
    rw [gate_at, gate_at, he]
  have e2 : ∀ (a b : Fin 1) (k : Fin 1024) (n : Fin 256), blk m hO c 2 t (ix4 a b k n) = blk m hO c 2 u (ix4 a b k n) := fun a b k n => by
    obtain rfl : a = 0 := Subsingleton.elim _ _
    obtain rfl : b = 0 := Subsingleton.elim _ _
    rw [up_at, up_at, he]
  have e3 : ∀ (a b : Fin 1) (n : Fin 256) (k : Fin 1024), blk m hO c 3 t (ix4 a b n k) = blk m hO c 3 u (ix4 a b n k) := fun a b n k => by
    obtain rfl : a = 0 := Subsingleton.elim _ _
    obtain rfl : b = 0 := Subsingleton.elim _ _
    rw [down_at, down_at, he]
  have w1 : (blk m hO c 1 t : Vec F S1x1x1024x256 .f32) = blk m hO c 1 u := funext fun j => by
    rw [eq_ix4 j]; exact e1 _ _ _ _
  have w2 : (blk m hO c 2 t : Vec F S1x1x1024x256 .f32) = blk m hO c 2 u := funext fun j => by
    rw [eq_ix4 j]; exact e2 _ _ _ _
  have w3 : (blk m hO c 3 t : Vec F S1x1x256x1024 .f32) = blk m hO c 3 u := funext fun j => by
    rw [eq_ix4 j]; exact e3 _ _ _ _
  exact ⟨congrArg k0_pay1 w1, congrArg k0_pay2 w2, congrArg k0_pay3 w3⟩

/-- After point `t` each scratch buffer holds its expert's weights, whether loaded there or held since before. -/
theorem kept_weights (hO : Ok m) (c : Dev nD) (t : Fin (cfg m hO).N) (g u : FVec F S1024x256 .bf16) (d : FVec F S256x1024 .bf16)
    (h : t.val ≠ 0 → g = gate m hO c (pred m hO t) ∧ u = up m hO c (pred m hO t) ∧ d = down m hO c (pred m hO t)) :
    kept (grid0.coords t) (tables m 0) (k0_pay1 (blk m hO c 1 t)) g = gate m hO c t
      ∧ kept (grid0.coords t) (tables m 0) (k0_pay2 (blk m hO c 2 t)) u = up m hO c t
      ∧ kept (grid0.coords t) (tables m 0) (k0_pay3 (blk m hO c 3 t)) d = down m hO c t := by
  unfold kept
  by_cases hf : fresh (grid0.coords t) (tables m 0) = 1#1
  · rw [if_pos hf, if_pos hf, if_pos hf]; exact ⟨rfl, rfl, rfl⟩
  · rw [if_neg hf, if_neg hf, if_neg hf]
    obtain ⟨h0, hw⟩ := not_fresh m hO t hf
    obtain ⟨hg, hu, hd⟩ := h h0
    obtain ⟨eg, eu, ed⟩ := same_weights m hO c t (pred m hO t) hw
    exact ⟨hg.trans eg.symm, hu.trans eu.symm, hd.trans ed.symm⟩

/-- What point `t` leaves in the result's block. -/
def outBlk (hO : Ok m) (c : Dev nD) (t : Fin (cfg m hO).N) : Vec F S512x1024 .bf16 :=
  written (grid0.coords t) (tables m 1) (blk m hO c 0 t) (gate m hO c t) (up m hO c t) (down m hO c t)

/-! ## The proof data -/

/-- What holds between the points: before the first the scratch is anything, after point `n` it holds its weights. -/
def inv (hO : Ok m) (c : Dev nD) : (n : ℕ) → n ≤ (cfg m hO).N → sProp 𝕄
  | 0, _ => iprop(Pipeline.ΦA spec0 c ∗ Pipeline.ΦT pre0 (tables m) c)
  | n + 1, hn => iprop(iprop(iprop(owns (c : Thread nD τ) gateM fullShare (gate m hO c ⟨n, hn⟩) ∗ owns (c : Thread nD τ) upM fullShare (up m hO c ⟨n, hn⟩) ∗ owns (c : Thread nD τ) downM fullShare (down m hO c ⟨n, hn⟩)) ∗ (∃ r, prngReg c r)) ∗ Pipeline.ΦT pre0 (tables m) c)

theorem inv_zero (hO : Ok m) (c : Dev nD) (n : ℕ) (h : n ≤ (cfg m hO).N) (hz : n = 0) : inv m hO c n h = iprop(Pipeline.ΦA spec0 c ∗ Pipeline.ΦT pre0 (tables m) c) := by
  subst hz; rfl

theorem inv_succ (hO : Ok m) (c : Dev nD) (n : ℕ) (hn : n < (cfg m hO).N) :
    inv m hO c (n + 1) hn = iprop(iprop(iprop(owns (c : Thread nD τ) gateM fullShare (gate m hO c ⟨n, hn⟩) ∗ owns (c : Thread nD τ) upM fullShare (up m hO c ⟨n, hn⟩) ∗ owns (c : Thread nD τ) downM fullShare (down m hO c ⟨n, hn⟩)) ∗ (∃ r, prngReg c r)) ∗ Pipeline.ΦT pre0 (tables m) c) := rfl

theorem inv_pos (hO : Ok m) (c : Dev nD) (n : ℕ) (h : n ≤ (cfg m hO).N) (hz : n ≠ 0) (hn : n - 1 < (cfg m hO).N) :
    inv m hO c n h = iprop(iprop(iprop(owns (c : Thread nD τ) gateM fullShare (gate m hO c ⟨n - 1, hn⟩) ∗ owns (c : Thread nD τ) upM fullShare (up m hO c ⟨n - 1, hn⟩) ∗ owns (c : Thread nD τ) downM fullShare (down m hO c ⟨n - 1, hn⟩)) ∗ (∃ r, prngReg c r)) ∗ Pipeline.ΦT pre0 (tables m) c) := by
  cases n with
  | zero => exact absurd rfl hz
  | succ n => rfl

/-- Operands' buffers end a point at their blocks, the result's at what the point writes. -/
def dats (hO : Ok m) (_ : Fin 1) (c : Dev nD) : Dat τ (Elt F) Unit ℕ (UR sig nD τ) ℕ (cfg m hO) c where
  A w := V m c (Pipeline.arrRef spec0 w)
  after w t := match w with
    | ⟨0, _⟩ => blk m hO c 0 t
    | ⟨1, _⟩ => blk m hO c 1 t
    | ⟨2, _⟩ => blk m hO c 2 t
    | ⟨3, _⟩ => blk m hO c 3 t
    | ⟨4, _⟩ => outBlk m hO c t
  Φ t := inv m hO c t.val (Nat.le_of_lt_succ t.isLt)
  q _ := fullShare
  owed _ := 0

theorem A_eq (hO : Ok m) (c : Dev nD) (w : Fin (cfg m hO).W) : (dats m hO 0 c).A w = V m c (Pipeline.arrRef spec0 w) := by
  dsimp only [dats]

theorem inv_castSucc (hO : Ok m) (c : Dev nD) (t : Fin (cfg m hO).N) : (dats m hO 0 c).Φ t.castSucc = inv m hO c t.val (Nat.le_of_lt t.isLt) := by
  dsimp only [dats]; exact Pipeline.Dat.Φ_castSucc (inv m hO c) t

theorem after0 (hO : Ok m) (c : Dev nD) (t : Fin (cfg m hO).N) : (dats m hO 0 c).after 0 t = blk m hO c 0 t := by dsimp only [dats]; try rfl
theorem after1 (hO : Ok m) (c : Dev nD) (t : Fin (cfg m hO).N) : (dats m hO 0 c).after 1 t = blk m hO c 1 t := by dsimp only [dats]; try rfl
theorem after2 (hO : Ok m) (c : Dev nD) (t : Fin (cfg m hO).N) : (dats m hO 0 c).after 2 t = blk m hO c 2 t := by dsimp only [dats]; try rfl
theorem after3 (hO : Ok m) (c : Dev nD) (t : Fin (cfg m hO).N) : (dats m hO 0 c).after 3 t = blk m hO c 3 t := by dsimp only [dats]; try rfl
theorem after4 (hO : Ok m) (c : Dev nD) (t : Fin (cfg m hO).N) : (dats m hO 0 c).after 4 t = outBlk m hO c t := by dsimp only [dats]; try rfl

theorem before0 (hO : Ok m) (c : Dev nD) (t : Fin (cfg m hO).N) (d) : (dats m hO 0 c).before 0 t d = blk m hO c 0 t :=
  ((dats m hO 0 c).before_in_eq_fetched 0 rfl (fun _ => rfl) (fun _ _ _ => rfl) (fun t => by rw [after0]; unfold Dat.blockOf blk; rw [A_eq]; try rfl) t d).trans (by unfold Dat.fetched Dat.blockOf blk; rw [A_eq]; try rfl)
theorem before1 (hO : Ok m) (c : Dev nD) (t : Fin (cfg m hO).N) (d) : (dats m hO 0 c).before 1 t d = blk m hO c 1 t :=
  ((dats m hO 0 c).before_in_eq_fetched 1 rfl (fun _ => rfl) (fun _ _ _ => rfl) (fun t => by rw [after1]; unfold Dat.blockOf blk; rw [A_eq]; try rfl) t d).trans (by unfold Dat.fetched Dat.blockOf blk; rw [A_eq]; try rfl)
theorem before2 (hO : Ok m) (c : Dev nD) (t : Fin (cfg m hO).N) (d) : (dats m hO 0 c).before 2 t d = blk m hO c 2 t :=
  ((dats m hO 0 c).before_in_eq_fetched 2 rfl (fun _ => rfl) (fun _ _ _ => rfl) (fun t => by rw [after2]; unfold Dat.blockOf blk; rw [A_eq]; try rfl) t d).trans (by unfold Dat.fetched Dat.blockOf blk; rw [A_eq]; try rfl)
theorem before3 (hO : Ok m) (c : Dev nD) (t : Fin (cfg m hO).N) (d) : (dats m hO 0 c).before 3 t d = blk m hO c 3 t :=
  ((dats m hO 0 c).before_in_eq_fetched 3 rfl (fun _ => rfl) (fun _ _ _ => rfl) (fun t => by rw [after3]; unfold Dat.blockOf blk; rw [A_eq]; try rfl) t d).trans (by unfold Dat.fetched Dat.blockOf blk; rw [A_eq]; try rfl)

theorem leaves_written (hO : Ok m) (c : Dev nD) (t : Fin (cfg m hO).N) :
    (dats m hO 0 c).leavesExact 4 t = owns (c : Thread nD τ) (stg4 m hO t) fullShare ((dats m hO 0 c).after 4 t) := by
  unfold Dat.leavesExact; rw [never_idle m hO t]; rfl

/-! ## The body at a point -/

/-- The body as the launch calls it at point `t`. -/
abbrev bodyAt (hO : Ok m) (t : Fin (cfg m hO).N) : Prog (TpuEff nD τ sig (Elt F) Λ₀ .tc) PUnit :=
  cc0_moe_experts (grid0.coords t) expertsRef (Memref.isWhole_whole _) usedRef (Memref.isWhole_whole _)
    (stg0 m hO t) (hstage0_0 (((cfg m hO).slots t 0).cast nbuf0_0)) (stg1 m hO t) (hstage0_1 (((cfg m hO).slots t 1).cast nbuf0_1))
    (stg2 m hO t) (hstage0_2 (((cfg m hO).slots t 2).cast nbuf0_2)) (stg3 m hO t) (hstage0_3 (((cfg m hO).slots t 3).cast nbuf0_3))
    (Memref.whole main_arg6) (Memref.isWhole_whole _) (stg4 m hO t) (hstage0_4 (((cfg m hO).slots t 4).cast nbuf0_4))
    gateM (Memref.isWhole_whole _) upM (Memref.isWhole_whole _) downM (Memref.isWhole_whole _)

/-- What it is called with, -/
def bodyPre (hO : Ok m) (c : Dev nD) (t : Fin (cfg m hO).N) : sProp 𝕄 :=
  iprop((dats m hO 0 c).Φ t.castSucc ∗ (dats m hO 0 c).owesAt () t.castSucc
    ∗ (∃ d, owns (c : Thread nD τ) (stg0 m hO t) fullShare ((dats m hO 0 c).before 0 t d))
    ∗ (∃ d, owns (c : Thread nD τ) (stg1 m hO t) fullShare ((dats m hO 0 c).before 1 t d))
    ∗ (∃ d, owns (c : Thread nD τ) (stg2 m hO t) fullShare ((dats m hO 0 c).before 2 t d))
    ∗ (∃ d, owns (c : Thread nD τ) (stg3 m hO t) fullShare ((dats m hO 0 c).before 3 t d))
    ∗ (∃ d, owns (c : Thread nD τ) (stg4 m hO t) fullShare ((dats m hO 0 c).before 4 t d)))

/-- and what it returns. -/
def bodyPost (hO : Ok m) (c : Dev nD) (t : Fin (cfg m hO).N) : sProp 𝕄 :=
  iprop((dats m hO 0 c).Φ t.succ ∗ (dats m hO 0 c).owesAt () t.succ
    ∗ owns (c : Thread nD τ) (stg0 m hO t) fullShare ((dats m hO 0 c).after 0 t)
    ∗ owns (c : Thread nD τ) (stg1 m hO t) fullShare ((dats m hO 0 c).after 1 t)
    ∗ owns (c : Thread nD τ) (stg2 m hO t) fullShare ((dats m hO 0 c).after 2 t)
    ∗ owns (c : Thread nD τ) (stg3 m hO t) fullShare ((dats m hO 0 c).after 3 t)
    ∗ (dats m hO 0 c).leavesExact 4 t)

set_option maxHeartbeats 3200000 in
/-- The body at point `t`, the scratch at contents that are the previous point's weights. -/
theorem body_of (hO : Ok m) (c : Dev nD) (t : Fin (cfg m hO).N) (g u : FVec F S1024x256 .bf16) (d : FVec F S256x1024 .bf16)
    (h : t.val ≠ 0 → g = gate m hO c (pred m hO t) ∧ u = up m hO c (pred m hO t) ∧ d = down m hO c (pred m hO t)) :
    iprop(iprop(iprop(iprop(owns (c : Thread nD τ) gateM fullShare g ∗ owns (c : Thread nD τ) upM fullShare u ∗ owns (c : Thread nD τ) downM fullShare d) ∗ (∃ r, prngReg c r)) ∗ Pipeline.ΦT pre0 (tables m) c) ∗ (dats m hO 0 c).owesAt () t.castSucc
    ∗ (∃ d, owns (c : Thread nD τ) (stg0 m hO t) fullShare ((dats m hO 0 c).before 0 t d))
    ∗ (∃ d, owns (c : Thread nD τ) (stg1 m hO t) fullShare ((dats m hO 0 c).before 1 t d))
    ∗ (∃ d, owns (c : Thread nD τ) (stg2 m hO t) fullShare ((dats m hO 0 c).before 2 t d))
    ∗ (∃ d, owns (c : Thread nD τ) (stg3 m hO t) fullShare ((dats m hO 0 c).before 3 t d))
    ∗ (∃ d, owns (c : Thread nD τ) (stg4 m hO t) fullShare ((dats m hO 0 c).before 4 t d)))
      ⊢ wp frame (wpE (defs₀ (F := F)) Variants.none c none) Set.univ (bodyAt m hO t) (fun _ => bodyPost m hO c t) := by
  obtain ⟨eg, eu, ed⟩ := kept_weights m hO c t g u d h
  unfold bodyPost bodyAt
  simp only [before0, before1, before2, before3]
  rw [show (dats m hO 0 c).owesAt () t.succ = (dats m hO 0 c).owesAt () t.castSucc from rfl, after0, after1, after2, after3, leaves_written, after4]
  rw [show (dats m hO 0 c).Φ t.succ = inv m hO c (t.val + 1) t.isLt from rfl, inv_succ, tables_held]
  iintro ⟨⟨⟨⟨HS0, HS1, HS2⟩, Hg⟩, ⟨HT0, HT1⟩⟩, Ho, ⟨%d0, H0⟩, ⟨%d1, H1⟩, ⟨%d2, H2⟩, ⟨%d3, H3⟩, ⟨%d4, H4⟩⟩
  iapply (body_run c (grid0.coords t) _ _ _ _ _ _ _ _ _ _ (blk m hO c 0 t) (blk m hO c 1 t) (blk m hO c 2 t) (blk m hO c 3 t) g u d (tables m 0) (tables m 1) (one_store _ _) Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HT0]; · iexact HT0
  isplitl [HT1]; · iexact HT1
  rw [eg, eu, ed]
  iintro ⟨H0, H1, H2, H3, H4, HS0, HS1, HS2, HT0, HT1⟩
  isplitl [HS0 HS1 HS2 Hg HT0 HT1]
  · isplitl [HS0 HS1 HS2 Hg]
    · isplitl [HS0 HS1 HS2]
      · isplitl [HS0]; · iexact HS0
        isplitl [HS1]; · iexact HS1
        iexact HS2
      iexact Hg
    isplitl [HT0]; · iexact HT0
    iexact HT1
  isplitl [Ho]; · iexact Ho
  isplitl [H0]; · iexact H0
  isplitl [H1]; · iexact H1
  isplitl [H2]; · iexact H2
  isplitl [H3]; · iexact H3
  iexact H4

theorem body_sound (hO : Ok m) (c : Dev nD) (t : Fin (cfg m hO).N) :
    bodyPre m hO c t ⊢ wp frame (wpE (defs₀ (F := F)) Variants.none c none) Set.univ (bodyAt m hO t) (fun _ => bodyPost m hO c t) := by
  unfold bodyPre
  by_cases hz : t.val = 0
  · rw [inv_castSucc m hO c t, inv_zero m hO c _ _ hz, scratch_owned]
    iintro ⟨⟨⟨⟨⟨%g, HS0⟩, ⟨%u, HS1⟩, ⟨%d, HS2⟩⟩, Hg⟩, HT⟩, Hrest⟩
    iapply (body_of m hO c t g u d (fun h => absurd hz h))
    isplitr [Hrest]
    · isplitr [HT]
      · isplitr [Hg]
        · isplitl [HS0]; · iexact HS0
          isplitl [HS1]; · iexact HS1
          iexact HS2
        iexact Hg
      iexact HT
    iexact Hrest
  · rw [inv_castSucc m hO c t, inv_pos m hO c _ _ hz (Nat.lt_of_le_of_lt (Nat.sub_le _ _) t.isLt)]
    exact body_of m hO c t _ _ _ fun _ => ⟨rfl, rfl, rfl⟩

theorem body_row (hO : Ok m) (t : Fin (cfg m hO).N) :
    defs₀ (F := F) .tc (cfg m hO).body ((cfg m hO).bodyArgs t ((cfg m hO).slots t)) = bodyAt m hO t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, body_row m hO]
  exact triple_restated (body_sound m hO c t) rfl .rfl fun _ => .rfl

/-! ## The launch -/

/-- What the launch hands over is what holds before the first point, -/
theorem handed (hO : Ok m) (c : Dev nD) : iprop(Pipeline.ΦA spec0 c ∗ Pipeline.ΦT pre0 (tables m) c) ⊢ (dats m hO 0 c).Φ 0 := by
  rw [show (dats m hO 0 c).Φ 0 = inv m hO c 0 (Nat.zero_le _) from rfl, inv_zero m hO c 0 _ rfl]

/-- and after the last the scratch is given back. -/
theorem returned (hO : Ok m) (c : Dev nD) : (dats m hO 0 c).Φ (Fin.last (cfg m hO).N) ⊢ Pipeline.ΦA spec0 c := by
  have hN : (cfg m hO).N = 608 := N_0
  have hl : (cfg m hO).N ≠ 0 := by omega
  rw [show (dats m hO 0 c).Φ (Fin.last (cfg m hO).N) = inv m hO c (cfg m hO).N (Nat.le_refl _) from rfl,
    inv_pos m hO c _ _ hl (by omega), scratch_owned]
  iintro ⟨⟨⟨HS0, HS1, HS2⟩, Hg⟩, -⟩
  isplitl [HS0 HS1 HS2]
  · isplitl [HS0]; · iexists _; iexact HS0
    isplitl [HS1]; · iexists _; iexact HS1
    iexists _; iexact HS2
  iexact Hg

set_option backward.isDefEq.respectTransparency.types false in
/-- The program ends, every counter at zero, with the arrays at what the points wrote and every other buffer as it was. -/
theorem launched (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := main_prefix m) (hA := A_eq m hO) (hpf := V_tables m)
    (hin := handed m hO) (hout := returned m hO)

/-- The seven arguments as the program leaves them, and its result. -/
theorem ends (hO : Ok m) : θ_run defs (onTc (τ := τ) (main (F := F))) (s₀ m ρ) (fun r => (∀ c : Dev nD,
      (r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6))
      ∧ r.2.mem ((c : Thread nD τ).loc main_v0) = (dats m hO 0 c).arrAt 4 (cfg m hO).N) ∧ r.2.sem = fun _ => 0) :=
  (θ_run defs _ _).mono (fun r h => ⟨fun c => by
    have h := h.1 c
    have arr (w : Fin 5) (hw : ((cfg m hO).win w).isOut = false) := (h.1 w).trans (((dats m hO 0 c).arrAt_in w hw _).trans (A_eq m hO c w))
    have rest (b : Ref sig .tc) (hb : b ∈ Pipeline.restRefs sig spec0) (hn : b ≠ main_v0) := (h.2 b hb).trans (V_of_ne m c b hn)
    exact ⟨⟨rest main_arg0 (by decide) (by decide), rest main_arg1 (by decide) (by decide),
      (arr 0 rfl).trans (V_of_ne m c main_arg2 (by decide)), (arr 1 rfl).trans (V_of_ne m c main_arg3 (by decide)),
      (arr 2 rfl).trans (V_of_ne m c main_arg4 (by decide)), (arr 3 rfl).trans (V_of_ne m c main_arg5 (by decide)),
      rest main_arg6 (by decide) (by decide)⟩, h.1 4⟩, h.2⟩) (launched m ρ hO)

end Cert.Kernel3Ideal.Experts

end
-- ==== Proof.ExpertsExist.lean ====
/- Every expert a table names exists: what the precondition says, and that the call's blocks are then inside the arrays; so it runs. -/
module

public import proofs.«01_k».proof.Proof.ExpertsBody
public import proofs.«01_k».proof.Proof.Gen.Pre_experts_exist

@[expose] public section

set_option maxRecDepth 16384

noncomputable section

namespace Cert.Kernel3Ideal.Experts

open Cert.Kernel3Ideal.Gen
open Idealize.ShloMosaic Idealize.ShloMosaic.TcCoe Idealize.ShloMosaic.Tactic
open Idealize.SL.Sem

variable {F : FTy → Type} [FloatOps F]

/-- The precondition, entry by entry. -/
theorem exists_of_pre (te : IVec S1216 32) (a1 : IVec S1 32) (a2 : FVec F S311296x1024 .bf16) (a3 a4 : FVec F S4x128x1024x256 .f32)
    (a5 : FVec F S4x128x256x1024 .f32) (a6 : FVec F S622592x1024 .bf16) (h : Cert.Pre_experts_exist.fn te a1 a2 a3 a4 a5 a6 = fun _ => 1#1)
    (j : S1216.Idx) : 0 ≤ (te j).toInt ∧ (te j).toNat < 128 := by
  have hand : ∀ a b : BitVec 1, IntOp.andi a b = 1#1 → a = 1#1 ∧ b = 1#1 := by decide
  have hone : ∀ p : Bool, BitVec.ofBool p = 1#1 → p = true := by decide
  obtain ⟨h1, h2⟩ := hand _ _ (congrFun h j)
  have h1 : BitVec.sle 0#32 (te j) = true := hone _ h1
  have h2 : BitVec.slt (te j) 128#32 = true := hone _ h2
  rw [BitVec.sle, decide_eq_true_eq] at h1
  rw [BitVec.slt, decide_eq_true_eq] at h2
  have e0 : (0#32 : BitVec 32).toInt = 0 := by decide
  have e1 : (128#32 : BitVec 32).toInt = 128 := by decide
  rw [e0] at h1
  rw [e1] at h2
  refine ⟨h1, ?_⟩
  rw [BitVec.toInt_eq_toNat_cond] at h1 h2
  split at h1 <;> omega

variable (m : (ℓ : Loc nD τ sig) → Buf (Elt F) ℓ)

/-- Tables whose experts exist name blocks inside the arrays. -/
theorem ok_of_exist (h : ∀ j : S1216.Idx, ((tables m 0 : IVec S1216 32) j).toNat < 128) : Ok m := by
  have hw (i : grid0.Coords) : (entry (tables m 0) (k0_off1 i) (k0_off1_inb i)).toNat < 128 := h _
  refine ⟨fun i => ⟨fun (a : Fin 4) => ?_, Or.inl rfl⟩, fun i => ⟨fun (a : Fin 4) => ?_, Or.inl rfl⟩, fun i => ⟨fun (a : Fin 4) => ?_, Or.inl rfl⟩⟩
  · match a with
    | ⟨0, _⟩ => exact (by decide : (0 + 1) * 1 ≤ 4)
    | ⟨1, _⟩ => exact (Nat.mul_one _).le.trans (hw i)
    | ⟨2, _⟩ => exact (by decide : (0 + 1) * 1024 ≤ 1024)
    | ⟨3, _⟩ => exact (by decide : (0 + 1) * 256 ≤ 256)
  · match a with
    | ⟨0, _⟩ => exact (by decide : (0 + 1) * 1 ≤ 4)
    | ⟨1, _⟩ => exact (Nat.mul_one _).le.trans (hw i)
    | ⟨2, _⟩ => exact (by decide : (0 + 1) * 1024 ≤ 1024)
    | ⟨3, _⟩ => exact (by decide : (0 + 1) * 256 ≤ 256)
  · match a with
    | ⟨0, _⟩ => exact (by decide : (0 + 1) * 1 ≤ 4)
    | ⟨1, _⟩ => exact (Nat.mul_one _).le.trans (hw i)
    | ⟨2, _⟩ => exact (by decide : (0 + 1) * 256 ≤ 256)
    | ⟨3, _⟩ => exact (by decide : (0 + 1) * 1024 ≤ 1024)

theorem tables_eq : (tables m 0 : IVec S1216 32) = m (((0 : Dev nD) : Thread nD τ).loc main_arg0) := V_of_ne m 0 main_arg0 (by decide)

theorem word_nonneg (hO : Ok m) (t : Fin (cfg m hO).N) (h : ∀ j : S1216.Idx, 0 ≤ ((tables m 0 : IVec S1216 32) j).toInt) : 0 ≤ (word m hO t).toInt := h _

/-- Where every expert exists the call runs, and leaves its arguments as they were. -/
theorem frame (g : Dev nD → PrngReg) (h : ∀ j : S1216.Idx, ((tables m 0 : IVec S1216 32) j).toNat < 128) :
    θ_run defs (onTc (τ := τ) (main (F := F))) ⟨m, fun _ => 0, g⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) ∧ r.2.sem = fun _ => 0) :=
  (θ_run defs _ _).mono (fun r h => ⟨fun c => (h.1 c).1, h.2⟩) (ends m g (ok_of_exist m h))

end Cert.Kernel3Ideal.Experts

end
-- ==== Proof.ExpertsKernel.lean ====
/- One block through its expert, element by element: (silu(x·wg) * (x·wu))·wd. -/
module

public import proofs.«01_k».proof.Proof.Gen.Kernel3Ideal.Skeleton
public import proofs.«01_k».proof.Proof.Gen.Kernel3Ideal.Launch
public import Idealize.ShloMosaic.Lib.Pipeline.ValueKit

@[expose] public section

set_option maxRecDepth 16384

noncomputable section

namespace Cert.Kernel3Ideal.Experts

open Cert.Kernel3Ideal Cert.Kernel3Ideal.Gen Idealize.ShloMosaic Idealize.ShloMosaic.TcCoe Idealize.SL.Sem

/-- A row through an expert: the gate's channel `g`, the other branch's `u`, gated and projected down. -/
def expertRow (x : Fin 1024 → EReal) (wg wu : Fin 1024 → Fin 256 → EReal) (wd : Fin 256 → Fin 1024 → EReal) (k : Fin 1024) : EReal :=
  ∑ n : Fin 256, (∑ j : Fin 1024, x j * wg j n) * Ideal.logistic (∑ j : Fin 1024, x j * wg j n) * (∑ j : Fin 1024, x j * wu j n) * wd n k

theorem pay1_at (w : Vec Ideal S1x1x1024x256 .f32) (k : Fin 1024) (n : Fin 256) : (k0_pay1 w (ix2 k n) : EReal) = w (ix4 0 0 k n) := by
  pointwise [k0_pay1]

theorem pay2_at (w : Vec Ideal S1x1x1024x256 .f32) (k : Fin 1024) (n : Fin 256) : (k0_pay2 w (ix2 k n) : EReal) = w (ix4 0 0 k n) := by
  pointwise [k0_pay2]

theorem pay3_at (w : Vec Ideal S1x1x256x1024 .f32) (n : Fin 256) (k : Fin 1024) : (k0_pay3 w (ix2 n k) : EReal) = w (ix4 0 0 n k) := by
  pointwise [k0_pay3]

theorem pay4_at (x : Vec Ideal S512x1024 .bf16) (g u : Vec Ideal S1024x256 .bf16) (d : Vec Ideal S256x1024 .bf16) (r : Fin 512) (k : Fin 1024) :
    (k0_pay4 x g u d (ix2 r k) : EReal)
      = expertRow (fun j => x (ix2 r j)) (fun j n => g (ix2 j n)) (fun j n => u (ix2 j n)) (fun n k => d (ix2 n k)) k := by
  unfold expertRow
  pointwise [k0_pay4]

theorem pay5_at (r : Fin 512) (k : Fin 1024) : (k0_pay5 (F := Ideal) (ix2 r k) : EReal) = 0 := by
  pointwise [k0_pay5]

end Cert.Kernel3Ideal.Experts

end
-- ==== Proof.ExpertsRef.lean ====
/- The reference's blocks through their experts, element by element. -/
module

public import proofs.«01_k».proof.Proof.ExpertsKernel
public import proofs.«01_k».proof.Proof.Gen.Reference3Ideal
public import proofs.«01_k».proof.Proof.Gen.Reference3Ideal.Run
public import Idealize.ShloMosaic.Lib.Pipeline.ValueKit

@[expose] public section

set_option maxRecDepth 16384

noncomputable section

namespace Cert.Reference3Ideal.Experts

open Cert.Kernel3Ideal.Experts (expertRow)
open Cert.Reference3Ideal Cert.Reference3Ideal.Gen Idealize.ShloMosaic Idealize.ShloMosaic.TcCoe Idealize.SL.Sem

/-- The second half's experts, a negative number counted from the end. -/
def chosen (te : IVec S1216 32) : IVec S608x1 32 :=
  broadcastInDim S608x1 ![0] bcast_S608_S608x1_0
    (select (cmpi .slt (extractStridedSlice S608 ![608] te slices_S1216_S608_608) (broadcastInDim S608 ![] bcast_S_S608 (constantI S_ 32 0#32)))
      (addi (extractStridedSlice S608 ![608] te slices_S1216_S608_608) (broadcastInDim S608 ![] bcast_S_S608 (constantI S_ 32 128#32)))
      (extractStridedSlice S608 ![608] te slices_S1216_S608_608))

/-- Every block's weights of one branch, and of the projection down. -/
def branch (te : IVec S1216 32) (w : FVec Ideal S4x128x1024x256 .f32) : FVec Ideal S608x1024x256 .f32 :=
  Host.gather gather_S128x1024x256_S608x1_S608x1024x256_12_0_n_n_0_1_11024256
    (shapeCast S128x1024x256 (extractStridedSlice S1x128x1024x256 ![0, 0, 0, 0] w slices_S4x128x1024x256_S1x128x1024x256_0_0_0_0) shapeCasts_S1x128x1024x256_S128x1024x256) (chosen te)
def downs (te : IVec S1216 32) (w : FVec Ideal S4x128x256x1024 .f32) : FVec Ideal S608x256x1024 .f32 :=
  Host.gather gather_S128x256x1024_S608x1_S608x256x1024_12_0_n_n_0_1_12561024
    (shapeCast S128x256x1024 (extractStridedSlice S1x128x256x1024 ![0, 0, 0, 0] w slices_S4x128x256x1024_S1x128x256x1024_0_0_0_0) shapeCasts_S1x128x256x1024_S128x256x1024) (chosen te)

/-- The rows in blocks of 512. -/
def blocks (x : FVec Ideal S311296x1024 .bf16) : FVec Ideal S608x512x1024 .f32 :=
  shapeCast _ (extf .f32 x bitsLt_bf16_f32) shapeCasts_S311296x1024_S608x512x1024

/-- A branch's channels, and the gated channels projected down. -/
def channels (x : FVec Ideal S608x512x1024 .f32) (w : FVec Ideal S608x1024x256 .f32) : FVec Ideal S608x512x256 .f32 :=
  Host.dotGeneral (φ₁ := .f32) (φ₂ := .f32) dot_S608x512x1024_S608x1024x256_S608x512x256_2_1_1_2_0_0 none x w
def silu (g : FVec Ideal S608x512x256 .f32) : FVec Ideal S608x512x256 .f32 :=
  mulf g (Host.divf (broadcastInDim S608x512x256 ![] bcast_S_S608x512x256 (constant S_ .f32 0x3F800000#32))
    (addf (broadcastInDim S608x512x256 ![] bcast_S_S608x512x256 (constant S_ .f32 0x3F800000#32)) (Host.exp (Host.negf g))))
def projectedDown (g u : FVec Ideal S608x512x256 .f32) (w : FVec Ideal S608x256x1024 .f32) : FVec Ideal S608x512x1024 .f32 :=
  Host.dotGeneral (φ₁ := .f32) (φ₂ := .f32) dot_S608x512x256_S608x256x1024_S608x512x1024_2_1_1_2_0_0 none (mulf (silu g) u) w

/-- The blocks in use, counted through both halves. -/
def used (nu : IVec S1 32) : IVec S608 1 :=
  cmpi .slt (addi (broadcastInDim S608 ![] bcast_S_S608 (constantI S_ 32 608#32)) (iotaInDim S608 32 0))
    (broadcastInDim S608 ![] bcast_S_S608 (shapeCast _ nu shapeCasts_S1_S_))

/-- The second half's rows: a block out of use is zero. -/
def secondHalf (nu : IVec S1 32) (y : FVec Ideal S608x512x1024 .f32) : FVec Ideal S311296x1024 .bf16 :=
  truncf .bf16 (shapeCast _ (select (broadcastInDim S608x512x1024 ![0, 1, 2] bcast_S608x1x1_S608x512x1024_0_1_2
      (broadcastInDim S608x1x1 ![0] bcast_S608_S608x1x1_0 (used nu))) y
    (broadcastInDim S608x512x1024 ![] bcast_S_S608x512x1024 (id (constant S_ .f32 0x00000000#32)))) shapeCasts_S608x512x1024_S311296x1024) bitsLt_bf16_f32

/-- The result: the first half's rows as they were, then the second half's. -/
def joined (old : FVec Ideal S622592x1024 .bf16) (new : FVec Ideal S311296x1024 .bf16) : FVec Ideal S622592x1024 .bf16 :=
  concatenate S622592x1024 0 [⟨S311296x1024, extractStridedSlice S311296x1024 ![0, 0] old slices_S622592x1024_S311296x1024_0_0⟩, ⟨S311296x1024, new⟩]
    concatenates_S311296x1024_S311296x1024_S622592x1024_d0

def result (te : IVec S1216 32) (nu : IVec S1 32) (x : FVec Ideal S311296x1024 .bf16) (g u : FVec Ideal S4x128x1024x256 .f32)
    (d : FVec Ideal S4x128x256x1024 .f32) (old : FVec Ideal S622592x1024 .bf16) : FVec Ideal S622592x1024 .bf16 :=
  joined old (secondHalf nu (projectedDown (channels (blocks x) (branch te g)) (channels (blocks x) (branch te u)) (downs te d)))

theorem result_eq (m : (ℓ : Loc nD τ sig) → Buf (Elt Ideal) ℓ) (c : Dev nD) :
    Value.res_main_v46 m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := rfl

theorem chosen_at (te : IVec S1216 32) (b : Fin 608) (h : 0 ≤ (te (ix1 ⟨608 + b, by omega⟩)).toInt) :
    chosen te (ix2 b 0) = te (ix1 ⟨608 + b, by omega⟩) := by
  have hn : IntOp.cmpi .slt (te (ix1 ⟨608 + b, by omega⟩)) 0#32 = 0#1 := by
    simp only [IntOp.cmpi, BitVec.slt, BitVec.toInt_zero]
    rw [decide_eq_false (by omega)]
    rfl
  pointwise [chosen]
  rw [hn]
  rfl

/-- A gathered block of weights is the chosen expert's. -/
theorem gathered_branch {α : Type} (w : S128x1024x256.Idx → α) (ex : IVec S608x1 32) (b : Fin 608) (e : Fin 128) (k : Fin 1024) (n : Fin 256)
    (he : (ex (ix2 b 0)).toInt = (e : ℕ)) :
    Host.gather gather_S128x1024x256_S608x1_S608x1024x256_12_0_n_n_0_1_11024256 w ex (ix3 b k n) = w (ix3 e k n) := by
  have h0 : min (ex (ix2 b 0)).toInt.toNat 127 = e := by rw [he]; have := e.isLt; simp; omega
  have e0 : ∀ X : Fin 3, X = 0 → (ix3 b k n X).val = b.val := fun X h => by subst h; rfl
  have e1 : ∀ X : Fin 3, X = 1 → (ix3 b k n X).val = k.val := fun X h => by subst h; rfl
  have e2 : ∀ X : Fin 3, X = 2 → (ix3 b k n X).val = n.val := fun X h => by subst h; rfl
  refine congrArg w (funext fun a => Fin.ext ?_)
  unfold GatherDims.operandIdx
  match a with
  | ⟨0, _⟩ =>
    show GatherDims.start _ _ _ 0 + GatherDims.batchCoord _ _ 0 + GatherDims.offCoord _ _ 0 = e.val
    rw [GatherDims.batchCoord_eq_zero _ _ _ (by decide), GatherDims.offCoord_eq_zero _ _ _ (by decide)]
    unfold GatherDims.start
    rw [dif_pos (by decide)]
    refine Eq.trans (congrArg (fun i => min (ex i).toInt.toNat 127) (funext fun y => Fin.ext ?_)) h0
    match y with
    | ⟨0, _⟩ =>
      show (gather_S128x1024x256_S608x1_S608x1024x256_12_0_n_n_0_1_11024256.siIdx (ix3 b k n) _ (0 : Fin 2)).val = b.val
      unfold GatherDims.siIdx
      rw [dif_neg (by decide)]
      unfold GatherDims.siCoord
      exact e0 _ (by decide)
    | ⟨1, _⟩ =>
      show (gather_S128x1024x256_S608x1_S608x1024x256_12_0_n_n_0_1_11024256.siIdx (ix3 b k n) _ (1 : Fin 2)).val = 0
      unfold GatherDims.siIdx
      rw [dif_pos (by decide)]
      show List.idxOf (0 : Fin 3) _ = 0
      decide
  | ⟨1, _⟩ =>
    show GatherDims.start _ _ _ 1 + GatherDims.batchCoord _ _ 1 + GatherDims.offCoord _ _ 1 = k.val
    rw [GatherDims.batchCoord_eq_zero _ _ _ (by decide)]
    unfold GatherDims.start GatherDims.offCoord
    rw [dif_neg (by decide), dif_pos (by decide), Nat.zero_add]
    exact e1 _ (by decide)
  | ⟨2, _⟩ =>
    show GatherDims.start _ _ _ 2 + GatherDims.batchCoord _ _ 2 + GatherDims.offCoord _ _ 2 = n.val
    rw [GatherDims.batchCoord_eq_zero _ _ _ (by decide)]
    unfold GatherDims.start GatherDims.offCoord
    rw [dif_neg (by decide), dif_pos (by decide), Nat.zero_add]
    exact e2 _ (by decide)

theorem branch_at (te : IVec S1216 32) (w : FVec Ideal S4x128x1024x256 .f32) (b : Fin 608) (e : Fin 128) (k : Fin 1024) (n : Fin 256)
    (he : (chosen te (ix2 b 0)).toInt = (e : ℕ)) : (branch te w (ix3 b k n) : EReal) = w (ix4 0 e k n) := by
  unfold branch
  rw [gathered_branch _ _ b e k n he]
  pointwise

/-- The same of the weights projecting down. -/
theorem gathered_downs {α : Type} (w : S128x256x1024.Idx → α) (ex : IVec S608x1 32) (b : Fin 608) (e : Fin 128) (k : Fin 256) (n : Fin 1024)
    (he : (ex (ix2 b 0)).toInt = (e : ℕ)) :
    Host.gather gather_S128x256x1024_S608x1_S608x256x1024_12_0_n_n_0_1_12561024 w ex (ix3 b k n) = w (ix3 e k n) := by
  have h0 : min (ex (ix2 b 0)).toInt.toNat 127 = e := by rw [he]; have := e.isLt; simp; omega
  have e0 : ∀ X : Fin 3, X = 0 → (ix3 b k n X).val = b.val := fun X h => by subst h; rfl
  have e1 : ∀ X : Fin 3, X = 1 → (ix3 b k n X).val = k.val := fun X h => by subst h; rfl
  have e2 : ∀ X : Fin 3, X = 2 → (ix3 b k n X).val = n.val := fun X h => by subst h; rfl
  refine congrArg w (funext fun a => Fin.ext ?_)
  unfold GatherDims.operandIdx
  match a with
  | ⟨0, _⟩ =>
    show GatherDims.start _ _ _ 0 + GatherDims.batchCoord _ _ 0 + GatherDims.offCoord _ _ 0 = e.val
    rw [GatherDims.batchCoord_eq_zero _ _ _ (by decide), GatherDims.offCoord_eq_zero _ _ _ (by decide)]
    unfold GatherDims.start
    rw [dif_pos (by decide)]
    refine Eq.trans (congrArg (fun i => min (ex i).toInt.toNat 127) (funext fun y => Fin.ext ?_)) h0
    match y with
    | ⟨0, _⟩ =>
      show (gather_S128x256x1024_S608x1_S608x256x1024_12_0_n_n_0_1_12561024.siIdx (ix3 b k n) _ (0 : Fin 2)).val = b.val
      unfold GatherDims.siIdx
      rw [dif_neg (by decide)]
      unfold GatherDims.siCoord
      exact e0 _ (by decide)
    | ⟨1, _⟩ =>
      show (gather_S128x256x1024_S608x1_S608x256x1024_12_0_n_n_0_1_12561024.siIdx (ix3 b k n) _ (1 : Fin 2)).val = 0
      unfold GatherDims.siIdx
      rw [dif_pos (by decide)]
      show List.idxOf (0 : Fin 3) _ = 0
      decide
  | ⟨1, _⟩ =>
    show GatherDims.start _ _ _ 1 + GatherDims.batchCoord _ _ 1 + GatherDims.offCoord _ _ 1 = k.val
    rw [GatherDims.batchCoord_eq_zero _ _ _ (by decide)]
    unfold GatherDims.start GatherDims.offCoord
    rw [dif_neg (by decide), dif_pos (by decide), Nat.zero_add]
    exact e1 _ (by decide)
  | ⟨2, _⟩ =>
    show GatherDims.start _ _ _ 2 + GatherDims.batchCoord _ _ 2 + GatherDims.offCoord _ _ 2 = n.val
    rw [GatherDims.batchCoord_eq_zero _ _ _ (by decide)]
    unfold GatherDims.start GatherDims.offCoord
    rw [dif_neg (by decide), dif_pos (by decide), Nat.zero_add]
    exact e2 _ (by decide)

theorem downs_at (te : IVec S1216 32) (w : FVec Ideal S4x128x256x1024 .f32) (b : Fin 608) (e : Fin 128) (k : Fin 256) (n : Fin 1024)
    (he : (chosen te (ix2 b 0)).toInt = (e : ℕ)) : (downs te w (ix3 b k n) : EReal) = w (ix4 0 e k n) := by
  unfold downs
  rw [gathered_downs _ _ b e k n he]
  pointwise

theorem channels_at (x : FVec Ideal S608x512x1024 .f32) (w : FVec Ideal S608x1024x256 .f32) (b : Fin 608) (r : Fin 512) (n : Fin 256) :
    (channels x w (ix3 b r n) : EReal) = ∑ k : Fin 1024, x (ix3 b r k) * w (ix3 b k n) := by
  pointwise [channels]

theorem silu_at (g : FVec Ideal S608x512x256 .f32) (b : Fin 608) (r : Fin 512) (n : Fin 256) :
    (silu g (ix3 b r n) : EReal) = g (ix3 b r n) * Ideal.logistic (g (ix3 b r n)) := by
  pointwise [silu]
  rfl

theorem projectedDown_at (g u : FVec Ideal S608x512x256 .f32) (w : FVec Ideal S608x256x1024 .f32) (b : Fin 608) (r : Fin 512) (k : Fin 1024) :
    (projectedDown g u w (ix3 b r k) : EReal) = ∑ n : Fin 256, silu g (ix3 b r n) * u (ix3 b r n) * w (ix3 b n k) := by
  pointwise [projectedDown]

theorem blocks_at (x : FVec Ideal S311296x1024 .bf16) (b : Fin 608) (r : Fin 512) (k : Fin 1024) :
    (blocks x (ix3 b r k) : EReal) = x (ix2 ⟨b * 512 + r, by omega⟩ k) := by
  pointwise [blocks]

theorem used_at (nu : IVec S1 32) (b : Fin 608) : used nu (ix1 b) = IntOp.cmpi .slt (IntOp.addi 608#32 (BitVec.ofNat 32 b)) (nu (ix1 0)) := by
  pointwise [used]

theorem secondHalf_at (nu : IVec S1 32) (y : FVec Ideal S608x512x1024 .f32) (b : Fin 608) (r : Fin 512) (k : Fin 1024) :
    (secondHalf nu y (ix2 ⟨b * 512 + r, by omega⟩ k) : EReal) = Scalar.select (used nu (ix1 b)) (y (ix3 b r k)) 0 := by
  pointwise [secondHalf, id]

theorem joined_old (old : FVec Ideal S622592x1024 .bf16) (new : FVec Ideal S311296x1024 .bf16) (i : Fin 311296) (k : Fin 1024) :
    (joined old new (ix2 ⟨i, by omega⟩ k) : EReal) = old (ix2 ⟨i, by omega⟩ k) := by
  pointwise [joined]

theorem joined_new (old : FVec Ideal S622592x1024 .bf16) (new : FVec Ideal S311296x1024 .bf16) (i : Fin 311296) (k : Fin 1024) :
    (joined old new (ix2 ⟨311296 + i, by omega⟩ k) : EReal) = new (ix2 i k) := by
  pointwise [joined]

/-- A row of the second half: through its block's expert when the block is in use. -/
theorem result_new (te : IVec S1216 32) (nu : IVec S1 32) (x : FVec Ideal S311296x1024 .bf16) (g u : FVec Ideal S4x128x1024x256 .f32)
    (d : FVec Ideal S4x128x256x1024 .f32) (old : FVec Ideal S622592x1024 .bf16) (b : Fin 608) (e : Fin 128)
    (he : (te (ix1 ⟨608 + b, by omega⟩)).toInt = (e : ℕ)) (r : Fin 512) (k : Fin 1024) :
    (result te nu x g u d old (ix2 ⟨311296 + (b * 512 + r), by omega⟩ k) : EReal)
      = Scalar.select (IntOp.cmpi .slt (IntOp.addi 608#32 (BitVec.ofNat 32 b)) (nu (ix1 0)))
          (expertRow (fun j => x (ix2 ⟨b * 512 + r, by omega⟩ j)) (fun j n => g (ix4 0 e j n)) (fun j n => u (ix4 0 e j n)) (fun n k => d (ix4 0 e n k)) k) 0 := by
  have hc : (chosen te (ix2 b 0)).toInt = (e : ℕ) := by
    rw [chosen_at te b (by rw [he]; exact Int.natCast_nonneg _), he]
  unfold result
  refine (joined_new _ _ ⟨b * 512 + r, by omega⟩ k).trans ?_
  refine (secondHalf_at _ _ b r k).trans ?_
  rw [used_at, projectedDown_at]
  congr 1
  unfold expertRow
  refine Finset.sum_congr rfl fun n _ => ?_
  rw [silu_at, channels_at, channels_at, downs_at _ _ _ _ _ _ hc]
  simp only [blocks_at, branch_at _ _ _ _ _ _ hc]

/-- A row of the first half is as it was. -/
theorem result_old (te : IVec S1216 32) (nu : IVec S1 32) (x : FVec Ideal S311296x1024 .bf16) (g u : FVec Ideal S4x128x1024x256 .f32)
    (d : FVec Ideal S4x128x256x1024 .f32) (old : FVec Ideal S622592x1024 .bf16) (i : Fin 311296) (k : Fin 1024) :
    (result te nu x g u d old (ix2 ⟨i, by omega⟩ k) : EReal) = old (ix2 ⟨i, by omega⟩ k) :=
  joined_old _ _ i k

end Cert.Reference3Ideal.Experts

end
-- ==== Proof.ExpertsFinal.lean ====
/- The routed experts' result, whole: the first half's rows as handed on, and every row of the second half through its
   block's expert; and that the reference's array is this one. -/
module

public import proofs.«01_k».proof.Proof.ExpertsExist
public import proofs.«01_k».proof.Proof.ExpertsKernel
public import proofs.«01_k».proof.Proof.ExpertsRef

@[expose] public section

set_option maxRecDepth 16384

noncomputable section

namespace Cert.Kernel3Ideal.Experts

open Cert.Kernel3Ideal Cert.Kernel3Ideal.Gen Idealize.ShloMosaic Idealize.ShloMosaic.TcCoe Idealize.SL.Sem

section tables
variable {F : FTy → Type} [FloatOps F] (m : (ℓ : Loc nD τ sig) → Buf (Elt F) ℓ)

theorem word_eq (hO : Ok m) (t : Fin (cfg m hO).N) :
    word m hO t = tables m 0 (ix1 ⟨608 + t.val, by have := point_lt m hO t; omega⟩ : S1216.Idx) := by
  unfold word entry
  refine congrArg (tables m 0) (funext fun a => Fin.ext ?_)
  match a with
  | ⟨0, _⟩ =>
    have h := congrFun (offset_here t) 0
    show k0_off1 (grid0.coords t) 0 + 1 * 0 = 608 + t.val
    rw [h]
    show t.val + 608 + 1 * 0 = 608 + t.val
    omega

theorem count_eq (nu : IVec S1 32) : count nu = nu (ix1 0) := by
  unfold count
  refine congrArg nu (funext fun a => Fin.ext ?_)
  match a with
  | ⟨0, _⟩ => rfl

theorem coord_eq : ∀ t : Fin grid0.N, ((grid0.coords t) 0).val = t.val := by decide +kernel

theorem ofBool_eq_one (p : Bool) : BitVec.ofBool p = 1#1 ↔ p = true := by cases p <;> decide

end tables

variable (m : (ℓ : Loc nD τ sig) → Buf (Elt Ideal) ℓ)

/-- A row of point `t`'s block through the block's expert. -/
theorem expert_at (hO : Ok m) (c : Dev nD) (t : Fin (cfg m hO).N) (r : Fin 512) (k : Fin 1024) :
    (k0_pay4 (blk m hO c 0 t) (gate m hO c t) (up m hO c t) (down m hO c t) (ix2 r k) : EReal)
      = expertRow (fun j => V m c main_arg2 (ix2 ⟨t.val * 512 + r, by have := point_lt m hO t; omega⟩ j)) (fun j n => V m c main_arg3 (ix4 0 (expert m hO t) j n))
          (fun j n => V m c main_arg4 (ix4 0 (expert m hO t) j n)) (fun n k => V m c main_arg5 (ix4 0 (expert m hO t) n k)) k := by
  refine (pay4_at _ _ _ _ r k).trans ?_
  congr 1
  · funext j; exact rows_at m hO c t r j
  · funext j n; exact (pay1_at _ j n).trans (gate_at m hO c t j n)
  · funext j n; exact (pay2_at _ j n).trans (up_at m hO c t j n)
  · funext n k; exact (pay3_at _ n k).trans (down_at m hO c t n k)

/-- The reference's array of what the call is given. -/
abbrev final (c : Dev nD) : FVec Ideal S622592x1024 .bf16 :=
  Cert.Reference3Ideal.Experts.result (V m c main_arg0) (V m c main_arg1) (V m c main_arg2) (V m c main_arg3) (V m c main_arg4) (V m c main_arg5) (m ((c : Thread nD τ).loc main_arg6))

/-- A row of the reference's second half. -/
theorem final_at (hO : Ok m) (c : Dev nD) (t : Fin (cfg m hO).N) (hw : 0 ≤ (word m hO t).toInt) (r : Fin 512) (k : Fin 1024) :
    (final m c (ix2 ⟨311296 + (t.val * 512 + r), by have := point_lt m hO t; omega⟩ k) : EReal)
      = Scalar.select (IntOp.cmpi .slt (IntOp.addi 608#32 (BitVec.ofNat 32 t.val)) (V m c main_arg1 (ix1 0)))
          (expertRow (fun j => V m c main_arg2 (ix2 ⟨t.val * 512 + r, by have := point_lt m hO t; omega⟩ j)) (fun j n => V m c main_arg3 (ix4 0 (expert m hO t) j n))
            (fun j n => V m c main_arg4 (ix4 0 (expert m hO t) j n)) (fun n k => V m c main_arg5 (ix4 0 (expert m hO t) n k)) k) 0 := by
  refine Cert.Reference3Ideal.Experts.result_new _ _ _ _ _ _ _ ⟨t.val, point_lt m hO t⟩ (expert m hO t) ?_ r k
  have h := word_eq m hO t
  have := word_lt m hO t
  have hV : (V m c main_arg0 : IVec S1216 32) = tables m 0 := V_tables m c 0
  rw [hV]
  refine (congrArg BitVec.toInt h.symm).trans ?_
  exact BitVec.toInt_eq_toNat_of_lt (by omega)

/-- A block in use is its expert's, any other zero: in the reference's words. -/
theorem written_at (t : Fin grid0.N) (nu : IVec S1 32) (x : Vec Ideal S512x1024 .bf16) (g u : Vec Ideal S1024x256 .bf16) (d : Vec Ideal S256x1024 .bf16)
    (r : Fin 512) (k : Fin 1024) (e : EReal) (h : k0_pay4 x g u d (ix2 r k) = e) :
    (written (grid0.coords t) nu x g u d (ix2 r k) : EReal)
      = Scalar.select (IntOp.cmpi .slt (IntOp.addi 608#32 (BitVec.ofNat 32 t.val)) (nu (ix1 0))) e 0 := by
  have hq : k0_cond2 (grid0.coords t) (count nu) = 1#1 ↔ IntOp.cmpi .slt (IntOp.addi 608#32 (BitVec.ofNat 32 t.val)) (nu (ix1 0)) = 1 := by
    rw [used_iff, count_eq, coord_eq t, ← ofBool_eq_one]
    exact iff_of_eq (congrArg (fun x => BitVec.ofBool (BitVec.slt x (nu (ix1 0))) = 1#1) (BitVec.add_comm _ _))
  unfold written Scalar.select
  by_cases hc : k0_cond2 (grid0.coords t) (count nu) = 1#1
  · rw [if_pos hc, if_pos (hq.mp hc)]
    exact h
  · rw [if_neg hc, if_neg (fun e => hc (hq.mpr e))]
    exact pay5_at r k

theorem out_at (hO : Ok m) (c : Dev nD) (t : Fin (cfg m hO).N) (r : Fin 512) (k : Fin 1024) :
    (outBlk m hO c t (ix2 r k) : EReal)
      = Scalar.select (IntOp.cmpi .slt (IntOp.addi 608#32 (BitVec.ofNat 32 t.val)) (V m c main_arg1 (ix1 0)))
          (expertRow (fun j => V m c main_arg2 (ix2 ⟨t.val * 512 + r, by have := point_lt m hO t; omega⟩ j)) (fun j n => V m c main_arg3 (ix4 0 (expert m hO t) j n))
            (fun j n => V m c main_arg4 (ix4 0 (expert m hO t) j n)) (fun n k => V m c main_arg5 (ix4 0 (expert m hO t) n k)) k) 0 := by
  have hV : (V m c main_arg1 : IVec S1 32) = tables m 1 := V_tables m c 1
  rw [hV]
  exact written_at t (tables m 1) _ _ _ _ r k _ (expert_at m hO c t r k)

theorem flushes (hO : Ok m) (t : Fin (cfg m hO).N) : ((cfg m hO).win 4).flush t = true :=
  (by decide +kernel : ∀ t : Fin grid0.N, Pipeline.Window.flushOf grid0 true cc0_transform_5 t = true) t

/-- The points write the blocks of the second half. -/
theorem covers (hO : Ok m) : ((cfg m hO).win 4).CoversWhere (fun β : Fin 2 → ℕ => 608 ≤ β 0) := by
  refine ⟨fun (a : Fin 2) => ?_, fun t _ => ⟨?_, fun (a : Fin 2) => Or.inl ?_⟩, fun β hβ => ?_⟩
  · exact (by decide : ∀ a : Fin 2, 0 < S512x1024.size a) a
  · rw [(index_rows m hO t).2]
    exact Nat.le_add_left _ _
  · rfl
  · have h0 : (β (0 : Fin 2)).val < (622592 + 512 - 1) / 512 := (β (0 : Fin 2)).isLt
    have h1 : (β (1 : Fin 2)).val < (1024 + 1024 - 1) / 1024 := (β (1 : Fin 2)).isLt
    have hN : (cfg m hO).N = 608 := N_0
    have hlt : (β (0 : Fin 2)).val - 608 < (cfg m hO).N := by omega
    refine ⟨⟨(β (0 : Fin 2)).val - 608, hlt⟩, fun (a : Fin 2) => ?_, flushes m hO _⟩
    rw [(index_rows m hO _).2]
    match a with
    | ⟨0, _⟩ => exact Nat.sub_add_cancel hβ
    | ⟨1, _⟩ => exact (Nat.lt_one_iff.mp h1).symm

/-- The call's result. -/
theorem final_eq (hO : Ok m) (hw : ∀ t, 0 ≤ (word m hO t).toInt) (c : Dev nD) : (dats m hO 0 c).arrAt 4 (cfg m hO).N = final m c := by
  refine (dats m hO 0 c).arrAt_eq_of_coversWhere_of_agree 4 (final m c) (fun β : Fin 2 → ℕ => 608 ≤ β 0) (covers m hO) (fun t hf y => ?_) (fun j hj => ?_)
  · have ha := after4 m hO c t
    have hb := index_rows m hO t
    have hr : (y (0 : Fin 2) : ℕ) < 512 := (y (0 : Fin 2)).isLt
    have hk : (y (1 : Fin 2) : ℕ) < 1024 := (y (1 : Fin 2)).isLt
    have ht := point_lt m hO t
    have hy : (((cfg m hO).win 4).blk t).view.emb y = (ix2 ⟨311296 + (t.val * 512 + (⟨y (0 : Fin 2), hr⟩ : Fin 512)), by omega⟩ ⟨y (1 : Fin 2), hk⟩ : S622592x1024.Idx) := by
      blk_ext [hb]
    rw [hy]
    refine Eq.trans ?_ (final_at m hO c t (hw t) ⟨y (0 : Fin 2), hr⟩ ⟨y (1 : Fin 2), hk⟩).symm
    have hx : ((cfg m hO).win 4).xinj ((cfg m hO).grid.coords t) y = (ix2 ⟨y (0 : Fin 2), hr⟩ ⟨y (1 : Fin 2), hk⟩ : S512x1024.Idx) := by
      funext a
      match a with
      | ⟨0, _⟩ => rfl
      | ⟨1, _⟩ => rfl
    refine (cast_eq _ _).trans ?_
    rw [ha, hx]
    exact out_at m hO c t _ _
  · have h0 : (j (0 : Fin 2) : ℕ) / 512 < 608 := Nat.lt_of_not_le hj
    have hj0 : (j (0 : Fin 2) : ℕ) < 311296 := by omega
    have hj1 : (j (1 : Fin 2) : ℕ) < 1024 := (j (1 : Fin 2)).isLt
    have he : ((cfg m hO).win 4).arr.view.emb j = (ix2 ⟨(⟨j (0 : Fin 2), hj0⟩ : Fin 311296), by have : (j (0 : Fin 2) : ℕ) < 622592 := (j (0 : Fin 2)).isLt; exact this⟩ ⟨j (1 : Fin 2), hj1⟩ : S622592x1024.Idx) := by
      funext a
      match a with
      | ⟨0, _⟩ => rfl
      | ⟨1, _⟩ => rfl
    rw [he, A_eq]
    refine Eq.trans ?_ (Cert.Reference3Ideal.Experts.result_old _ _ _ _ _ _ _ ⟨j (0 : Fin 2), hj0⟩ ⟨j (1 : Fin 2), hj1⟩).symm
    exact congrFun (V_result m c) _

/-- The reference's array, of what the call is given, in the memory it starts from. -/
theorem final_args (c : Dev nD) : final m c = Cert.Reference3Ideal.Experts.result (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) := by
  unfold final
  rw [V_of_ne m c main_arg0 (by decide), V_of_ne m c main_arg1 (by decide), V_of_ne m c main_arg2 (by decide), V_of_ne m c main_arg3 (by decide),
    V_of_ne m c main_arg4 (by decide), V_of_ne m c main_arg5 (by decide)]

end Cert.Kernel3Ideal.Experts

end
-- ==== Proof.ExpertsRounded.lean ====
/- The routed experts' call in rounded arithmetic is, as a program, the one proved to run for every reading of the numbers. -/
module

public import proofs.«01_k».proof.Proof.ExpertsExist
public import proofs.«01_k».proof.Proof.Gen.Kernel3
public import proofs.«01_k».proof.Proof.Gen.Kernel3.Launch

@[expose] public section

noncomputable section

namespace Cert.Kernel3.Experts

open Idealize.ShloMosaic Idealize.SL.Sem

variable {F : FTy → Type} [FloatOps F]

/-- The kernel's function is the same one, -/
theorem bodies_eq : Cert.Kernel3.defs₀ (F := F) = Cert.Kernel3Ideal.defs₀ (F := F) := by
  unfold Cert.Kernel3.defs₀ Cert.Kernel3Ideal.defs₀
  refine congrArg Defs.onTc (funext fun (l : Fin 1) => funext fun a => ?_)
  match l with
  | 0 =>
    obtain ⟨t, s⟩ := a
    rfl

/-- and so is the pipeline around it. -/
theorem defs_eq : Cert.Kernel3.defs (F := F) = Cert.Kernel3Ideal.defs (F := F) := congrArg (Pipeline.defs Cert.Kernel3.pcfgs) bodies_eq

/-- What holds after every run of the one holds after every run of the other. -/
theorem runs (m : (ℓ : Loc nD τ sig) → Buf (Elt F) ℓ) (g : Dev nD → PrngReg) (Q)
    (h : θ_run (Cert.Kernel3Ideal.defs (F := F)) (onTc (τ := τ) (main (F := F))) ⟨m, fun _ => 0, g⟩ Q) :
    θ_run (defs (F := F)) (onTc (τ := τ) (main (F := F))) ⟨m, fun _ => 0, g⟩ Q := by
  rw [defs_eq]
  exact h

end Cert.Kernel3.Experts

end
-- ==== Proof.FirstSetup.lean ====
/- The routed experts' call on the first half of the blocks, its launch: what its arrays hold when it starts, the two tables it reads before anything
   else (each block's expert, and how many blocks are in use), the block of every operand a grid point works on, and
   what the body is handed at a point. Everything holds for any reading of the numbers. -/
module

public import proofs.«01_k».proof.Proof.Gen.Kernel4Ideal.Launch
public import proofs.«01_k».proof.Proof.Gen.Kernel4Ideal.Skeleton
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel4Ideal.Experts

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation)

variable {F : FTy → Type} [FloatOps F]

local notation "𝕄" => MT nD τ sig Unit (Elt F) ℕ (UR sig nD τ) ℕ

variable (m : (ℓ : Loc nD τ sig) → Buf (Elt F) ℓ)

/-- A buffer's contents when the call starts. -/
abbrev V (c : Dev nD) (b : Ref sig .tc) : Buf (Elt F) ((c : Thread nD τ).loc b) := m ((c : Thread nD τ).loc b)

theorem hostOps1_fresh : (hostOps1 : List (HloOp τ sig (Elt F))).Forall fun op => op.fresh = ∅ := by
  simp only [List.Forall]; rfl

/-- The program is the call and the slice after it. -/
theorem main_suffix : Pipeline.HMainPK (Ix := Unit) (Name := ℕ) (U := UR sig nD τ) (Lvl := ℕ) pcfgs 0 defs₀ Variants.none m (main (F := F)) (V m)
    (fun _ => Pipeline.chain ([hostOps1].map StableHlo.seq)) :=
  Pipeline.hmainP_around pcfgs 0 defs₀ Variants.none m main [] [hostOps1] trivial trivial main_chain

/-! ## The tables -/

/-- The tables' contents. -/
def tables : pre0.Contents (Elt F) := fun j => V m (0 : Dev nD) (pre0.ref j)

theorem V_tables (c : Dev nD) (j : Fin 2) : V m c (pre0.ref j) = tables m j := by
  obtain rfl : c = 0 := Subsingleton.elim _ _; rfl

/-- Every block's expert exists. -/
abbrev Ok : Prop := ok0 (F := F) (tables m)
abbrev adm (hO : Ok m) : (pcfg0 (F := F)).Adm := ⟨tables m, hO⟩
abbrev cfg (hO : Ok m) : Pipeline.Cfg sig Λ₀ := cfg0 (adm m hO)

abbrev expertsRef : Memref sig .tc .smem S1216 .i32 := Memref.whole main_arg0
abbrev usedRef : Memref sig .tc .smem S1 .i32 := Memref.whole main_arg1

/-- The half of a table's ownership that the body holds while it runs. -/
abbrev held (c : Dev nD) {S : Shape} {e : EltTy} (M : Memref sig .tc .smem S e) (f : Buf (Elt F) (M.view.loc (c : Thread nD τ))) : sProp 𝕄 :=
  M.view.loc (c : Thread nD τ) ↦{fullShare.right} f

theorem tables_held (c : Dev nD) : (Pipeline.ΦT pre0 (tables m) c : sProp 𝕄)
    = iprop(held c expertsRef (tables m 0) ∗ held c usedRef (tables m 1)) := by
  unfold Pipeline.ΦT Pipeline.prefHeld
  rw [show (Finset.univ : Finset (Fin 2)) = insert (0 : Fin 2) {(1 : Fin 2)} from by decide,
    bigSep_insert (by decide), bigSep_singleton]
  rfl

/-! ## The blocks -/

/-- Operand `w`'s block at point `t`. -/
def blk (hO : Ok m) (c : Dev nD) (w : Fin (cfg m hO).W) (t : Fin (cfg m hO).N) : (((cfg m hO).win w).xblock ((cfg m hO).grid.coords t)).Idx → Elt F ((cfg m hO).win w).elt :=
  (((cfg m hO).win w).blk t).view.read (Elt F) (V m c (Pipeline.arrRef spec0 w))

/-- The three scratch buffers: the current expert's weights, rounded. -/
abbrev gateM : Memref sig .tc .vmem S1024x256 .bf16 := Memref.whole cc0_scratch0
abbrev upM : Memref sig .tc .vmem S1024x256 .bf16 := Memref.whole cc0_scratch1
abbrev downM : Memref sig .tc .vmem S256x1024 .bf16 := Memref.whole cc0_scratch2

/-- What the region owns beside the windows and the tables: the scratch at anything, the generator's register. -/
theorem scratch_owned (c : Dev nD) : (Pipeline.ΦA spec0 c : sProp 𝕄)
    = iprop(iprop((∃ d, owns (c : Thread nD τ) gateM fullShare d) ∗ (∃ d, owns (c : Thread nD τ) upM fullShare d)
        ∗ (∃ d, owns (c : Thread nD τ) downM fullShare d)) ∗ (∃ r, prngReg c r)) := by
  unfold Pipeline.ΦA; rw [scopedRest0_eq]; simp only [gateM, upM, downM, owns_whole]; try rfl

/-- The staging buffers of point `t`. -/
abbrev stg0 (hO : Ok m) (t : Fin (cfg m hO).N) : Memref sig .tc .vmem S512x1024 .bf16 := spec0_0.stage ((cfg m hO).slots t 0)
abbrev stg1 (hO : Ok m) (t : Fin (cfg m hO).N) : Memref sig .tc .vmem S1x1x1024x256 .f32 := spec0_1.stage ((cfg m hO).slots t 1)
abbrev stg2 (hO : Ok m) (t : Fin (cfg m hO).N) : Memref sig .tc .vmem S1x1x1024x256 .f32 := spec0_2.stage ((cfg m hO).slots t 2)
abbrev stg3 (hO : Ok m) (t : Fin (cfg m hO).N) : Memref sig .tc .vmem S1x1x256x1024 .f32 := spec0_3.stage ((cfg m hO).slots t 3)
abbrev stg4 (hO : Ok m) (t : Fin (cfg m hO).N) : Memref sig .tc .vmem S512x1024 .bf16 := spec0_4.stage ((cfg m hO).slots t 4)

end Cert.Kernel4Ideal.Experts

end
-- ==== Proof.FirstRuns.lean ====
/- The first half's body at one point: from its operands' blocks and the scratch to what it leaves in the scratch and
   in the result's block, for each way its two conditions come out. -/
module

public import proofs.«01_k».proof.Proof.FirstSetup
public import Idealize.ShloMosaic.Lib.VecWindow

@[expose] public section

set_option maxRecDepth 16384

noncomputable section

namespace Cert.Kernel4Ideal.Experts

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- An unmasked store over a whole buffer leaves its payload, whatever was stored before. -/
theorem read_store_all {κ : Kind} {sp : Space} {s : Shape} {e : EltTy} {Val : EltTy → Type} (v : View sig κ sp s e) (f : v.ty.Contents Val)
    {off : Fin s.rank → ℕ} (inb : ∀ a, off a + s.size a ≤ s.size a) (x : s.Idx → Val e) (L : List (View.Piece Val s e)) :
    v.read Val (v.writes Val f (⟨Rect.unit off s.size inb, x⟩ :: L)) = x := by
  funext y
  have h := View.read_writes_cons_emb v f (Rect.unit off s.size inb) x L y
  have e : (Rect.unit off s.size inb).emb y = y := funext fun a => Fin.ext (by
    show off a + 1 * (y a).val = (y a).val
    have := inb a; omega)
  rwa [e] at h

/-- The entry of a block's expert table at an offset. -/
def entry (te : IVec S1216 32) (off : Fin 1 → ℕ) (inb : ∀ a, off a + S1.size a ≤ S1216.size a) : BitVec 32 :=
  te ((Rect.unit (s := S1216) off S1.size inb).emb (Shape.Idx.first (numel1_S1.symm ▸ Nat.one_pos)))

/-- Whether the point loads its expert's weights: the first does, and every one whose expert is not the one before's. -/
def fresh (i : grid0.Coords) (te : IVec S1216 32) : BitVec 1 :=
  Scalar.cmpi .ne (Scalar.extui (Scalar.ori (Scalar.cmpi .eq (BitVec.ofNat 32 (i 0).val) 0#32)
    (Scalar.cmpi .ne (entry te (k0_off1 i) (k0_off1_inb i)) (entry te (k0_off2 i) (k0_off2_inb i))))) 0#32

/-- How many blocks are in use. -/
def count (nu : IVec S1 32) : BitVec 32 := nu (fun a => ⟨(![0] : Fin 1 → ℕ) a, by revert a; decide⟩)

/-- A scratch buffer after the point. -/
def kept {α : Type} (i : grid0.Coords) (te : IVec S1216 32) (new old : α) : α := if fresh i te = 1#1 then new else old

/-- The result's block after the point: the expert applied to its block when it is in use, else nothing. -/
def written (i : grid0.Coords) (nu : IVec S1 32) (x : Vec F S512x1024 .bf16) (g u : Vec F S1024x256 .bf16) (d : Vec F S256x1024 .bf16) : Vec F S512x1024 .bf16 :=
  if k0_cond2 i (count nu) = 1#1 then k0_pay4 x g u d else k0_pay5

set_option maxHeartbeats 1000000 in
theorem body_run (c : Dev nD) (i : grid0.Coords) (arg3 : Memref sig .tc .vmem S512x1024 .bf16) (harg3 : arg3.IsWhole) (arg4 : Memref sig .tc .vmem S1x1x1024x256 .f32) (harg4 : arg4.IsWhole) (arg5 : Memref sig .tc .vmem S1x1x1024x256 .f32) (harg5 : arg5.IsWhole) (arg6 : Memref sig .tc .vmem S1x1x256x1024 .f32) (harg6 : arg6.IsWhole) (arg8 : Memref sig .tc .vmem S512x1024 .bf16) (harg8 : arg8.IsWhole)
    (x0 : Vec F S512x1024 .bf16) (x1 : Vec F S1x1x1024x256 .f32) (x2 : Vec F S1x1x1024x256 .f32) (x3 : Vec F S1x1x256x1024 .f32) (s0 s1 : Vec F S1024x256 .bf16) (s2 : Vec F S256x1024 .bf16)
    (te : IVec S1216 32) (nu : IVec S1 32) (hstore : ¬ k0_cond2 i (count nu) = 1#1 ↔ k0_cond3 i (count nu) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ (∃ d, owns (c : Thread nD τ) arg8 fullShare d)
        ∗ owns (c : Thread nD τ) gateM fullShare s0 ∗ owns (c : Thread nD τ) upM fullShare s1 ∗ owns (c : Thread nD τ) downM fullShare s2
        ∗ held c expertsRef te ∗ held c usedRef nu
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg8 fullShare (written i nu x0 (kept i te (k0_pay1 x1) s0) (kept i te (k0_pay2 x2) s1) (kept i te (k0_pay3 x3) s2))
            ∗ owns (c : Thread nD τ) gateM fullShare (kept i te (k0_pay1 x1) s0) ∗ owns (c : Thread nD τ) upM fullShare (kept i te (k0_pay2 x2) s1) ∗ owns (c : Thread nD τ) downM fullShare (kept i te (k0_pay3 x3) s2)
            ∗ held c expertsRef te ∗ held c usedRef nu) -∗ K ⟨⟩))
      ⊢ wp frame (wpE (defs₀ (F := F)) Variants.none c none) E (cc0_moe_experts i expertsRef (Memref.isWhole_whole _) usedRef (Memref.isWhole_whole _) arg3 harg3 arg4 harg4 arg5 harg5 arg6 harg6 arg8 harg8 gateM (Memref.isWhole_whole _) upM (Memref.isWhole_whole _) downM (Memref.isWhole_whole _)) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, ⟨%fs2, %hs2, HS2⟩, HT0, HT1, Hk⟩
  sl_exec
  have hv : body_run.sl.v11 (F := F) i te = fresh i te := rfl
  have hr : body_run.sl.r_2 (F := F) nu = count nu := congrArg nu (funext fun a => Fin.ext (by revert a; decide))
  have e1 : View.read (Elt F) gateM.view (if hc : body_run.sl.v11 (F := F) i te = 1#1 then
      gateM.view.writes (Elt F) fs0 [⟨Rect.unit ![0, 0] S1024x256.size inb_S1024x256_S1024x256_0_0, k0_pay1 (View.readAt (Elt F) arg4.view (Rect.unit ![0, 0, 0, 0] S1x1x1024x256.size inb_S1x1x1024x256_S1x1x1024x256_0_0_0_0).toLoadRect f1)⟩] else fs0) = kept i te (k0_pay1 x1) s0 := by
    unfold kept
    by_cases h : fresh i te = 1#1
    · rw [dif_pos (hv.trans h), if_pos h]; exact (read_store_all _ _ _ _ _).trans (congrArg k0_pay1 ((View.readAt_full _ _ _).trans hf1))
    · rw [dif_neg (fun h' => h (hv.symm.trans h')), if_neg h]; exact hs0
  have e2 : View.read (Elt F) upM.view (if hc : body_run.sl.v11 (F := F) i te = 1#1 then
      upM.view.writes (Elt F) fs1 [⟨Rect.unit ![0, 0] S1024x256.size inb_S1024x256_S1024x256_0_0, k0_pay2 (View.readAt (Elt F) arg5.view (Rect.unit ![0, 0, 0, 0] S1x1x1024x256.size inb_S1x1x1024x256_S1x1x1024x256_0_0_0_0).toLoadRect f2)⟩] else fs1) = kept i te (k0_pay2 x2) s1 := by
    unfold kept
    by_cases h : fresh i te = 1#1
    · rw [dif_pos (hv.trans h), if_pos h]; exact (read_store_all _ _ _ _ _).trans (congrArg k0_pay2 ((View.readAt_full _ _ _).trans hf2))
    · rw [dif_neg (fun h' => h (hv.symm.trans h')), if_neg h]; exact hs1
  have e3 : View.read (Elt F) downM.view (if hc : body_run.sl.v11 (F := F) i te = 1#1 then
      downM.view.writes (Elt F) fs2 [⟨Rect.unit ![0, 0] S256x1024.size inb_S256x1024_S256x1024_0_0, k0_pay3 (View.readAt (Elt F) arg6.view (Rect.unit ![0, 0, 0, 0] S1x1x256x1024.size inb_S1x1x256x1024_S1x1x256x1024_0_0_0_0).toLoadRect f3)⟩] else fs2) = kept i te (k0_pay3 x3) s2 := by
    unfold kept
    by_cases h : fresh i te = 1#1
    · rw [dif_pos (hv.trans h), if_pos h]; exact (read_store_all _ _ _ _ _).trans (congrArg k0_pay3 ((View.readAt_full _ _ _).trans hf3))
    · rw [dif_neg (fun h' => h (hv.symm.trans h')), if_neg h]; exact hs2
  sl_step
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    rotate_left
    · iexact H4
    · ipureintro
      rw [hr]
      unfold written
      by_cases h : k0_cond2 i (count nu) = 1#1
      · rw [dif_neg (fun h3 => hstore.mpr h3 h), dif_pos h, if_pos h]
        refine (read_store_all _ _ _ _ _).trans ?_
        rw [← e1, ← e2, ← e3, ← hf0]
        exact congr (congr (congr (congrArg k0_pay4 (View.readAt_full _ _ _)) (View.readAt_full _ _ _)) (View.readAt_full _ _ _)) (View.readAt_full _ _ _)
      · rw [dif_pos (hstore.mp h), if_neg h]
        exact read_store_all _ _ _ _ _
  isplitl [HS0]
  · iexists _; isplitr
    · ipureintro; exact e1
    iexact HS0
  isplitl [HS1]
  · iexists _; isplitr
    · ipureintro; exact e2
    iexact HS1
  isplitl [HS2]
  · iexists _; isplitr
    · ipureintro; exact e3
    iexact HS2
  isplitl [HT0]; · iexact HT0
  iexact HT1

end Cert.Kernel4Ideal.Experts

end
-- ==== Proof.FirstBlocks.lean ====
/- The blocks the first half's points work on, as parts of the arrays: a point's rows, and its expert's weights. -/
module

public import proofs.«01_k».proof.Proof.FirstRuns
public import Idealize.ShloMosaic.Lib.Pipeline.ValueKit

@[expose] public section

set_option maxRecDepth 16384

noncomputable section

namespace Cert.Kernel4Ideal.Experts

open Cert.Kernel4Ideal.Gen
open Idealize.ShloMosaic Idealize.ShloMosaic.TcCoe Idealize.ShloMosaic.Tactic
open Idealize.SL.Sem

variable {F : FTy → Type} [FloatOps F] (m : (ℓ : Loc nD τ sig) → Buf (Elt F) ℓ)

theorem point_lt (hO : Ok m) (t : Fin (cfg m hO).N) : t.val < 608 := lt_of_lt_of_eq t.isLt N_0

/-- The expert of point `t`'s block. -/
def word (hO : Ok m) (t : Fin (cfg m hO).N) : BitVec 32 := entry (tables m 0) (k0_off1 (grid0.coords t)) (k0_off1_inb _)

theorem index_weights (hO : Ok m) (t : Fin (cfg m hO).N) :
    ((cfg m hO).win 1).index t = ![0, (word m hO t).toNat, 0, 0] ∧ ((cfg m hO).win 2).index t = ![0, (word m hO t).toNat, 0, 0]
      ∧ ((cfg m hO).win 3).index t = ![0, (word m hO t).toNat, 0, 0] :=
  ⟨rfl, rfl, rfl⟩

theorem index_rows (hO : Ok m) (t : Fin (cfg m hO).N) : ((cfg m hO).win 0).index t = ![t.val, 0] ∧ ((cfg m hO).win 4).index t = ![t.val, 0] :=
  (by decide +kernel : ∀ t : Fin grid0.N, cc0_transform_0 (grid0.coords t) = ![t.val, 0] ∧ cc0_transform_4 (grid0.coords t) = ![t.val, 0]) t

theorem word_lt (hO : Ok m) (t : Fin (cfg m hO).N) : (word m hO t).toNat < 128 := by
  have h : ((word m hO t).toNat + 1) * 1 ≤ 128 := (hO.1 (grid0.coords t)).elim fun h _ => h 1
  omega

/-- That expert as a number. -/
def expert (hO : Ok m) (t : Fin (cfg m hO).N) : Fin 128 := ⟨(word m hO t).toNat, word_lt m hO t⟩

theorem gate_at (hO : Ok m) (c : Dev nD) (t : Fin (cfg m hO).N) (k : Fin 1024) (n : Fin 256) :
    blk m hO c 1 t (ix4 0 0 k n) = V m c main_arg3 (ix4 0 (expert m hO t) k n) := by
  have h := index_weights m hO t
  blk_point [blk, h, expert]

theorem up_at (hO : Ok m) (c : Dev nD) (t : Fin (cfg m hO).N) (k : Fin 1024) (n : Fin 256) :
    blk m hO c 2 t (ix4 0 0 k n) = V m c main_arg4 (ix4 0 (expert m hO t) k n) := by
  have h := index_weights m hO t
  blk_point [blk, h, expert]

theorem down_at (hO : Ok m) (c : Dev nD) (t : Fin (cfg m hO).N) (n : Fin 256) (k : Fin 1024) :
    blk m hO c 3 t (ix4 0 0 n k) = V m c main_arg5 (ix4 0 (expert m hO t) n k) := by
  have h := index_weights m hO t
  blk_point [blk, h, expert]

theorem rows_at (hO : Ok m) (c : Dev nD) (t : Fin (cfg m hO).N) (r : Fin 512) (k : Fin 1024) :
    blk m hO c 0 t (ix2 r k) = V m c main_arg2 (ix2 ⟨t.val * 512 + r, by have := point_lt m hO t; omega⟩ k) := by
  have h := index_rows m hO t
  have ht := point_lt m hO t
  blk_point [blk, h]

end Cert.Kernel4Ideal.Experts

end
-- ==== Proof.FirstBody.lean ====
/- The first half's launch, point by point: the scratch always holds the current expert's weights, because a point
   whose weights are not loaded has the same expert as the one before; so every point writes its expert's output. From
   that the launch's final memory. -/
module

public import proofs.«01_k».proof.Proof.FirstBlocks

@[expose] public section

set_option maxRecDepth 16384

noncomputable section

namespace Cert.Kernel4Ideal.Experts

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions -/

theorem ne_zero_iff (b : Bool) : Scalar.cmpi .ne (Scalar.extui (BitVec.ofBool b) : BitVec 32) 0#32 = 1#1 ↔ b = true := by
  revert b; decide

theorem used_iff (i : grid0.Coords) (w : BitVec 32) :
    k0_cond2 i w = 1#1 ↔ BitVec.slt (Scalar.addi (BitVec.ofNat 32 (i 0).val) 0#32) w = true := ne_zero_iff _

theorem unused_iff (i : grid0.Coords) (w : BitVec 32) :
    k0_cond3 i w = 1#1 ↔ BitVec.sle w (Scalar.addi (BitVec.ofNat 32 (i 0).val) 0#32) = true := ne_zero_iff _

/-- A block is in use or it is not: the result's block is stored exactly once. -/
theorem one_store (i : grid0.Coords) (w : BitVec 32) : ¬ k0_cond2 i w = 1#1 ↔ k0_cond3 i w = 1#1 := by
  rw [used_iff, unused_iff]
  simp [BitVec.slt, BitVec.sle]

theorem not_both (a b : BitVec 1) (h : ¬ a = 1#1 ↔ b = 1#1) : (!(a == 1#1) && !(b == 1#1)) = false := by
  revert a b; decide

theorem never_idle (hO : Ok m) (t : Fin (cfg m hO).N) : (cfg m hO).idle 4 ((cfg m hO).grid.coords t) = false :=
  not_both _ _ (one_store (grid0.coords t) _)

theorem offset_here : ∀ t : Fin grid0.N, k0_off1 (grid0.coords t) = ![t.val] := by decide +kernel

theorem offset_before : ∀ t : Fin grid0.N, k0_off2 (grid0.coords t) = ![t.val - 1] := by decide +kernel

theorem first_iff : ∀ t : Fin grid0.N, Scalar.cmpi .eq (BitVec.ofNat 32 ((grid0.coords t) 0).val) 0#32 = 0#1 → t.val ≠ 0 := by decide +kernel

theorem not_fresh_bits (a b : BitVec 1) (h : ¬ Scalar.cmpi .ne (Scalar.extui (Scalar.ori a b) : BitVec 32) 0#32 = 1#1) : a = 0#1 ∧ b = 0#1 := by
  revert a b; decide

theorem entry_congr (te : IVec S1216 32) (off off' : Fin 1 → ℕ) (inb inb') (h : off = off') : entry te off inb = entry te off' inb' := by
  subst h; rfl

theorem eq_of_not_ne (a b : BitVec 32) (h : Scalar.cmpi .ne a b = 0#1) : a = b := by
  by_contra hne
  have : Scalar.cmpi .ne a b = 1#1 := by
    show BitVec.ofBool (a != b) = 1#1
    rw [bne_iff_ne.mpr hne]; rfl
  rw [this] at h; exact absurd h (by decide)

/-- The point before. -/
def pred (hO : Ok m) (t : Fin (cfg m hO).N) : Fin (cfg m hO).N := ⟨t.val - 1, Nat.lt_of_le_of_lt (Nat.sub_le _ _) t.isLt⟩

/-- A point that does not load its weights is not the first and has the expert of the one before. -/
theorem not_fresh (hO : Ok m) (t : Fin (cfg m hO).N) (h : ¬ fresh (grid0.coords t) (tables m 0) = 1#1) :
    t.val ≠ 0 ∧ word m hO t = word m hO (pred m hO t) := by
  obtain ⟨ha, hb⟩ := not_fresh_bits _ _ h
  have h0 := first_iff t ha
  refine ⟨h0, (eq_of_not_ne _ _ hb).trans (entry_congr _ _ _ _ _ ?_)⟩
  rw [offset_before, offset_here]
  rfl

/-! ## The weights in the scratch -/

/-- The weights of point `t`'s expert, rounded. -/
def gate (hO : Ok m) (c : Dev nD) (t : Fin (cfg m hO).N) : FVec F S1024x256 .bf16 := k0_pay1 (blk m hO c 1 t)
def up (hO : Ok m) (c : Dev nD) (t : Fin (cfg m hO).N) : FVec F S1024x256 .bf16 := k0_pay2 (blk m hO c 2 t)
def down (hO : Ok m) (c : Dev nD) (t : Fin (cfg m hO).N) : FVec F S256x1024 .bf16 := k0_pay3 (blk m hO c 3 t)

theorem same_weights (hO : Ok m) (c : Dev nD) (t u : Fin (cfg m hO).N) (h : word m hO t = word m hO u) :
    gate m hO c t = gate m hO c u ∧ up m hO c t = up m hO c u ∧ down m hO c t = down m hO c u := by
  have he : expert m hO t = expert m hO u := by unfold expert; rw [Fin.mk.injEq, h]
  have e1 : ∀ (a b : Fin 1) (k : Fin 1024) (n : Fin 256), blk m hO c 1 t (ix4 a b k n) = blk m hO c 1 u (ix4 a b k n) := fun a b k n => by
    obtain rfl : a = 0 := Subsingleton.elim _ _
    obtain rfl : b = 0 := Subsingleton.elim _ _
    rw [gate_at, gate_at, he]
  have e2 : ∀ (a b : Fin 1) (k : Fin 1024) (n : Fin 256), blk m hO c 2 t (ix4 a b k n) = blk m hO c 2 u (ix4 a b k n) := fun a b k n => by
    obtain rfl : a = 0 := Subsingleton.elim _ _
    obtain rfl : b = 0 := Subsingleton.elim _ _
    rw [up_at, up_at, he]
  have e3 : ∀ (a b : Fin 1) (n : Fin 256) (k : Fin 1024), blk m hO c 3 t (ix4 a b n k) = blk m hO c 3 u (ix4 a b n k) := fun a b n k => by
    obtain rfl : a = 0 := Subsingleton.elim _ _
    obtain rfl : b = 0 := Subsingleton.elim _ _
    rw [down_at, down_at, he]
  have w1 : (blk m hO c 1 t : Vec F S1x1x1024x256 .f32) = blk m hO c 1 u := funext fun j => by
    rw [eq_ix4 j]; exact e1 _ _ _ _
  have w2 : (blk m hO c 2 t : Vec F S1x1x1024x256 .f32) = blk m hO c 2 u := funext fun j => by
    rw [eq_ix4 j]; exact e2 _ _ _ _
  have w3 : (blk m hO c 3 t : Vec F S1x1x256x1024 .f32) = blk m hO c 3 u := funext fun j => by
    rw [eq_ix4 j]; exact e3 _ _ _ _
  exact ⟨congrArg k0_pay1 w1, congrArg k0_pay2 w2, congrArg k0_pay3 w3⟩

/-- After point `t` each scratch buffer holds its expert's weights, whether loaded there or held since before. -/
theorem kept_weights (hO : Ok m) (c : Dev nD) (t : Fin (cfg m hO).N) (g u : FVec F S1024x256 .bf16) (d : FVec F S256x1024 .bf16)
    (h : t.val ≠ 0 → g = gate m hO c (pred m hO t) ∧ u = up m hO c (pred m hO t) ∧ d = down m hO c (pred m hO t)) :
    kept (grid0.coords t) (tables m 0) (k0_pay1 (blk m hO c 1 t)) g = gate m hO c t
      ∧ kept (grid0.coords t) (tables m 0) (k0_pay2 (blk m hO c 2 t)) u = up m hO c t
      ∧ kept (grid0.coords t) (tables m 0) (k0_pay3 (blk m hO c 3 t)) d = down m hO c t := by
  unfold kept
  by_cases hf : fresh (grid0.coords t) (tables m 0) = 1#1
  · rw [if_pos hf, if_pos hf, if_pos hf]; exact ⟨rfl, rfl, rfl⟩
  · rw [if_neg hf, if_neg hf, if_neg hf]
    obtain ⟨h0, hw⟩ := not_fresh m hO t hf
    obtain ⟨hg, hu, hd⟩ := h h0
    obtain ⟨eg, eu, ed⟩ := same_weights m hO c t (pred m hO t) hw
    exact ⟨hg.trans eg.symm, hu.trans eu.symm, hd.trans ed.symm⟩

/-- What point `t` leaves in the result's block. -/
def outBlk (hO : Ok m) (c : Dev nD) (t : Fin (cfg m hO).N) : Vec F S512x1024 .bf16 :=
  written (grid0.coords t) (tables m 1) (blk m hO c 0 t) (gate m hO c t) (up m hO c t) (down m hO c t)

/-! ## The proof data -/

/-- What holds between the points: before the first the scratch is anything, after point `n` it holds its weights. -/
def inv (hO : Ok m) (c : Dev nD) : (n : ℕ) → n ≤ (cfg m hO).N → sProp 𝕄
  | 0, _ => iprop(Pipeline.ΦA spec0 c ∗ Pipeline.ΦT pre0 (tables m) c)
  | n + 1, hn => iprop(iprop(iprop(owns (c : Thread nD τ) gateM fullShare (gate m hO c ⟨n, hn⟩) ∗ owns (c : Thread nD τ) upM fullShare (up m hO c ⟨n, hn⟩) ∗ owns (c : Thread nD τ) downM fullShare (down m hO c ⟨n, hn⟩)) ∗ (∃ r, prngReg c r)) ∗ Pipeline.ΦT pre0 (tables m) c)

theorem inv_zero (hO : Ok m) (c : Dev nD) (n : ℕ) (h : n ≤ (cfg m hO).N) (hz : n = 0) : inv m hO c n h = iprop(Pipeline.ΦA spec0 c ∗ Pipeline.ΦT pre0 (tables m) c) := by
  subst hz; rfl

theorem inv_succ (hO : Ok m) (c : Dev nD) (n : ℕ) (hn : n < (cfg m hO).N) :
    inv m hO c (n + 1) hn = iprop(iprop(iprop(owns (c : Thread nD τ) gateM fullShare (gate m hO c ⟨n, hn⟩) ∗ owns (c : Thread nD τ) upM fullShare (up m hO c ⟨n, hn⟩) ∗ owns (c : Thread nD τ) downM fullShare (down m hO c ⟨n, hn⟩)) ∗ (∃ r, prngReg c r)) ∗ Pipeline.ΦT pre0 (tables m) c) := rfl

theorem inv_pos (hO : Ok m) (c : Dev nD) (n : ℕ) (h : n ≤ (cfg m hO).N) (hz : n ≠ 0) (hn : n - 1 < (cfg m hO).N) :
    inv m hO c n h = iprop(iprop(iprop(owns (c : Thread nD τ) gateM fullShare (gate m hO c ⟨n - 1, hn⟩) ∗ owns (c : Thread nD τ) upM fullShare (up m hO c ⟨n - 1, hn⟩) ∗ owns (c : Thread nD τ) downM fullShare (down m hO c ⟨n - 1, hn⟩)) ∗ (∃ r, prngReg c r)) ∗ Pipeline.ΦT pre0 (tables m) c) := by
  cases n with
  | zero => exact absurd rfl hz
  | succ n => rfl

/-- Operands' buffers end a point at their blocks, the result's at what the point writes. -/
def dats (hO : Ok m) (_ : Fin 1) (c : Dev nD) : Dat τ (Elt F) Unit ℕ (UR sig nD τ) ℕ (cfg m hO) c where
  A w := V m c (Pipeline.arrRef spec0 w)
  after w t := match w with
    | ⟨0, _⟩ => blk m hO c 0 t
    | ⟨1, _⟩ => blk m hO c 1 t
    | ⟨2, _⟩ => blk m hO c 2 t
    | ⟨3, _⟩ => blk m hO c 3 t
    | ⟨4, _⟩ => outBlk m hO c t
  Φ t := inv m hO c t.val (Nat.le_of_lt_succ t.isLt)
  q _ := fullShare
  owed _ := 0

theorem A_eq (hO : Ok m) (c : Dev nD) (w : Fin (cfg m hO).W) : (dats m hO 0 c).A w = V m c (Pipeline.arrRef spec0 w) := by
  dsimp only [dats]

theorem inv_castSucc (hO : Ok m) (c : Dev nD) (t : Fin (cfg m hO).N) : (dats m hO 0 c).Φ t.castSucc = inv m hO c t.val (Nat.le_of_lt t.isLt) := by
  dsimp only [dats]; exact Pipeline.Dat.Φ_castSucc (inv m hO c) t

theorem after0 (hO : Ok m) (c : Dev nD) (t : Fin (cfg m hO).N) : (dats m hO 0 c).after 0 t = blk m hO c 0 t := by dsimp only [dats]; try rfl
theorem after1 (hO : Ok m) (c : Dev nD) (t : Fin (cfg m hO).N) : (dats m hO 0 c).after 1 t = blk m hO c 1 t := by dsimp only [dats]; try rfl
theorem after2 (hO : Ok m) (c : Dev nD) (t : Fin (cfg m hO).N) : (dats m hO 0 c).after 2 t = blk m hO c 2 t := by dsimp only [dats]; try rfl
theorem after3 (hO : Ok m) (c : Dev nD) (t : Fin (cfg m hO).N) : (dats m hO 0 c).after 3 t = blk m hO c 3 t := by dsimp only [dats]; try rfl
theorem after4 (hO : Ok m) (c : Dev nD) (t : Fin (cfg m hO).N) : (dats m hO 0 c).after 4 t = outBlk m hO c t := by dsimp only [dats]; try rfl

theorem before0 (hO : Ok m) (c : Dev nD) (t : Fin (cfg m hO).N) (d) : (dats m hO 0 c).before 0 t d = blk m hO c 0 t :=
  ((dats m hO 0 c).before_in_eq_fetched 0 rfl (fun _ => rfl) (fun _ _ _ => rfl) (fun t => by rw [after0]; unfold Dat.blockOf blk; rw [A_eq]; try rfl) t d).trans (by unfold Dat.fetched Dat.blockOf blk; rw [A_eq]; try rfl)
theorem before1 (hO : Ok m) (c : Dev nD) (t : Fin (cfg m hO).N) (d) : (dats m hO 0 c).before 1 t d = blk m hO c 1 t :=
  ((dats m hO 0 c).before_in_eq_fetched 1 rfl (fun _ => rfl) (fun _ _ _ => rfl) (fun t => by rw [after1]; unfold Dat.blockOf blk; rw [A_eq]; try rfl) t d).trans (by unfold Dat.fetched Dat.blockOf blk; rw [A_eq]; try rfl)
theorem before2 (hO : Ok m) (c : Dev nD) (t : Fin (cfg m hO).N) (d) : (dats m hO 0 c).before 2 t d = blk m hO c 2 t :=
  ((dats m hO 0 c).before_in_eq_fetched 2 rfl (fun _ => rfl) (fun _ _ _ => rfl) (fun t => by rw [after2]; unfold Dat.blockOf blk; rw [A_eq]; try rfl) t d).trans (by unfold Dat.fetched Dat.blockOf blk; rw [A_eq]; try rfl)
theorem before3 (hO : Ok m) (c : Dev nD) (t : Fin (cfg m hO).N) (d) : (dats m hO 0 c).before 3 t d = blk m hO c 3 t :=
  ((dats m hO 0 c).before_in_eq_fetched 3 rfl (fun _ => rfl) (fun _ _ _ => rfl) (fun t => by rw [after3]; unfold Dat.blockOf blk; rw [A_eq]; try rfl) t d).trans (by unfold Dat.fetched Dat.blockOf blk; rw [A_eq]; try rfl)

theorem leaves_written (hO : Ok m) (c : Dev nD) (t : Fin (cfg m hO).N) :
    (dats m hO 0 c).leavesExact 4 t = owns (c : Thread nD τ) (stg4 m hO t) fullShare ((dats m hO 0 c).after 4 t) := by
  unfold Dat.leavesExact; rw [never_idle m hO t]; rfl

/-! ## The body at a point -/

/-- The body as the launch calls it at point `t`. -/
abbrev bodyAt (hO : Ok m) (t : Fin (cfg m hO).N) : Prog (TpuEff nD τ sig (Elt F) Λ₀ .tc) PUnit :=
  cc0_moe_experts (grid0.coords t) expertsRef (Memref.isWhole_whole _) usedRef (Memref.isWhole_whole _)
    (stg0 m hO t) (hstage0_0 (((cfg m hO).slots t 0).cast nbuf0_0)) (stg1 m hO t) (hstage0_1 (((cfg m hO).slots t 1).cast nbuf0_1))
    (stg2 m hO t) (hstage0_2 (((cfg m hO).slots t 2).cast nbuf0_2)) (stg3 m hO t) (hstage0_3 (((cfg m hO).slots t 3).cast nbuf0_3))
    (stg4 m hO t) (hstage0_4 (((cfg m hO).slots t 4).cast nbuf0_4))
    gateM (Memref.isWhole_whole _) upM (Memref.isWhole_whole _) downM (Memref.isWhole_whole _)

/-- What it is called with, -/
def bodyPre (hO : Ok m) (c : Dev nD) (t : Fin (cfg m hO).N) : sProp 𝕄 :=
  iprop((dats m hO 0 c).Φ t.castSucc ∗ (dats m hO 0 c).owesAt () t.castSucc
    ∗ (∃ d, owns (c : Thread nD τ) (stg0 m hO t) fullShare ((dats m hO 0 c).before 0 t d))
    ∗ (∃ d, owns (c : Thread nD τ) (stg1 m hO t) fullShare ((dats m hO 0 c).before 1 t d))
    ∗ (∃ d, owns (c : Thread nD τ) (stg2 m hO t) fullShare ((dats m hO 0 c).before 2 t d))
    ∗ (∃ d, owns (c : Thread nD τ) (stg3 m hO t) fullShare ((dats m hO 0 c).before 3 t d))
    ∗ (∃ d, owns (c : Thread nD τ) (stg4 m hO t) fullShare ((dats m hO 0 c).before 4 t d)))

/-- and what it returns. -/
def bodyPost (hO : Ok m) (c : Dev nD) (t : Fin (cfg m hO).N) : sProp 𝕄 :=
  iprop((dats m hO 0 c).Φ t.succ ∗ (dats m hO 0 c).owesAt () t.succ
    ∗ owns (c : Thread nD τ) (stg0 m hO t) fullShare ((dats m hO 0 c).after 0 t)
    ∗ owns (c : Thread nD τ) (stg1 m hO t) fullShare ((dats m hO 0 c).after 1 t)
    ∗ owns (c : Thread nD τ) (stg2 m hO t) fullShare ((dats m hO 0 c).after 2 t)
    ∗ owns (c : Thread nD τ) (stg3 m hO t) fullShare ((dats m hO 0 c).after 3 t)
    ∗ (dats m hO 0 c).leavesExact 4 t)

set_option maxHeartbeats 3200000 in
/-- The body at point `t`, the scratch at contents that are the previous point's weights. -/
theorem body_of (hO : Ok m) (c : Dev nD) (t : Fin (cfg m hO).N) (g u : FVec F S1024x256 .bf16) (d : FVec F S256x1024 .bf16)
    (h : t.val ≠ 0 → g = gate m hO c (pred m hO t) ∧ u = up m hO c (pred m hO t) ∧ d = down m hO c (pred m hO t)) :
    iprop(iprop(iprop(iprop(owns (c : Thread nD τ) gateM fullShare g ∗ owns (c : Thread nD τ) upM fullShare u ∗ owns (c : Thread nD τ) downM fullShare d) ∗ (∃ r, prngReg c r)) ∗ Pipeline.ΦT pre0 (tables m) c) ∗ (dats m hO 0 c).owesAt () t.castSucc
    ∗ (∃ d, owns (c : Thread nD τ) (stg0 m hO t) fullShare ((dats m hO 0 c).before 0 t d))
    ∗ (∃ d, owns (c : Thread nD τ) (stg1 m hO t) fullShare ((dats m hO 0 c).before 1 t d))
    ∗ (∃ d, owns (c : Thread nD τ) (stg2 m hO t) fullShare ((dats m hO 0 c).before 2 t d))
    ∗ (∃ d, owns (c : Thread nD τ) (stg3 m hO t) fullShare ((dats m hO 0 c).before 3 t d))
    ∗ (∃ d, owns (c : Thread nD τ) (stg4 m hO t) fullShare ((dats m hO 0 c).before 4 t d)))
      ⊢ wp frame (wpE (defs₀ (F := F)) Variants.none c none) Set.univ (bodyAt m hO t) (fun _ => bodyPost m hO c t) := by
  obtain ⟨eg, eu, ed⟩ := kept_weights m hO c t g u d h
  unfold bodyPost bodyAt
  simp only [before0, before1, before2, before3]
  rw [show (dats m hO 0 c).owesAt () t.succ = (dats m hO 0 c).owesAt () t.castSucc from rfl, after0, after1, after2, after3, leaves_written, after4]
  rw [show (dats m hO 0 c).Φ t.succ = inv m hO c (t.val + 1) t.isLt from rfl, inv_succ, tables_held]
  iintro ⟨⟨⟨⟨HS0, HS1, HS2⟩, Hg⟩, ⟨HT0, HT1⟩⟩, Ho, ⟨%d0, H0⟩, ⟨%d1, H1⟩, ⟨%d2, H2⟩, ⟨%d3, H3⟩, ⟨%d4, H4⟩⟩
  iapply (body_run c (grid0.coords t) _ _ _ _ _ _ _ _ _ _ (blk m hO c 0 t) (blk m hO c 1 t) (blk m hO c 2 t) (blk m hO c 3 t) g u d (tables m 0) (tables m 1) (one_store _ _) Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HT0]; · iexact HT0
  isplitl [HT1]; · iexact HT1
  rw [eg, eu, ed]
  iintro ⟨H0, H1, H2, H3, H4, HS0, HS1, HS2, HT0, HT1⟩
  isplitl [HS0 HS1 HS2 Hg HT0 HT1]
  · isplitl [HS0 HS1 HS2 Hg]
    · isplitl [HS0 HS1 HS2]
      · isplitl [HS0]; · iexact HS0
        isplitl [HS1]; · iexact HS1
        iexact HS2
      iexact Hg
    isplitl [HT0]; · iexact HT0
    iexact HT1
  isplitl [Ho]; · iexact Ho
  isplitl [H0]; · iexact H0
  isplitl [H1]; · iexact H1
  isplitl [H2]; · iexact H2
  isplitl [H3]; · iexact H3
  iexact H4

theorem body_sound (hO : Ok m) (c : Dev nD) (t : Fin (cfg m hO).N) :
    bodyPre m hO c t ⊢ wp frame (wpE (defs₀ (F := F)) Variants.none c none) Set.univ (bodyAt m hO t) (fun _ => bodyPost m hO c t) := by
  unfold bodyPre
  by_cases hz : t.val = 0
  · rw [inv_castSucc m hO c t, inv_zero m hO c _ _ hz, scratch_owned]
    iintro ⟨⟨⟨⟨⟨%g, HS0⟩, ⟨%u, HS1⟩, ⟨%d, HS2⟩⟩, Hg⟩, HT⟩, Hrest⟩
    iapply (body_of m hO c t g u d (fun h => absurd hz h))
    isplitr [Hrest]
    · isplitr [HT]
      · isplitr [Hg]
        · isplitl [HS0]; · iexact HS0
          isplitl [HS1]; · iexact HS1
          iexact HS2
        iexact Hg
      iexact HT
    iexact Hrest
  · rw [inv_castSucc m hO c t, inv_pos m hO c _ _ hz (Nat.lt_of_le_of_lt (Nat.sub_le _ _) t.isLt)]
    exact body_of m hO c t _ _ _ fun _ => ⟨rfl, rfl, rfl⟩

theorem body_row (hO : Ok m) (t : Fin (cfg m hO).N) :
    defs₀ (F := F) .tc (cfg m hO).body ((cfg m hO).bodyArgs t ((cfg m hO).slots t)) = bodyAt m hO t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, body_row m hO]
  exact triple_restated (body_sound m hO c t) rfl .rfl fun _ => .rfl

/-! ## The launch -/

/-- What the launch hands over is what holds before the first point, -/
theorem handed (hO : Ok m) (c : Dev nD) : iprop(Pipeline.ΦA spec0 c ∗ Pipeline.ΦT pre0 (tables m) c) ⊢ (dats m hO 0 c).Φ 0 := by
  rw [show (dats m hO 0 c).Φ 0 = inv m hO c 0 (Nat.zero_le _) from rfl, inv_zero m hO c 0 _ rfl]

/-- and after the last the scratch is given back. -/
theorem returned (hO : Ok m) (c : Dev nD) : (dats m hO 0 c).Φ (Fin.last (cfg m hO).N) ⊢ Pipeline.ΦA spec0 c := by
  have hN : (cfg m hO).N = 608 := N_0
  have hl : (cfg m hO).N ≠ 0 := by omega
  rw [show (dats m hO 0 c).Φ (Fin.last (cfg m hO).N) = inv m hO c (cfg m hO).N (Nat.le_refl _) from rfl,
    inv_pos m hO c _ _ hl (by omega), scratch_owned]
  iintro ⟨⟨⟨HS0, HS1, HS2⟩, Hg⟩, -⟩
  isplitl [HS0 HS1 HS2]
  · isplitl [HS0]; · iexists _; iexact HS0
    isplitl [HS1]; · iexists _; iexact HS1
    iexists _; iexact HS2
  iexact Hg

/-- The rows of the first half of the blocks. -/
def firstRows (x : Vec F S622592x1024 .bf16) : Vec F S311296x1024 .bf16 := extractStridedSlice S311296x1024 ![0, 0] x slices_S622592x1024_S311296x1024_0_0

theorem no_table : ∀ k : Fin 2, pre0.ref k ≠ main_v0 ∧ pre0.ref k ≠ main_v1 := by decide

theorem no_array : ∀ w : Fin 5, Pipeline.arrRef spec0 w ≠ main_v1 := by decide

/-- The slice reads no table and writes no array of the call. -/
theorem slice_apart (op : HloOp τ sig (Elt F)) (h : op ∈ (hostOps1 : List (HloOp τ sig (Elt F)))) :
    (∀ k : Fin 2, Proc.devRef .tc (pre0.ref k) ∉ op.bufs) ∧ ∀ w : Fin 5, Proc.devRef .tc (Pipeline.arrRef spec0 w) ∉ op.writes := by
  obtain rfl := List.mem_singleton.mp h
  refine ⟨fun k => ?_, fun w => ?_⟩
  · rw [StableHlo.unary_bufs, Finset.mem_insert, Finset.mem_singleton]
    exact not_or.mpr ⟨StableHlo.devRef_ne_of_ne (no_table k).1, StableHlo.devRef_ne_of_ne (no_table k).2⟩
  · rw [StableHlo.unary_writes, Finset.mem_singleton]
    exact StableHlo.devRef_ne_of_ne (no_array w)

theorem result_rest : main_v1 ∈ Pipeline.restRefs sig spec0 := by decide

/-- The buffers after the call and the slice. -/
abbrev after (hO : Ok m) (c : Dev nD) (b : Ref sig .tc) : Buf (Elt F) ((c : Thread nD τ).loc b) :=
  Pipeline.afterTail pcfgs (fun _ => adm m hO) (dats m hO) 0 (fun c b => m (c, b)) [hostOps1] c b

/-- The slice writes its own buffer only, -/
theorem after_of_ne (hO : Ok m) (c : Dev nD) (b : Ref sig .tc) (h : b ≠ main_v1) (ha : ∀ w : Fin 5, Pipeline.arrRef spec0 w ≠ b) :
    after m hO c b = m ((c : Thread nD τ).loc b) := by
  unfold after Pipeline.afterTail
  refine (StableHlo.after_of_forall_not_mem (b := Proc.devRef .tc b) _ _ (List.forall_iff_forall_mem.mp (by
    simp only [List.flatten_cons, List.flatten_nil, List.append_nil, hostOps1, List.Forall, StableHlo.unary_writes, Finset.mem_singleton]
    exact StableHlo.devRef_ne_of_ne h))).trans ?_
  exact Pipeline.withArrays_of_ne _ _ _ _ _ ha

/-- and puts the first half of the call's array there. -/
theorem after_result (hO : Ok m) (c : Dev nD) :
    after m hO c main_v1 = firstRows (F := F) ((dats m hO 0 c).arrAt 4 (cfg m hO).N) := by
  unfold after Pipeline.afterTail
  simp only [List.flatten_cons, List.flatten_nil, List.append_nil]
  unfold hostOps1
  after_results
  refine congrArg (firstRows (F := F)) ?_
  exact Pipeline.withArrays_arr _ (launch0 (F := F)).win.arr_inj _ _ _ 4

set_option backward.isDefEq.respectTransparency.types false in
/-- The program ends, every counter at zero, with the arrays at what the points wrote, the slice after them, and every other
    buffer as it was. -/
theorem launched (hO : Ok m) : θ_run defs (onTc (τ := τ) (main (F := F))) (s₀ m ρ)
    (fun r => (Pipeline.FramePost (Pipeline.pin pcfgs fun _ => adm m hO) (dats m hO) 0 (after m hO)) r ∧ r.2.sem = fun _ => 0) :=
  Pipeline.θ_run_frameP_around_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V₀ := fun c b => m (c, b)) (opss := [hostOps1])
    (hsub := fun ops ho op h => by
      obtain rfl := List.mem_singleton.mp ho
      exact Pipeline.sub_tailRefs _ _ op ((List.forall_iff_forall_mem.mp hostOps1_sub) op h) (slice_apart op h).1)
    (hfresh := fun ops ho op h => by
      obtain rfl := List.mem_singleton.mp ho
      exact (List.forall_iff_forall_mem.mp hostOps1_fresh) op h)
    (hkeep := fun ops ho op h => by
      obtain rfl := List.mem_singleton.mp ho
      exact (slice_apart op h).2)
    (hmain := main_suffix m) (hA := A_eq m hO) (hpf := V_tables m)
    (hin := handed m hO) (hout := returned m hO) (hQ' := fun _ h => h)

/-- The six arguments as the program leaves them, and its result. -/
theorem ends (hO : Ok m) : θ_run defs (onTc (τ := τ) (main (F := F))) (s₀ m ρ) (fun r => (∀ c : Dev nD,
      (r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))
      ∧ r.2.mem ((c : Thread nD τ).loc main_v1)
        = firstRows (F := F) ((dats m hO 0 c).arrAt 4 (cfg m hO).N)) ∧ r.2.sem = fun _ => 0) :=
  (θ_run defs _ _).mono (fun r h => ⟨fun c => by
    have h := h.1 c
    have arr (w : Fin 5) (hw : ((cfg m hO).win w).isOut = false) := (h.1 w).trans (((dats m hO 0 c).arrAt_in w hw _).trans (A_eq m hO c w))
    have rest (b : Ref sig .tc) (hb : b ∈ Pipeline.restRefs sig spec0) (hn : b ≠ main_v1) (ha : ∀ w : Fin 5, Pipeline.arrRef spec0 w ≠ b) :=
      (h.2 b hb).trans (after_of_ne m hO c b hn ha)
    exact ⟨⟨rest main_arg0 (by decide) (by decide) (by decide), rest main_arg1 (by decide) (by decide) (by decide),
      arr 0 rfl, arr 1 rfl, arr 2 rfl, arr 3 rfl⟩, (h.2 main_v1 result_rest).trans (after_result m hO c)⟩, h.2⟩) (launched m ρ hO)

end Cert.Kernel4Ideal.Experts

end
-- ==== Proof.FirstExist.lean ====
/- Every expert the first half's table names exists: what the precondition says, and that the call's blocks are then inside the arrays; so it runs. -/
module

public import proofs.«01_k».proof.Proof.FirstBody
public import proofs.«01_k».proof.Proof.Gen.Pre_experts_exist4

@[expose] public section

set_option maxRecDepth 16384

noncomputable section

namespace Cert.Kernel4Ideal.Experts

open Cert.Kernel4Ideal.Gen
open Idealize.ShloMosaic Idealize.ShloMosaic.TcCoe Idealize.ShloMosaic.Tactic
open Idealize.SL.Sem

variable {F : FTy → Type} [FloatOps F]

/-- The precondition, entry by entry. -/
theorem exists_of_pre (te : IVec S1216 32) (a1 : IVec S1 32) (a2 : FVec F S311296x1024 .bf16) (a3 a4 : FVec F S4x128x1024x256 .f32)
    (a5 : FVec F S4x128x256x1024 .f32) (h : Cert.Pre_experts_exist4.fn te a1 a2 a3 a4 a5 = fun _ => 1#1)
    (j : S1216.Idx) : 0 ≤ (te j).toInt ∧ (te j).toNat < 128 := by
  have hand : ∀ a b : BitVec 1, IntOp.andi a b = 1#1 → a = 1#1 ∧ b = 1#1 := by decide
  have hone : ∀ p : Bool, BitVec.ofBool p = 1#1 → p = true := by decide
  obtain ⟨h1, h2⟩ := hand _ _ (congrFun h j)
  have h1 : BitVec.sle 0#32 (te j) = true := hone _ h1
  have h2 : BitVec.slt (te j) 128#32 = true := hone _ h2
  rw [BitVec.sle, decide_eq_true_eq] at h1
  rw [BitVec.slt, decide_eq_true_eq] at h2
  have e0 : (0#32 : BitVec 32).toInt = 0 := by decide
  have e1 : (128#32 : BitVec 32).toInt = 128 := by decide
  rw [e0] at h1
  rw [e1] at h2
  refine ⟨h1, ?_⟩
  rw [BitVec.toInt_eq_toNat_cond] at h1 h2
  split at h1 <;> omega

variable (m : (ℓ : Loc nD τ sig) → Buf (Elt F) ℓ)

/-- Tables whose experts exist name blocks inside the arrays. -/
theorem ok_of_exist (h : ∀ j : S1216.Idx, ((tables m 0 : IVec S1216 32) j).toNat < 128) : Ok m := by
  have hw (i : grid0.Coords) : (entry (tables m 0) (k0_off1 i) (k0_off1_inb i)).toNat < 128 := h _
  refine ⟨fun i => ⟨fun (a : Fin 4) => ?_, Or.inl rfl⟩, fun i => ⟨fun (a : Fin 4) => ?_, Or.inl rfl⟩, fun i => ⟨fun (a : Fin 4) => ?_, Or.inl rfl⟩⟩
  · match a with
    | ⟨0, _⟩ => exact (by decide : (0 + 1) * 1 ≤ 4)
    | ⟨1, _⟩ => exact (Nat.mul_one _).le.trans (hw i)
    | ⟨2, _⟩ => exact (by decide : (0 + 1) * 1024 ≤ 1024)
    | ⟨3, _⟩ => exact (by decide : (0 + 1) * 256 ≤ 256)
  · match a with
    | ⟨0, _⟩ => exact (by decide : (0 + 1) * 1 ≤ 4)
    | ⟨1, _⟩ => exact (Nat.mul_one _).le.trans (hw i)
    | ⟨2, _⟩ => exact (by decide : (0 + 1) * 1024 ≤ 1024)
    | ⟨3, _⟩ => exact (by decide : (0 + 1) * 256 ≤ 256)
  · match a with
    | ⟨0, _⟩ => exact (by decide : (0 + 1) * 1 ≤ 4)
    | ⟨1, _⟩ => exact (Nat.mul_one _).le.trans (hw i)
    | ⟨2, _⟩ => exact (by decide : (0 + 1) * 256 ≤ 256)
    | ⟨3, _⟩ => exact (by decide : (0 + 1) * 1024 ≤ 1024)

theorem tables_eq : (tables m 0 : IVec S1216 32) = m (((0 : Dev nD) : Thread nD τ).loc main_arg0) := rfl

theorem word_nonneg (hO : Ok m) (t : Fin (cfg m hO).N) (h : ∀ j : S1216.Idx, 0 ≤ ((tables m 0 : IVec S1216 32) j).toInt) : 0 ≤ (word m hO t).toInt := h _

/-- Where every expert exists the call runs, and leaves its arguments as they were. -/
theorem frame (g : Dev nD → PrngReg) (h : ∀ j : S1216.Idx, ((tables m 0 : IVec S1216 32) j).toNat < 128) :
    θ_run defs (onTc (τ := τ) (main (F := F))) ⟨m, fun _ => 0, g⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) ∧ r.2.sem = fun _ => 0) :=
  (θ_run defs _ _).mono (fun r h => ⟨fun c => (h.1 c).1, h.2⟩) (ends m g (ok_of_exist m h))

end Cert.Kernel4Ideal.Experts

end
-- ==== Proof.FirstKernel.lean ====
/- One block of the first half through its expert, element by element: (silu(x·wg) * (x·wu))·wd. -/
module

public import proofs.«01_k».proof.Proof.Gen.Kernel4Ideal.Skeleton
public import proofs.«01_k».proof.Proof.Gen.Kernel4Ideal.Launch
public import proofs.«01_k».proof.Proof.ExpertsKernel

@[expose] public section

set_option maxRecDepth 16384

noncomputable section

namespace Cert.Kernel4Ideal.Experts

open Cert.Kernel3Ideal.Experts (expertRow)
open Cert.Kernel4Ideal Cert.Kernel4Ideal.Gen Idealize.ShloMosaic Idealize.ShloMosaic.TcCoe Idealize.SL.Sem

theorem pay1_at (w : Vec Ideal S1x1x1024x256 .f32) (k : Fin 1024) (n : Fin 256) : (k0_pay1 w (ix2 k n) : EReal) = w (ix4 0 0 k n) := by
  pointwise [k0_pay1]

theorem pay2_at (w : Vec Ideal S1x1x1024x256 .f32) (k : Fin 1024) (n : Fin 256) : (k0_pay2 w (ix2 k n) : EReal) = w (ix4 0 0 k n) := by
  pointwise [k0_pay2]

theorem pay3_at (w : Vec Ideal S1x1x256x1024 .f32) (n : Fin 256) (k : Fin 1024) : (k0_pay3 w (ix2 n k) : EReal) = w (ix4 0 0 n k) := by
  pointwise [k0_pay3]

theorem pay4_at (x : Vec Ideal S512x1024 .bf16) (g u : Vec Ideal S1024x256 .bf16) (d : Vec Ideal S256x1024 .bf16) (r : Fin 512) (k : Fin 1024) :
    (k0_pay4 x g u d (ix2 r k) : EReal)
      = expertRow (fun j => x (ix2 r j)) (fun j n => g (ix2 j n)) (fun j n => u (ix2 j n)) (fun n k => d (ix2 n k)) k := by
  unfold expertRow
  pointwise [k0_pay4]

theorem pay5_at (r : Fin 512) (k : Fin 1024) : (k0_pay5 (F := Ideal) (ix2 r k) : EReal) = 0 := by
  pointwise [k0_pay5]

end Cert.Kernel4Ideal.Experts

end
-- ==== Proof.FirstRef.lean ====
/- The reference's first half of the blocks through their experts, element by element. Its blocks are made as those of the
   second half are; what differs is which entries of the table it takes and from where the blocks in use are counted. -/
module

public import proofs.«01_k».proof.Proof.ExpertsRef
public import proofs.«01_k».proof.Proof.Gen.Reference4Ideal
public import proofs.«01_k».proof.Proof.Gen.Reference4Ideal.Run

@[expose] public section

set_option maxRecDepth 16384

noncomputable section

namespace Cert.Reference4Ideal.Experts

open Cert.Kernel3Ideal.Experts (expertRow)
open Cert.Reference3Ideal.Experts (blocks channels silu projectedDown gathered_branch gathered_downs blocks_at channels_at silu_at projectedDown_at)
open Cert.Reference4Ideal Cert.Reference4Ideal.Gen Idealize.ShloMosaic Idealize.ShloMosaic.TcCoe Idealize.SL.Sem

/-- The first half's experts, a negative number counted from the end. -/
def chosen (te : IVec S1216 32) : IVec S608x1 32 :=
  broadcastInDim S608x1 ![0] bcast_S608_S608x1_0
    (select (cmpi .slt (extractStridedSlice S608 ![0] te slices_S1216_S608_0) (broadcastInDim S608 ![] bcast_S_S608 (constantI S_ 32 0#32)))
      (addi (extractStridedSlice S608 ![0] te slices_S1216_S608_0) (broadcastInDim S608 ![] bcast_S_S608 (constantI S_ 32 128#32)))
      (extractStridedSlice S608 ![0] te slices_S1216_S608_0))

/-- Every block's weights of one branch, and of the projection down. -/
def branch (te : IVec S1216 32) (w : FVec Ideal S4x128x1024x256 .f32) : FVec Ideal S608x1024x256 .f32 :=
  Host.gather gather_S128x1024x256_S608x1_S608x1024x256_12_0_n_n_0_1_11024256
    (shapeCast S128x1024x256 (extractStridedSlice S1x128x1024x256 ![0, 0, 0, 0] w slices_S4x128x1024x256_S1x128x1024x256_0_0_0_0) shapeCasts_S1x128x1024x256_S128x1024x256) (chosen te)
def downs (te : IVec S1216 32) (w : FVec Ideal S4x128x256x1024 .f32) : FVec Ideal S608x256x1024 .f32 :=
  Host.gather gather_S128x256x1024_S608x1_S608x256x1024_12_0_n_n_0_1_12561024
    (shapeCast S128x256x1024 (extractStridedSlice S1x128x256x1024 ![0, 0, 0, 0] w slices_S4x128x256x1024_S1x128x256x1024_0_0_0_0) shapeCasts_S1x128x256x1024_S128x256x1024) (chosen te)

/-- The blocks in use. -/
def used (nu : IVec S1 32) : IVec S608 1 :=
  cmpi .slt (iotaInDim S608 32 0) (broadcastInDim S608 ![] bcast_S_S608 (shapeCast _ nu shapeCasts_S1_S_))

/-- The first half's rows: a block out of use is zero. -/
def firstHalf (nu : IVec S1 32) (y : FVec Ideal S608x512x1024 .f32) : FVec Ideal S311296x1024 .bf16 :=
  truncf .bf16 (shapeCast _ (select (broadcastInDim S608x512x1024 ![0, 1, 2] bcast_S608x1x1_S608x512x1024_0_1_2
      (broadcastInDim S608x1x1 ![0] bcast_S608_S608x1x1_0 (used nu))) y
    (broadcastInDim S608x512x1024 ![] bcast_S_S608x512x1024 (id (constant S_ .f32 0x00000000#32)))) shapeCasts_S608x512x1024_S311296x1024) bitsLt_bf16_f32

def result (te : IVec S1216 32) (nu : IVec S1 32) (x : FVec Ideal S311296x1024 .bf16) (g u : FVec Ideal S4x128x1024x256 .f32)
    (d : FVec Ideal S4x128x256x1024 .f32) : FVec Ideal S311296x1024 .bf16 :=
  firstHalf nu (projectedDown (channels (blocks x) (branch te g)) (channels (blocks x) (branch te u)) (downs te d))

theorem result_eq (m : (ℓ : Loc nD τ sig) → Buf (Elt Ideal) ℓ) (c : Dev nD) :
    Value.res_main_v42 m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := rfl

theorem chosen_at (te : IVec S1216 32) (b : Fin 608) (h : 0 ≤ (te (ix1 ⟨b, by omega⟩)).toInt) :
    chosen te (ix2 b 0) = te (ix1 ⟨b, by omega⟩) := by
  have hn : IntOp.cmpi .slt (te (ix1 ⟨b, by omega⟩)) 0#32 = 0#1 := by
    simp only [IntOp.cmpi, BitVec.slt, BitVec.toInt_zero]
    rw [decide_eq_false (by omega)]
    rfl
  pointwise [chosen]
  rw [hn]
  rfl

theorem branch_at (te : IVec S1216 32) (w : FVec Ideal S4x128x1024x256 .f32) (b : Fin 608) (e : Fin 128) (k : Fin 1024) (n : Fin 256)
    (he : (chosen te (ix2 b 0)).toInt = (e : ℕ)) : (branch te w (ix3 b k n) : EReal) = w (ix4 0 e k n) := by
  unfold branch
  refine (gathered_branch _ _ b e k n he).trans ?_
  pointwise

theorem downs_at (te : IVec S1216 32) (w : FVec Ideal S4x128x256x1024 .f32) (b : Fin 608) (e : Fin 128) (k : Fin 256) (n : Fin 1024)
    (he : (chosen te (ix2 b 0)).toInt = (e : ℕ)) : (downs te w (ix3 b k n) : EReal) = w (ix4 0 e k n) := by
  unfold downs
  refine (gathered_downs _ _ b e k n he).trans ?_
  pointwise

theorem used_at (nu : IVec S1 32) (b : Fin 608) : used nu (ix1 b) = IntOp.cmpi .slt (BitVec.ofNat 32 b) (nu (ix1 0)) := by
  pointwise [used]

theorem firstHalf_at (nu : IVec S1 32) (y : FVec Ideal S608x512x1024 .f32) (b : Fin 608) (r : Fin 512) (k : Fin 1024) :
    (firstHalf nu y (ix2 ⟨b * 512 + r, by omega⟩ k) : EReal) = Scalar.select (used nu (ix1 b)) (y (ix3 b r k)) 0 := by
  pointwise [firstHalf, id]

/-- A row: through its block's expert when the block is in use. -/
theorem result_at (te : IVec S1216 32) (nu : IVec S1 32) (x : FVec Ideal S311296x1024 .bf16) (g u : FVec Ideal S4x128x1024x256 .f32)
    (d : FVec Ideal S4x128x256x1024 .f32) (b : Fin 608) (e : Fin 128)
    (he : (te (ix1 ⟨b, by omega⟩)).toInt = (e : ℕ)) (r : Fin 512) (k : Fin 1024) :
    (result te nu x g u d (ix2 ⟨b * 512 + r, by omega⟩ k) : EReal)
      = Scalar.select (IntOp.cmpi .slt (BitVec.ofNat 32 b) (nu (ix1 0)))
          (expertRow (fun j => x (ix2 ⟨b * 512 + r, by omega⟩ j)) (fun j n => g (ix4 0 e j n)) (fun j n => u (ix4 0 e j n)) (fun n k => d (ix4 0 e n k)) k) 0 := by
  have hc : (chosen te (ix2 b 0)).toInt = (e : ℕ) := by
    rw [chosen_at te b (by rw [he]; exact Int.natCast_nonneg _), he]
  unfold result
  refine (firstHalf_at _ _ b r k).trans ?_
  rw [used_at, projectedDown_at]
  congr 1
  unfold expertRow
  refine Finset.sum_congr rfl fun n _ => ?_
  rw [silu_at, channels_at, channels_at, downs_at _ _ _ _ _ _ hc]
  simp only [blocks_at, branch_at _ _ _ _ _ _ hc]

end Cert.Reference4Ideal.Experts

end
-- ==== Proof.FirstFinal.lean ====
/- The first half's result, whole: every row through its block's expert; and that the reference's array is this one. -/
module

public import proofs.«01_k».proof.Proof.FirstExist
public import proofs.«01_k».proof.Proof.FirstKernel
public import proofs.«01_k».proof.Proof.FirstRef

@[expose] public section

set_option maxRecDepth 16384

noncomputable section

namespace Cert.Kernel4Ideal.Experts

open Cert.Kernel3Ideal.Experts (expertRow)
open Cert.Kernel4Ideal Cert.Kernel4Ideal.Gen Idealize.ShloMosaic Idealize.ShloMosaic.TcCoe Idealize.SL.Sem

section tables
variable {F : FTy → Type} [FloatOps F] (m : (ℓ : Loc nD τ sig) → Buf (Elt F) ℓ)

theorem word_eq (hO : Ok m) (t : Fin (cfg m hO).N) :
    word m hO t = tables m 0 (ix1 ⟨t.val, by have := point_lt m hO t; omega⟩ : S1216.Idx) := by
  unfold word entry
  refine congrArg (tables m 0) (funext fun a => Fin.ext ?_)
  match a with
  | ⟨0, _⟩ =>
    have h := congrFun (offset_here t) 0
    show k0_off1 (grid0.coords t) 0 + 1 * 0 = t.val
    rw [h]
    show t.val + 1 * 0 = t.val
    omega

theorem count_eq (nu : IVec S1 32) : count nu = nu (ix1 0) := by
  unfold count
  refine congrArg nu (funext fun a => Fin.ext ?_)
  match a with
  | ⟨0, _⟩ => rfl

theorem coord_eq : ∀ t : Fin grid0.N, ((grid0.coords t) 0).val = t.val := by decide +kernel

theorem ofBool_eq_one (p : Bool) : BitVec.ofBool p = 1#1 ↔ p = true := by cases p <;> decide

end tables

variable (m : (ℓ : Loc nD τ sig) → Buf (Elt Ideal) ℓ)

/-- A row of point `t`'s block through the block's expert. -/
theorem expert_at (hO : Ok m) (c : Dev nD) (t : Fin (cfg m hO).N) (r : Fin 512) (k : Fin 1024) :
    (k0_pay4 (blk m hO c 0 t) (gate m hO c t) (up m hO c t) (down m hO c t) (ix2 r k) : EReal)
      = expertRow (fun j => V m c main_arg2 (ix2 ⟨t.val * 512 + r, by have := point_lt m hO t; omega⟩ j)) (fun j n => V m c main_arg3 (ix4 0 (expert m hO t) j n))
          (fun j n => V m c main_arg4 (ix4 0 (expert m hO t) j n)) (fun n k => V m c main_arg5 (ix4 0 (expert m hO t) n k)) k := by
  refine (pay4_at _ _ _ _ r k).trans ?_
  congr 1
  · funext j; exact rows_at m hO c t r j
  · funext j n; exact (pay1_at _ j n).trans (gate_at m hO c t j n)
  · funext j n; exact (pay2_at _ j n).trans (up_at m hO c t j n)
  · funext n k; exact (pay3_at _ n k).trans (down_at m hO c t n k)

/-- The reference's array of what the call is given. -/
abbrev final (c : Dev nD) : FVec Ideal S311296x1024 .bf16 :=
  Cert.Reference4Ideal.Experts.result (V m c main_arg0) (V m c main_arg1) (V m c main_arg2) (V m c main_arg3) (V m c main_arg4) (V m c main_arg5)

/-- A row of it. -/
theorem final_at (hO : Ok m) (c : Dev nD) (t : Fin (cfg m hO).N) (hw : 0 ≤ (word m hO t).toInt) (r : Fin 512) (k : Fin 1024) :
    (final m c (ix2 ⟨t.val * 512 + r, by have := point_lt m hO t; omega⟩ k) : EReal)
      = Scalar.select (IntOp.cmpi .slt (BitVec.ofNat 32 t.val) (V m c main_arg1 (ix1 0)))
          (expertRow (fun j => V m c main_arg2 (ix2 ⟨t.val * 512 + r, by have := point_lt m hO t; omega⟩ j)) (fun j n => V m c main_arg3 (ix4 0 (expert m hO t) j n))
            (fun j n => V m c main_arg4 (ix4 0 (expert m hO t) j n)) (fun n k => V m c main_arg5 (ix4 0 (expert m hO t) n k)) k) 0 := by
  refine Cert.Reference4Ideal.Experts.result_at _ _ _ _ _ _ ⟨t.val, point_lt m hO t⟩ (expert m hO t) ?_ r k
  have h := word_eq m hO t
  have := word_lt m hO t
  have hV : (V m c main_arg0 : IVec S1216 32) = tables m 0 := V_tables m c 0
  rw [hV]
  refine (congrArg BitVec.toInt h.symm).trans ?_
  exact BitVec.toInt_eq_toNat_of_lt (by omega)

/-- The call's whole array: those rows, and after them what the array held before. -/
def whole (x : FVec Ideal S311296x1024 .bf16) (old : FVec Ideal S622592x1024 .bf16) : FVec Ideal S622592x1024 .bf16 := fun j =>
  if h : (j (0 : Fin 2) : ℕ) < 311296 then x (ix2 ⟨(j (0 : Fin 2) : ℕ), h⟩ ⟨(j (1 : Fin 2) : ℕ), (j (1 : Fin 2)).isLt⟩) else old j

theorem whole_new (x : FVec Ideal S311296x1024 .bf16) (old : FVec Ideal S622592x1024 .bf16) (i : Fin 311296) (k : Fin 1024) :
    whole x old (ix2 ⟨i, by omega⟩ k) = x (ix2 i k) := dif_pos i.isLt

theorem whole_old (x : FVec Ideal S311296x1024 .bf16) (old : FVec Ideal S622592x1024 .bf16) (j : S622592x1024.Idx) (h : 311296 ≤ (j (0 : Fin 2) : ℕ)) :
    whole x old j = old j := dif_neg (Nat.not_lt.mpr h)

/-- The slice of the whole array is those rows. -/
theorem whole_slice (x : FVec Ideal S311296x1024 .bf16) (old : FVec Ideal S622592x1024 .bf16) :
    firstRows (F := Ideal) (whole x old) = x := by
  funext j
  rw [eq_ix2 j]
  refine Eq.trans ?_ (whole_new x old (j 0) (j 1))
  unfold firstRows
  refine extractStridedSlice_apply _ _ _ _ _ (fun a => ?_)
  match a with
  | ⟨0, _⟩ => exact (Nat.zero_add _).symm
  | ⟨1, _⟩ => exact (Nat.zero_add _).symm

/-- A block in use is its expert's, any other zero: in the reference's words. -/
theorem written_at (t : Fin grid0.N) (nu : IVec S1 32) (x : Vec Ideal S512x1024 .bf16) (g u : Vec Ideal S1024x256 .bf16) (d : Vec Ideal S256x1024 .bf16)
    (r : Fin 512) (k : Fin 1024) (e : EReal) (h : k0_pay4 x g u d (ix2 r k) = e) :
    (written (grid0.coords t) nu x g u d (ix2 r k) : EReal)
      = Scalar.select (IntOp.cmpi .slt (BitVec.ofNat 32 t.val) (nu (ix1 0))) e 0 := by
  have hq : k0_cond2 (grid0.coords t) (count nu) = 1#1 ↔ IntOp.cmpi .slt (BitVec.ofNat 32 t.val) (nu (ix1 0)) = 1 := by
    rw [used_iff, count_eq, coord_eq t, ← ofBool_eq_one]
    exact iff_of_eq (congrArg (fun x => BitVec.ofBool (BitVec.slt x (nu (ix1 0))) = 1#1) (BitVec.add_zero _))
  unfold written Scalar.select
  by_cases hc : k0_cond2 (grid0.coords t) (count nu) = 1#1
  · rw [if_pos hc, if_pos (hq.mp hc)]
    exact h
  · rw [if_neg hc, if_neg (fun e => hc (hq.mpr e))]
    exact pay5_at r k

theorem out_at (hO : Ok m) (c : Dev nD) (t : Fin (cfg m hO).N) (r : Fin 512) (k : Fin 1024) :
    (outBlk m hO c t (ix2 r k) : EReal)
      = Scalar.select (IntOp.cmpi .slt (BitVec.ofNat 32 t.val) (V m c main_arg1 (ix1 0)))
          (expertRow (fun j => V m c main_arg2 (ix2 ⟨t.val * 512 + r, by have := point_lt m hO t; omega⟩ j)) (fun j n => V m c main_arg3 (ix4 0 (expert m hO t) j n))
            (fun j n => V m c main_arg4 (ix4 0 (expert m hO t) j n)) (fun n k => V m c main_arg5 (ix4 0 (expert m hO t) n k)) k) 0 := by
  have hV : (V m c main_arg1 : IVec S1 32) = tables m 1 := V_tables m c 1
  rw [hV]
  exact written_at t (tables m 1) _ _ _ _ r k _ (expert_at m hO c t r k)

theorem flushes (hO : Ok m) (t : Fin (cfg m hO).N) : ((cfg m hO).win 4).flush t = true :=
  (by decide +kernel : ∀ t : Fin grid0.N, Pipeline.Window.flushOf grid0 true cc0_transform_4 t = true) t

/-- The points write the blocks of the first half. -/
theorem covers (hO : Ok m) : ((cfg m hO).win 4).CoversWhere (fun β : Fin 2 → ℕ => β 0 < 608) := by
  refine ⟨fun (a : Fin 2) => ?_, fun t _ => ⟨?_, fun (a : Fin 2) => Or.inl ?_⟩, fun β hβ => ?_⟩
  · exact (by decide : ∀ a : Fin 2, 0 < S512x1024.size a) a
  · rw [(index_rows m hO t).2]
    exact point_lt m hO t
  · rfl
  · have h1 : (β (1 : Fin 2)).val < (1024 + 1024 - 1) / 1024 := (β (1 : Fin 2)).isLt
    have hlt : (β (0 : Fin 2)).val < (cfg m hO).N := lt_of_lt_of_eq hβ N_0.symm
    refine ⟨⟨(β (0 : Fin 2)).val, hlt⟩, fun (a : Fin 2) => ?_, flushes m hO _⟩
    rw [(index_rows m hO _).2]
    match a with
    | ⟨0, _⟩ => rfl
    | ⟨1, _⟩ => exact (Nat.lt_one_iff.mp h1).symm

/-- The call's array. -/
theorem final_eq (hO : Ok m) (hw : ∀ t, 0 ≤ (word m hO t).toInt) (c : Dev nD) :
    (dats m hO 0 c).arrAt 4 (cfg m hO).N = whole (final m c) (V m c main_v0) := by
  refine (dats m hO 0 c).arrAt_eq_of_coversWhere_of_agree 4 (whole (final m c) (V m c main_v0)) (fun β : Fin 2 → ℕ => β 0 < 608) (covers m hO) (fun t hf y => ?_) (fun j hj => ?_)
  · have ha := after4 m hO c t
    have hb := index_rows m hO t
    have hr : (y (0 : Fin 2) : ℕ) < 512 := (y (0 : Fin 2)).isLt
    have hk : (y (1 : Fin 2) : ℕ) < 1024 := (y (1 : Fin 2)).isLt
    have ht := point_lt m hO t
    have hy : (((cfg m hO).win 4).blk t).view.emb y = (ix2 ⟨t.val * 512 + (⟨y (0 : Fin 2), hr⟩ : Fin 512), by omega⟩ ⟨y (1 : Fin 2), hk⟩ : S622592x1024.Idx) := by
      blk_ext [hb]
    rw [hy]
    refine Eq.trans ?_ ((whole_new _ _ ⟨t.val * 512 + (⟨y (0 : Fin 2), hr⟩ : Fin 512), by omega⟩ ⟨y (1 : Fin 2), hk⟩).trans
      (final_at m hO c t (hw t) ⟨y (0 : Fin 2), hr⟩ ⟨y (1 : Fin 2), hk⟩)).symm
    have hx : ((cfg m hO).win 4).xinj ((cfg m hO).grid.coords t) y = (ix2 ⟨y (0 : Fin 2), hr⟩ ⟨y (1 : Fin 2), hk⟩ : S512x1024.Idx) := by
      funext a
      match a with
      | ⟨0, _⟩ => rfl
      | ⟨1, _⟩ => rfl
    refine (cast_eq _ _).trans ?_
    rw [ha, hx]
    exact out_at m hO c t _ _
  · have h0 : 608 ≤ (j (0 : Fin 2) : ℕ) / 512 := Nat.le_of_not_lt hj
    have he : ((cfg m hO).win 4).arr.view.emb j = (j : S622592x1024.Idx) := by
      funext a
      match a with
      | ⟨0, _⟩ => rfl
      | ⟨1, _⟩ => rfl
    rw [he, A_eq]
    exact (whole_old _ _ j (by omega)).symm

/-- The program's result. -/
theorem result_eq (hO : Ok m) (hw : ∀ t, 0 ≤ (word m hO t).toInt) (c : Dev nD) :
    firstRows (F := Ideal) ((dats m hO 0 c).arrAt 4 (cfg m hO).N) = final m c :=
  (congrArg (firstRows (F := Ideal)) (final_eq m hO hw c)).trans
    (whole_slice (final m c) (V m c main_v0))

end Cert.Kernel4Ideal.Experts

end
-- ==== Proof.FirstRounded.lean ====
/- The first half's call in rounded arithmetic is, as a program, the one proved to run for every reading of the numbers. -/
module

public import proofs.«01_k».proof.Proof.FirstExist
public import proofs.«01_k».proof.Proof.Gen.Kernel4
public import proofs.«01_k».proof.Proof.Gen.Kernel4.Launch

@[expose] public section

noncomputable section

namespace Cert.Kernel4.Experts

open Idealize.ShloMosaic Idealize.SL.Sem

variable {F : FTy → Type} [FloatOps F]

/-- The kernel's function is the same one, -/
theorem bodies_eq : Cert.Kernel4.defs₀ (F := F) = Cert.Kernel4Ideal.defs₀ (F := F) := by
  unfold Cert.Kernel4.defs₀ Cert.Kernel4Ideal.defs₀
  refine congrArg Defs.onTc (funext fun (l : Fin 1) => funext fun a => ?_)
  match l with
  | 0 =>
    obtain ⟨t, s⟩ := a
    rfl

/-- and so is the pipeline around it. -/
theorem defs_eq : Cert.Kernel4.defs (F := F) = Cert.Kernel4Ideal.defs (F := F) := congrArg (Pipeline.defs Cert.Kernel4.pcfgs) bodies_eq

/-- What holds after every run of the one holds after every run of the other. -/
theorem runs (m : (ℓ : Loc nD τ sig) → Buf (Elt F) ℓ) (g : Dev nD → PrngReg) (Q)
    (h : θ_run (Cert.Kernel4Ideal.defs (F := F)) (onTc (τ := τ) (main (F := F))) ⟨m, fun _ => 0, g⟩ Q) :
    θ_run (defs (F := F)) (onTc (τ := τ) (main (F := F))) ⟨m, fun _ => 0, g⟩ Q := by
  rw [defs_eq]
  exact h

end Cert.Kernel4.Experts

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.RefRow
public import proofs.«01_k».proof.Proof.KernelFinal
public import proofs.«01_k».proof.Proof.Gen.Kernel2
public import proofs.«01_k».proof.Proof.Gen.Kernel3
public import proofs.«01_k».proof.Proof.Gen.Kernel3Ideal
public import proofs.«01_k».proof.Proof.Gen.Kernel3.Launch
public import proofs.«01_k».proof.Proof.Gen.Kernel3.Skeleton
public import proofs.«01_k».proof.Proof.Gen.Kernel3Ideal.Launch
public import proofs.«01_k».proof.Proof.Gen.Kernel3Ideal.Skeleton
public import proofs.«01_k».proof.Proof.Gen.Reference3Ideal
public import proofs.«01_k».proof.Proof.Gen.Reference3Ideal.Run
public import proofs.«01_k».proof.Proof.Gen.Pre_experts_exist
public import proofs.«01_k».proof.Proof.Gen.Kernel4
public import proofs.«01_k».proof.Proof.Gen.Kernel4.Launch
public import proofs.«01_k».proof.Proof.Gen.Kernel4Ideal
public import proofs.«01_k».proof.Proof.Gen.Kernel4Ideal.Launch
public import proofs.«01_k».proof.Proof.Gen.Kernel4Ideal.Skeleton
public import proofs.«01_k».proof.Proof.Gen.Reference4Ideal
public import proofs.«01_k».proof.Proof.Gen.Reference4Ideal.Run
public import proofs.«01_k».proof.Proof.Gen.Pre_experts_exist4
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.InprojFinal
public import proofs.«01_k».proof.Proof.ExpertsFinal
public import proofs.«01_k».proof.Proof.ExpertsRounded
public import proofs.«01_k».proof.Proof.FirstFinal
public import proofs.«01_k».proof.Proof.FirstRounded
public import Idealize.ShloMosaic.Adequacy
public import Idealize.ShloMosaic.Init

@[expose] public section

noncomputable section

namespace Cert.Proof

open Idealize.ShloMosaic Idealize.SL.Sem

theorem frame_reference (m : (ℓ : Loc ReferenceIdeal.nD ReferenceIdeal.τ ReferenceIdeal.sig) → Buf (Elt Ideal) ℓ) (g : Dev ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2, sem_eq_zero_of_no_sems (by decide) r.2⟩) (Cert.ReferenceIdeal.Value.run m g)

open Cert.ReferenceIdeal.Row in
/-- The reference's array is the kernel's. -/
theorem reference_final (m : (ℓ : Loc KernelIdeal.nD KernelIdeal.τ KernelIdeal.sig) → Buf (Elt Ideal) ℓ)
    (V0 : Valuation ReferenceIdeal.τ ReferenceIdeal.sig (Elt Ideal)) (c : Dev KernelIdeal.nD)
    (h0 : Cert.ReferenceIdeal.Row.argX V0 = Cert.KernelIdeal.Block.argX m c)
    (h1 : Cert.ReferenceIdeal.Row.argC V0 = Cert.KernelIdeal.Block.argC m c)
    (h2 : Cert.ReferenceIdeal.Row.argB V0 = Cert.KernelIdeal.Block.argB m c) :
    Cert.ReferenceIdeal.Row.result V0 = Cert.KernelIdeal.Block.final m c := by
  funext i
  have hi1 : (i 1 : ℕ) < 4096 := (i 1).isLt
  have hi2 : (i 2 : ℕ) < 512 := (i 2).isLt
  have h := Cert.ReferenceIdeal.Row.result_at V0 (i 0) ⟨(i 1 : ℕ) / 64, by omega⟩ ⟨(i 1 : ℕ) % 64, by omega⟩ ⟨(i 2 : ℕ) / 64, by omega⟩ ⟨(i 2 : ℕ) % 64, by omega⟩
  rw [h0, h1, h2] at h
  refine Eq.trans (congrArg (Cert.ReferenceIdeal.Row.result V0) ?_) h
  funext k
  match k with
  | ⟨0, _⟩ => rfl
  | ⟨1, _⟩ => exact Fin.ext (by show (i 1 : ℕ) = (i 1 : ℕ) / 64 * 64 + (i 1 : ℕ) % 64; omega)
  | ⟨2, _⟩ => exact Fin.ext (by show (i 2 : ℕ) = (i 2 : ℕ) / 64 * 64 + (i 2 : ℕ) % 64; omega)

/-! ## The input projection -/

theorem frame_reference2 (m : (ℓ : Loc Reference2Ideal.nD Reference2Ideal.τ Reference2Ideal.sig) → Buf (Elt Ideal) ℓ) (g : Dev Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0) :=
  (θ_run _ _ _).mono (fun r h => ⟨fun c => (h c).2.2.2, sem_eq_zero_of_no_sems (by decide) r.2⟩) (Cert.Reference2Ideal.Value.run m g)

/-- The kernel's three arrays are the reference's. -/
theorem projection [Cert.Kernel2Ideal.Facts] [Cert.Reference2Ideal.Facts] : Cert.algebraic_Kernel2Ideal_Reference2Ideal := by
  intro m g m' g' _ hagree
  refine ⟨fun c => Cert.Kernel2Ideal.Inproj.final5 m c, fun c => Cert.Kernel2Ideal.Inproj.final6 m c, fun c => Cert.Kernel2Ideal.Inproj.final7 m c, ?_, ?_⟩
  · refine (θ_run _ _ _).mono (fun r h c => ?_) (Cert.Kernel2Ideal.Value.run_blocks m g)
    obtain ⟨h5, h6, h7, hr⟩ := h c
    exact ⟨h5.trans (Cert.Kernel2Ideal.Inproj.final5_eq m c), h6.trans (Cert.Kernel2Ideal.Inproj.final6_eq m c),
      h7.trans (Cert.Kernel2Ideal.Inproj.final7_eq m c), hr⟩
  · refine (θ_run _ _ _).mono (fun r h c => ?_) (Cert.Reference2Ideal.Value.run m' g')
    obtain ⟨h5, h6, h7, hr⟩ := h c
    obtain ⟨a0, a1, a2, a3⟩ := hagree c
    rw [a0, a1, a2, a3] at h5 h6 h7
    exact ⟨h5.trans (Cert.Kernel2Ideal.Inproj.first_final m c), h6.trans (Cert.Kernel2Ideal.Inproj.second_final m c),
      h7.trans (Cert.Kernel2Ideal.Inproj.third_final m c), hr⟩

/-- The kernel's attention is the reference's. -/
theorem attention : Cert.algebraic_KernelIdeal_ReferenceIdeal_pre_finite_scores (hPre_finite_scores := Cert.Finite.facts) := by
  intro m g m' g' hpre hagree
  refine ⟨fun c => Cert.KernelIdeal.Block.final m c, ?_, ?_⟩
  · refine (θ_run _ _ _).mono (fun r h c => ?_) (Cert.KernelIdeal.Value.run_blocks m g)
    exact ⟨(h c).1.trans (Cert.KernelIdeal.Block.final_eq m c (hpre c)), (h c).2⟩
  · refine (θ_run _ _ _).mono (fun r h c => ?_) (Cert.ReferenceIdeal.Value.run m' g')
    obtain ⟨a0, a1, a2⟩ := hagree c
    exact ⟨(h c).1.trans (reference_final m (StableHlo.launchContents m' c) c a0 a1 a2), (h c).2⟩

/-! ## The routed experts' second half -/

theorem frame_reference3 (m : (ℓ : Loc Reference3Ideal.nD Reference3Ideal.τ Reference3Ideal.sig) → Buf (Elt Ideal) ℓ) (g : Dev Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0) :=
  (θ_run _ _ _).mono (fun r h => ⟨fun c => (h c).2, sem_eq_zero_of_no_sems (by decide) r.2⟩) (Cert.Reference3Ideal.Value.run m g)

theorem frame_kernel3Ideal : Cert.quiescent_Kernel3Ideal (hPre_experts_exist := Cert.Pre_experts_exist.Gen.facts) := by
  intro m g hpre
  exact Cert.Kernel3Ideal.Experts.frame m g fun j => (Cert.Kernel3Ideal.Experts.exists_of_pre _ _ _ _ _ _ _ (hpre 0) j).2

theorem frame_kernel3 : Cert.quiescent_Kernel3 (hPre_experts_exist := Cert.Pre_experts_exist.Gen.facts) := by
  intro m g hpre
  exact Cert.Kernel3.Experts.runs m g _ <| Cert.Kernel3Ideal.Experts.frame (F := Bits) m g fun j => (Cert.Kernel3Ideal.Experts.exists_of_pre _ _ _ _ _ _ _ (hpre 0) j).2

/-- The kernel's array is the reference's. -/
theorem experts : Cert.algebraic_Kernel3Ideal_Reference3Ideal (hPre_experts_exist := Cert.Pre_experts_exist.Gen.facts) := by
  intro m g m' g' hpre hagree
  have hex := Cert.Kernel3Ideal.Experts.exists_of_pre _ _ _ _ _ _ _ (hpre 0)
  rw [← Cert.Kernel3Ideal.Experts.tables_eq m] at hex
  have hO := Cert.Kernel3Ideal.Experts.ok_of_exist m fun j => (hex j).2
  refine ⟨fun c => Cert.Kernel3Ideal.Experts.final m c, ?_, ?_⟩
  · refine (θ_run _ _ _).mono (fun r h c => ?_) (Cert.Kernel3Ideal.Experts.ends m g hO)
    exact ⟨((h.1 c).2.trans (Cert.Kernel3Ideal.Experts.final_eq m hO (fun t => Cert.Kernel3Ideal.Experts.word_nonneg m hO t fun j => (hex j).1) c)), (h.1 c).1⟩
  · refine (θ_run _ _ _).mono (fun r h c => ?_) (Cert.Reference3Ideal.Value.run m' g')
    obtain ⟨h0, hr⟩ := h c
    obtain ⟨a0, a1, a2, a3, a4, a5, a6⟩ := hagree c
    rw [Cert.Reference3Ideal.Experts.result_eq, a0, a1, a2, a3, a4, a5, a6] at h0
    exact ⟨h0.trans (Cert.Kernel3Ideal.Experts.final_args m c).symm, hr⟩

/-! ## The routed experts' first half -/

theorem frame_reference4 (m : (ℓ : Loc Reference4Ideal.nD Reference4Ideal.τ Reference4Ideal.sig) → Buf (Elt Ideal) ℓ) (g : Dev Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0) :=
  (θ_run _ _ _).mono (fun r h => ⟨fun c => (h c).2, sem_eq_zero_of_no_sems (by decide) r.2⟩) (Cert.Reference4Ideal.Value.run m g)

theorem frame_kernel4Ideal : Cert.quiescent_Kernel4Ideal (hPre_experts_exist4 := Cert.Pre_experts_exist4.Gen.facts) := by
  intro m g hpre
  exact Cert.Kernel4Ideal.Experts.frame m g fun j => (Cert.Kernel4Ideal.Experts.exists_of_pre _ _ _ _ _ _ (hpre 0) j).2

theorem frame_kernel4 : Cert.quiescent_Kernel4 (hPre_experts_exist4 := Cert.Pre_experts_exist4.Gen.facts) := by
  intro m g hpre
  exact Cert.Kernel4.Experts.runs m g _ <| Cert.Kernel4Ideal.Experts.frame (F := Bits) m g fun j => (Cert.Kernel4Ideal.Experts.exists_of_pre _ _ _ _ _ _ (hpre 0) j).2

/-- The rows of the kernel's first half are the reference's. -/
theorem experts4 : Cert.algebraic_Kernel4Ideal_Reference4Ideal (hPre_experts_exist4 := Cert.Pre_experts_exist4.Gen.facts) := by
  intro m g m' g' hpre hagree
  have hex := Cert.Kernel4Ideal.Experts.exists_of_pre _ _ _ _ _ _ (hpre 0)
  rw [← Cert.Kernel4Ideal.Experts.tables_eq m] at hex
  have hO := Cert.Kernel4Ideal.Experts.ok_of_exist m fun j => (hex j).2
  refine ⟨fun c => Cert.Kernel4Ideal.Experts.final m c, ?_, ?_⟩
  · refine (θ_run _ _ _).mono (fun r h c => ?_) (Cert.Kernel4Ideal.Experts.ends m g hO)
    exact ⟨((h.1 c).2.trans (Cert.Kernel4Ideal.Experts.result_eq m hO (fun t => Cert.Kernel4Ideal.Experts.word_nonneg m hO t fun j => (hex j).1) c)), (h.1 c).1⟩
  · refine (θ_run _ _ _).mono (fun r h c => ?_) (Cert.Reference4Ideal.Value.run m' g')
    obtain ⟨h0, hr⟩ := h c
    obtain ⟨a0, a1, a2, a3, a4, a5⟩ := hagree c
    rw [Cert.Reference4Ideal.Experts.result_eq, a0, a1, a2, a3, a4, a5] at h0
    exact ⟨h0, hr⟩

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Finite.facts,
    Cert.Pre_experts_exist.Gen.facts, Cert.Pre_experts_exist4.Gen.facts,
    fun m g _ => Cert.Kernel.Gen.frame m g, fun m g _ => Cert.KernelIdeal.Gen.frame m g, fun m g _ => Cert.KernelIdeal.Gen.frame m g,
    fun m g _ => frame_reference m g, fun m g _ => frame_reference m g,
    fun m g _ => Cert.Kernel2.Gen.frame m g, fun m g _ => Cert.Kernel2Ideal.Gen.frame m g, fun m g _ => frame_reference2 m g,
    frame_kernel3, frame_kernel3Ideal, fun m g _ => frame_reference3 m g, fun m g _ => frame_reference3 m g,
    frame_kernel4, frame_kernel4Ideal, fun m g _ => frame_reference4 m g, fun m g _ => frame_reference4 m g,
    trivial, attention, trivial, projection, trivial, experts, trivial, experts4⟩

end Cert.Proof

end
